-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed_finite [hPre_packed_finite : Cert.Pre_packed_finite.Facts] (m : (ℓ : Loc Cert.KernelIdeal.nD Cert.KernelIdeal.τ Cert.KernelIdeal.sig) → Buf (Elt Ideal) ℓ) : Prop :=
  ∀ c : Dev Cert.KernelIdeal.nD,
    (Cert.Pre_packed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_packed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_packed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed_finite [hPre_packed_finite : Cert.Pre_packed_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_packed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_packed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnAttn (m : (ℓ : Loc Cert.FfnAttn.nD Cert.FfnAttn.τ Cert.FfnAttn.sig) → Buf (Elt Bits) ℓ) : Prop :=
  True

def Pre_FfnAttnIdeal (m : (ℓ : Loc Cert.FfnAttnIdeal.nD Cert.FfnAttnIdeal.τ Cert.FfnAttnIdeal.sig) → Buf (Elt Ideal) ℓ) : Prop :=
  True

def Pre_FfnAttnRefIdeal (m : (ℓ : Loc Cert.FfnAttnRefIdeal.nD Cert.FfnAttnRefIdeal.τ Cert.FfnAttnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_turned_finite [hPre_turned_finite : Cert.Pre_turned_finite.Facts] (m : (ℓ : Loc Cert.ProjIdeal.nD Cert.ProjIdeal.τ Cert.ProjIdeal.sig) → Buf (Elt Ideal) ℓ) : Prop :=
  ∀ c : Dev Cert.ProjIdeal.nD,
    (Cert.Pre_turned_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10))).1 = (fun _ => 1#1)
    ∧ (Cert.Pre_turned_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10))).2.1 = (fun _ => 1#1)
    ∧ (Cert.Pre_turned_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10))).2.2.1 = (fun _ => 1#1)
    ∧ (Cert.Pre_turned_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10))).2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_turned_finite [hPre_turned_finite : Cert.Pre_turned_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_turned_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10))).1 = (fun _ => 1#1)
    ∧ (Cert.Pre_turned_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10))).2.1 = (fun _ => 1#1)
    ∧ (Cert.Pre_turned_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10))).2.2.1 = (fun _ => 1#1)
    ∧ (Cert.Pre_turned_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10))).2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_packed_finite [hKernelIdeal : Cert.KernelIdeal.Facts] [hPre_packed_finite : Cert.Pre_packed_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_packed_finite [hReferenceIdeal : Cert.ReferenceIdeal.Facts] [hPre_packed_finite : Cert.Pre_packed_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnAttn [hFfnAttn : Cert.FfnAttn.Facts] : Prop :=
  ∀ (m : (ℓ : Loc Cert.FfnAttn.nD Cert.FfnAttn.τ Cert.FfnAttn.sig) → Buf (Elt Bits) ℓ) (g : Dev Cert.FfnAttn.nD → PrngReg), Pre_FfnAttn m →
    θ_run (Cert.FfnAttn.defs (F := Bits)) (onTc (τ := Cert.FfnAttn.τ) (Cert.FfnAttn.main (F := Bits))) ⟨m, fun _ => 0, g⟩ (fun r => (∀ c : Dev Cert.FfnAttn.nD,
      r.2.mem ((c.tc : Thread Cert.FfnAttn.nD Cert.FfnAttn.τ).loc Cert.FfnAttn.main_arg0) = m ((c.tc : Thread Cert.FfnAttn.nD Cert.FfnAttn.τ).loc Cert.FfnAttn.main_arg0)
      ∧ r.2.mem ((c.tc : Thread Cert.FfnAttn.nD Cert.FfnAttn.τ).loc Cert.FfnAttn.main_arg1) = m ((c.tc : Thread Cert.FfnAttn.nD Cert.FfnAttn.τ).loc Cert.FfnAttn.main_arg1)
      ∧ r.2.mem ((c.tc : Thread Cert.FfnAttn.nD Cert.FfnAttn.τ).loc Cert.FfnAttn.main_arg2) = m ((c.tc : Thread Cert.FfnAttn.nD Cert.FfnAttn.τ).loc Cert.FfnAttn.main_arg2)
      ∧ r.2.mem ((c.tc : Thread Cert.FfnAttn.nD Cert.FfnAttn.τ).loc Cert.FfnAttn.main_arg3) = m ((c.tc : Thread Cert.FfnAttn.nD Cert.FfnAttn.τ).loc Cert.FfnAttn.main_arg3)
      ∧ r.2.mem ((c.tc : Thread Cert.FfnAttn.nD Cert.FfnAttn.τ).loc Cert.FfnAttn.main_arg4) = m ((c.tc : Thread Cert.FfnAttn.nD Cert.FfnAttn.τ).loc Cert.FfnAttn.main_arg4)
      ∧ r.2.mem ((c.tc : Thread Cert.FfnAttn.nD Cert.FfnAttn.τ).loc Cert.FfnAttn.main_arg5) = m ((c.tc : Thread Cert.FfnAttn.nD Cert.FfnAttn.τ).loc Cert.FfnAttn.main_arg5)
      ∧ r.2.mem ((c.tc : Thread Cert.FfnAttn.nD Cert.FfnAttn.τ).loc Cert.FfnAttn.main_arg6) = m ((c.tc : Thread Cert.FfnAttn.nD Cert.FfnAttn.τ).loc Cert.FfnAttn.main_arg6)
      ∧ r.2.mem ((c.tc : Thread Cert.FfnAttn.nD Cert.FfnAttn.τ).loc Cert.FfnAttn.main_arg7) = m ((c.tc : Thread Cert.FfnAttn.nD Cert.FfnAttn.τ).loc Cert.FfnAttn.main_arg7)
      ∧ r.2.mem ((c.tc : Thread Cert.FfnAttn.nD Cert.FfnAttn.τ).loc Cert.FfnAttn.main_arg8) = m ((c.tc : Thread Cert.FfnAttn.nD Cert.FfnAttn.τ).loc Cert.FfnAttn.main_arg8))
      ∧ r.2.sem = fun _ => 0)

def quiescent_FfnAttnIdeal [hFfnAttnIdeal : Cert.FfnAttnIdeal.Facts] : Prop :=
  ∀ (m : (ℓ : Loc Cert.FfnAttnIdeal.nD Cert.FfnAttnIdeal.τ Cert.FfnAttnIdeal.sig) → Buf (Elt Ideal) ℓ) (g : Dev Cert.FfnAttnIdeal.nD → PrngReg), Pre_FfnAttnIdeal m →
    θ_run (Cert.FfnAttnIdeal.defs (F := Ideal)) (onTc (τ := Cert.FfnAttnIdeal.τ) (Cert.FfnAttnIdeal.main (F := Ideal))) ⟨m, fun _ => 0, g⟩ (fun r => (∀ c : Dev Cert.FfnAttnIdeal.nD,
      r.2.mem ((c.tc : Thread Cert.FfnAttnIdeal.nD Cert.FfnAttnIdeal.τ).loc Cert.FfnAttnIdeal.main_arg0) = m ((c.tc : Thread Cert.FfnAttnIdeal.nD Cert.FfnAttnIdeal.τ).loc Cert.FfnAttnIdeal.main_arg0)
      ∧ r.2.mem ((c.tc : Thread Cert.FfnAttnIdeal.nD Cert.FfnAttnIdeal.τ).loc Cert.FfnAttnIdeal.main_arg1) = m ((c.tc : Thread Cert.FfnAttnIdeal.nD Cert.FfnAttnIdeal.τ).loc Cert.FfnAttnIdeal.main_arg1)
      ∧ r.2.mem ((c.tc : Thread Cert.FfnAttnIdeal.nD Cert.FfnAttnIdeal.τ).loc Cert.FfnAttnIdeal.main_arg2) = m ((c.tc : Thread Cert.FfnAttnIdeal.nD Cert.FfnAttnIdeal.τ).loc Cert.FfnAttnIdeal.main_arg2)
      ∧ r.2.mem ((c.tc : Thread Cert.FfnAttnIdeal.nD Cert.FfnAttnIdeal.τ).loc Cert.FfnAttnIdeal.main_arg3) = m ((c.tc : Thread Cert.FfnAttnIdeal.nD Cert.FfnAttnIdeal.τ).loc Cert.FfnAttnIdeal.main_arg3)
      ∧ r.2.mem ((c.tc : Thread Cert.FfnAttnIdeal.nD Cert.FfnAttnIdeal.τ).loc Cert.FfnAttnIdeal.main_arg4) = m ((c.tc : Thread Cert.FfnAttnIdeal.nD Cert.FfnAttnIdeal.τ).loc Cert.FfnAttnIdeal.main_arg4)
      ∧ r.2.mem ((c.tc : Thread Cert.FfnAttnIdeal.nD Cert.FfnAttnIdeal.τ).loc Cert.FfnAttnIdeal.main_arg5) = m ((c.tc : Thread Cert.FfnAttnIdeal.nD Cert.FfnAttnIdeal.τ).loc Cert.FfnAttnIdeal.main_arg5)
      ∧ r.2.mem ((c.tc : Thread Cert.FfnAttnIdeal.nD Cert.FfnAttnIdeal.τ).loc Cert.FfnAttnIdeal.main_arg6) = m ((c.tc : Thread Cert.FfnAttnIdeal.nD Cert.FfnAttnIdeal.τ).loc Cert.FfnAttnIdeal.main_arg6)
      ∧ r.2.mem ((c.tc : Thread Cert.FfnAttnIdeal.nD Cert.FfnAttnIdeal.τ).loc Cert.FfnAttnIdeal.main_arg7) = m ((c.tc : Thread Cert.FfnAttnIdeal.nD Cert.FfnAttnIdeal.τ).loc Cert.FfnAttnIdeal.main_arg7)
      ∧ r.2.mem ((c.tc : Thread Cert.FfnAttnIdeal.nD Cert.FfnAttnIdeal.τ).loc Cert.FfnAttnIdeal.main_arg8) = m ((c.tc : Thread Cert.FfnAttnIdeal.nD Cert.FfnAttnIdeal.τ).loc Cert.FfnAttnIdeal.main_arg8))
      ∧ r.2.sem = fun _ => 0)

def quiescent_FfnAttnRefIdeal [hFfnAttnRefIdeal : Cert.FfnAttnRefIdeal.Facts] : Prop :=
  ∀ (m : (ℓ : Loc Cert.FfnAttnRefIdeal.nD Cert.FfnAttnRefIdeal.τ Cert.FfnAttnRefIdeal.sig) → Buf (Elt Ideal) ℓ) (g : Dev Cert.FfnAttnRefIdeal.nD → PrngReg), Pre_FfnAttnRefIdeal m →
    θ_run (Cert.FfnAttnRefIdeal.defs (F := Ideal)) (onTc (τ := Cert.FfnAttnRefIdeal.τ) (Cert.FfnAttnRefIdeal.main (F := Ideal))) ⟨m, fun _ => 0, g⟩ (fun r => (∀ c : Dev Cert.FfnAttnRefIdeal.nD,
      r.2.mem ((c.tc : Thread Cert.FfnAttnRefIdeal.nD Cert.FfnAttnRefIdeal.τ).loc Cert.FfnAttnRefIdeal.main_arg0) = m ((c.tc : Thread Cert.FfnAttnRefIdeal.nD Cert.FfnAttnRefIdeal.τ).loc Cert.FfnAttnRefIdeal.main_arg0)
      ∧ r.2.mem ((c.tc : Thread Cert.FfnAttnRefIdeal.nD Cert.FfnAttnRefIdeal.τ).loc Cert.FfnAttnRefIdeal.main_arg1) = m ((c.tc : Thread Cert.FfnAttnRefIdeal.nD Cert.FfnAttnRefIdeal.τ).loc Cert.FfnAttnRefIdeal.main_arg1)
      ∧ r.2.mem ((c.tc : Thread Cert.FfnAttnRefIdeal.nD Cert.FfnAttnRefIdeal.τ).loc Cert.FfnAttnRefIdeal.main_arg2) = m ((c.tc : Thread Cert.FfnAttnRefIdeal.nD Cert.FfnAttnRefIdeal.τ).loc Cert.FfnAttnRefIdeal.main_arg2)
      ∧ r.2.mem ((c.tc : Thread Cert.FfnAttnRefIdeal.nD Cert.FfnAttnRefIdeal.τ).loc Cert.FfnAttnRefIdeal.main_arg3) = m ((c.tc : Thread Cert.FfnAttnRefIdeal.nD Cert.FfnAttnRefIdeal.τ).loc Cert.FfnAttnRefIdeal.main_arg3)
      ∧ r.2.mem ((c.tc : Thread Cert.FfnAttnRefIdeal.nD Cert.FfnAttnRefIdeal.τ).loc Cert.FfnAttnRefIdeal.main_arg4) = m ((c.tc : Thread Cert.FfnAttnRefIdeal.nD Cert.FfnAttnRefIdeal.τ).loc Cert.FfnAttnRefIdeal.main_arg4)
      ∧ r.2.mem ((c.tc : Thread Cert.FfnAttnRefIdeal.nD Cert.FfnAttnRefIdeal.τ).loc Cert.FfnAttnRefIdeal.main_arg5) = m ((c.tc : Thread Cert.FfnAttnRefIdeal.nD Cert.FfnAttnRefIdeal.τ).loc Cert.FfnAttnRefIdeal.main_arg5)
      ∧ r.2.mem ((c.tc : Thread Cert.FfnAttnRefIdeal.nD Cert.FfnAttnRefIdeal.τ).loc Cert.FfnAttnRefIdeal.main_arg6) = m ((c.tc : Thread Cert.FfnAttnRefIdeal.nD Cert.FfnAttnRefIdeal.τ).loc Cert.FfnAttnRefIdeal.main_arg6)
      ∧ r.2.mem ((c.tc : Thread Cert.FfnAttnRefIdeal.nD Cert.FfnAttnRefIdeal.τ).loc Cert.FfnAttnRefIdeal.main_arg7) = m ((c.tc : Thread Cert.FfnAttnRefIdeal.nD Cert.FfnAttnRefIdeal.τ).loc Cert.FfnAttnRefIdeal.main_arg7)
      ∧ r.2.mem ((c.tc : Thread Cert.FfnAttnRefIdeal.nD Cert.FfnAttnRefIdeal.τ).loc Cert.FfnAttnRefIdeal.main_arg8) = m ((c.tc : Thread Cert.FfnAttnRefIdeal.nD Cert.FfnAttnRefIdeal.τ).loc Cert.FfnAttnRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ r.2.sem = fun _ => 0)

def quiescent_ProjIdeal_pre_turned_finite [hProjIdeal : Cert.ProjIdeal.Facts] [hPre_turned_finite : Cert.Pre_turned_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_turned_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10))
      ∧ r.2.sem = fun _ => 0)

def quiescent_ProjRefIdeal_pre_turned_finite [hProjRefIdeal : Cert.ProjRefIdeal.Facts] [hPre_turned_finite : Cert.Pre_turned_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_turned_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9)
      ∧ r.2.mem ((c.tc : Thread Cert.Conv.nD Cert.Conv.τ).loc Cert.Conv.main_arg10) = m ((c.tc : Thread Cert.Conv.nD Cert.Conv.τ).loc Cert.Conv.main_arg10))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9)
      ∧ r.2.mem ((c.tc : Thread Cert.ConvIdeal.nD Cert.ConvIdeal.τ).loc Cert.ConvIdeal.main_arg10) = m ((c.tc : Thread Cert.ConvIdeal.nD Cert.ConvIdeal.τ).loc Cert.ConvIdeal.main_arg10))
      ∧ r.2.sem = fun _ => 0)

def preserves_Kernel_KernelIdeal : Prop :=
  True

def algebraic_KernelIdeal_ReferenceIdeal_pre_packed_finite [hKernelIdeal : Cert.KernelIdeal.Facts] [hReferenceIdeal : Cert.ReferenceIdeal.Facts] [hPre_packed_finite : Cert.Pre_packed_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnAttn_FfnAttnIdeal : Prop :=
  True

def algebraic_FfnAttnIdeal_FfnAttnRefIdeal [hFfnAttnIdeal : Cert.FfnAttnIdeal.Facts] [hFfnAttnRefIdeal : Cert.FfnAttnRefIdeal.Facts] : Prop :=
  ∀ (m : (ℓ : Loc Cert.FfnAttnIdeal.nD Cert.FfnAttnIdeal.τ Cert.FfnAttnIdeal.sig) → Buf (Elt Ideal) ℓ) (g : Dev Cert.FfnAttnIdeal.nD → PrngReg)
    (m' : (ℓ : Loc Cert.FfnAttnRefIdeal.nD Cert.FfnAttnRefIdeal.τ Cert.FfnAttnRefIdeal.sig) → Buf (Elt Ideal) ℓ) (g' : Dev Cert.FfnAttnRefIdeal.nD → PrngReg), Pre_FfnAttnIdeal m →
    (∀ c : Dev Cert.FfnAttnIdeal.nD,
      m' ((c.tc : Thread Cert.FfnAttnRefIdeal.nD Cert.FfnAttnRefIdeal.τ).loc Cert.FfnAttnRefIdeal.main_arg0) = m ((c.tc : Thread Cert.FfnAttnIdeal.nD Cert.FfnAttnIdeal.τ).loc Cert.FfnAttnIdeal.main_arg0)
      ∧ m' ((c.tc : Thread Cert.FfnAttnRefIdeal.nD Cert.FfnAttnRefIdeal.τ).loc Cert.FfnAttnRefIdeal.main_arg1) = m ((c.tc : Thread Cert.FfnAttnIdeal.nD Cert.FfnAttnIdeal.τ).loc Cert.FfnAttnIdeal.main_arg1)
      ∧ m' ((c.tc : Thread Cert.FfnAttnRefIdeal.nD Cert.FfnAttnRefIdeal.τ).loc Cert.FfnAttnRefIdeal.main_arg2) = m ((c.tc : Thread Cert.FfnAttnIdeal.nD Cert.FfnAttnIdeal.τ).loc Cert.FfnAttnIdeal.main_arg2)
      ∧ m' ((c.tc : Thread Cert.FfnAttnRefIdeal.nD Cert.FfnAttnRefIdeal.τ).loc Cert.FfnAttnRefIdeal.main_arg3) = m ((c.tc : Thread Cert.FfnAttnIdeal.nD Cert.FfnAttnIdeal.τ).loc Cert.FfnAttnIdeal.main_arg3)
      ∧ m' ((c.tc : Thread Cert.FfnAttnRefIdeal.nD Cert.FfnAttnRefIdeal.τ).loc Cert.FfnAttnRefIdeal.main_arg4) = m ((c.tc : Thread Cert.FfnAttnIdeal.nD Cert.FfnAttnIdeal.τ).loc Cert.FfnAttnIdeal.main_arg4)
      ∧ m' ((c.tc : Thread Cert.FfnAttnRefIdeal.nD Cert.FfnAttnRefIdeal.τ).loc Cert.FfnAttnRefIdeal.main_arg5) = m ((c.tc : Thread Cert.FfnAttnIdeal.nD Cert.FfnAttnIdeal.τ).loc Cert.FfnAttnIdeal.main_arg5)
      ∧ m' ((c.tc : Thread Cert.FfnAttnRefIdeal.nD Cert.FfnAttnRefIdeal.τ).loc Cert.FfnAttnRefIdeal.main_arg6) = m ((c.tc : Thread Cert.FfnAttnIdeal.nD Cert.FfnAttnIdeal.τ).loc Cert.FfnAttnIdeal.main_arg6)
      ∧ m' ((c.tc : Thread Cert.FfnAttnRefIdeal.nD Cert.FfnAttnRefIdeal.τ).loc Cert.FfnAttnRefIdeal.main_arg7) = m ((c.tc : Thread Cert.FfnAttnIdeal.nD Cert.FfnAttnIdeal.τ).loc Cert.FfnAttnIdeal.main_arg7)
      ∧ m' ((c.tc : Thread Cert.FfnAttnRefIdeal.nD Cert.FfnAttnRefIdeal.τ).loc Cert.FfnAttnRefIdeal.main_arg8) = m ((c.tc : Thread Cert.FfnAttnIdeal.nD Cert.FfnAttnIdeal.τ).loc Cert.FfnAttnIdeal.main_arg8)) →
    ∃ (v0 : (c : Dev Cert.FfnAttnIdeal.nD) → Buf (Elt Ideal) ((c.tc : Thread Cert.FfnAttnIdeal.nD Cert.FfnAttnIdeal.τ).loc Cert.FfnAttnIdeal.main_v6)),
      θ_run (Cert.FfnAttnIdeal.defs (F := Ideal)) (onTc (τ := Cert.FfnAttnIdeal.τ) (Cert.FfnAttnIdeal.main (F := Ideal))) ⟨m, fun _ => 0, g⟩ (fun r => ∀ c : Dev Cert.FfnAttnIdeal.nD,
          r.2.mem ((c.tc : Thread Cert.FfnAttnIdeal.nD Cert.FfnAttnIdeal.τ).loc Cert.FfnAttnIdeal.main_v6) = v0 c
          ∧ r.2.mem ((c.tc : Thread Cert.FfnAttnIdeal.nD Cert.FfnAttnIdeal.τ).loc Cert.FfnAttnIdeal.main_arg0) = m ((c.tc : Thread Cert.FfnAttnIdeal.nD Cert.FfnAttnIdeal.τ).loc Cert.FfnAttnIdeal.main_arg0)
          ∧ r.2.mem ((c.tc : Thread Cert.FfnAttnIdeal.nD Cert.FfnAttnIdeal.τ).loc Cert.FfnAttnIdeal.main_arg1) = m ((c.tc : Thread Cert.FfnAttnIdeal.nD Cert.FfnAttnIdeal.τ).loc Cert.FfnAttnIdeal.main_arg1)
          ∧ r.2.mem ((c.tc : Thread Cert.FfnAttnIdeal.nD Cert.FfnAttnIdeal.τ).loc Cert.FfnAttnIdeal.main_arg2) = m ((c.tc : Thread Cert.FfnAttnIdeal.nD Cert.FfnAttnIdeal.τ).loc Cert.FfnAttnIdeal.main_arg2)
          ∧ r.2.mem ((c.tc : Thread Cert.FfnAttnIdeal.nD Cert.FfnAttnIdeal.τ).loc Cert.FfnAttnIdeal.main_arg3) = m ((c.tc : Thread Cert.FfnAttnIdeal.nD Cert.FfnAttnIdeal.τ).loc Cert.FfnAttnIdeal.main_arg3)
          ∧ r.2.mem ((c.tc : Thread Cert.FfnAttnIdeal.nD Cert.FfnAttnIdeal.τ).loc Cert.FfnAttnIdeal.main_arg4) = m ((c.tc : Thread Cert.FfnAttnIdeal.nD Cert.FfnAttnIdeal.τ).loc Cert.FfnAttnIdeal.main_arg4)
          ∧ r.2.mem ((c.tc : Thread Cert.FfnAttnIdeal.nD Cert.FfnAttnIdeal.τ).loc Cert.FfnAttnIdeal.main_arg5) = m ((c.tc : Thread Cert.FfnAttnIdeal.nD Cert.FfnAttnIdeal.τ).loc Cert.FfnAttnIdeal.main_arg5)
          ∧ r.2.mem ((c.tc : Thread Cert.FfnAttnIdeal.nD Cert.FfnAttnIdeal.τ).loc Cert.FfnAttnIdeal.main_arg6) = m ((c.tc : Thread Cert.FfnAttnIdeal.nD Cert.FfnAttnIdeal.τ).loc Cert.FfnAttnIdeal.main_arg6)
          ∧ r.2.mem ((c.tc : Thread Cert.FfnAttnIdeal.nD Cert.FfnAttnIdeal.τ).loc Cert.FfnAttnIdeal.main_arg7) = m ((c.tc : Thread Cert.FfnAttnIdeal.nD Cert.FfnAttnIdeal.τ).loc Cert.FfnAttnIdeal.main_arg7)
          ∧ r.2.mem ((c.tc : Thread Cert.FfnAttnIdeal.nD Cert.FfnAttnIdeal.τ).loc Cert.FfnAttnIdeal.main_arg8) = m ((c.tc : Thread Cert.FfnAttnIdeal.nD Cert.FfnAttnIdeal.τ).loc Cert.FfnAttnIdeal.main_arg8))
      ∧ θ_run (Cert.FfnAttnRefIdeal.defs (F := Ideal)) (onTc (τ := Cert.FfnAttnRefIdeal.τ) (Cert.FfnAttnRefIdeal.main (F := Ideal))) ⟨m', fun _ => 0, g'⟩ (fun r => ∀ c : Dev Cert.FfnAttnRefIdeal.nD,
          r.2.mem ((c.tc : Thread Cert.FfnAttnRefIdeal.nD Cert.FfnAttnRefIdeal.τ).loc Cert.FfnAttnRefIdeal.main_v49) = v0 c
          ∧ r.2.mem ((c.tc : Thread Cert.FfnAttnRefIdeal.nD Cert.FfnAttnRefIdeal.τ).loc Cert.FfnAttnRefIdeal.main_arg0) = m' ((c.tc : Thread Cert.FfnAttnRefIdeal.nD Cert.FfnAttnRefIdeal.τ).loc Cert.FfnAttnRefIdeal.main_arg0)
          ∧ r.2.mem ((c.tc : Thread Cert.FfnAttnRefIdeal.nD Cert.FfnAttnRefIdeal.τ).loc Cert.FfnAttnRefIdeal.main_arg1) = m' ((c.tc : Thread Cert.FfnAttnRefIdeal.nD Cert.FfnAttnRefIdeal.τ).loc Cert.FfnAttnRefIdeal.main_arg1)
          ∧ r.2.mem ((c.tc : Thread Cert.FfnAttnRefIdeal.nD Cert.FfnAttnRefIdeal.τ).loc Cert.FfnAttnRefIdeal.main_arg2) = m' ((c.tc : Thread Cert.FfnAttnRefIdeal.nD Cert.FfnAttnRefIdeal.τ).loc Cert.FfnAttnRefIdeal.main_arg2)
          ∧ r.2.mem ((c.tc : Thread Cert.FfnAttnRefIdeal.nD Cert.FfnAttnRefIdeal.τ).loc Cert.FfnAttnRefIdeal.main_arg3) = m' ((c.tc : Thread Cert.FfnAttnRefIdeal.nD Cert.FfnAttnRefIdeal.τ).loc Cert.FfnAttnRefIdeal.main_arg3)
          ∧ r.2.mem ((c.tc : Thread Cert.FfnAttnRefIdeal.nD Cert.FfnAttnRefIdeal.τ).loc Cert.FfnAttnRefIdeal.main_arg4) = m' ((c.tc : Thread Cert.FfnAttnRefIdeal.nD Cert.FfnAttnRefIdeal.τ).loc Cert.FfnAttnRefIdeal.main_arg4)
          ∧ r.2.mem ((c.tc : Thread Cert.FfnAttnRefIdeal.nD Cert.FfnAttnRefIdeal.τ).loc Cert.FfnAttnRefIdeal.main_arg5) = m' ((c.tc : Thread Cert.FfnAttnRefIdeal.nD Cert.FfnAttnRefIdeal.τ).loc Cert.FfnAttnRefIdeal.main_arg5)
          ∧ r.2.mem ((c.tc : Thread Cert.FfnAttnRefIdeal.nD Cert.FfnAttnRefIdeal.τ).loc Cert.FfnAttnRefIdeal.main_arg6) = m' ((c.tc : Thread Cert.FfnAttnRefIdeal.nD Cert.FfnAttnRefIdeal.τ).loc Cert.FfnAttnRefIdeal.main_arg6)
          ∧ r.2.mem ((c.tc : Thread Cert.FfnAttnRefIdeal.nD Cert.FfnAttnRefIdeal.τ).loc Cert.FfnAttnRefIdeal.main_arg7) = m' ((c.tc : Thread Cert.FfnAttnRefIdeal.nD Cert.FfnAttnRefIdeal.τ).loc Cert.FfnAttnRefIdeal.main_arg7)
          ∧ r.2.mem ((c.tc : Thread Cert.FfnAttnRefIdeal.nD Cert.FfnAttnRefIdeal.τ).loc Cert.FfnAttnRefIdeal.main_arg8) = m' ((c.tc : Thread Cert.FfnAttnRefIdeal.nD Cert.FfnAttnRefIdeal.τ).loc Cert.FfnAttnRefIdeal.main_arg8))

def preserves_Proj_ProjIdeal : Prop :=
  True

def algebraic_ProjIdeal_ProjRefIdeal_pre_turned_finite [hProjIdeal : Cert.ProjIdeal.Facts] [hProjRefIdeal : Cert.ProjRefIdeal.Facts] [hPre_turned_finite : Cert.Pre_turned_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_turned_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)) →
    ∃ (v0 : (c : Dev Cert.ProjIdeal.nD) → Buf (Elt Ideal) ((c.tc : Thread Cert.ProjIdeal.nD Cert.ProjIdeal.τ).loc Cert.ProjIdeal.main_v37_0)) (v1 : (c : Dev Cert.ProjIdeal.nD) → Buf (Elt Ideal) ((c.tc : Thread Cert.ProjIdeal.nD Cert.ProjIdeal.τ).loc Cert.ProjIdeal.main_v37_1)) (v2 : (c : Dev Cert.ProjIdeal.nD) → Buf (Elt Ideal) ((c.tc : Thread Cert.ProjIdeal.nD Cert.ProjIdeal.τ).loc Cert.ProjIdeal.main_v37_2)) (v3 : (c : Dev Cert.ProjIdeal.nD) → Buf (Elt Ideal) ((c.tc : Thread Cert.ProjIdeal.nD Cert.ProjIdeal.τ).loc Cert.ProjIdeal.main_v37_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v37_0) = v0 c
          ∧ r.2.mem ((c.tc : Thread Cert.ProjIdeal.nD Cert.ProjIdeal.τ).loc Cert.ProjIdeal.main_v37_1) = v1 c
          ∧ r.2.mem ((c.tc : Thread Cert.ProjIdeal.nD Cert.ProjIdeal.τ).loc Cert.ProjIdeal.main_v37_2) = v2 c
          ∧ r.2.mem ((c.tc : Thread Cert.ProjIdeal.nD Cert.ProjIdeal.τ).loc Cert.ProjIdeal.main_v37_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v116) = v0 c
          ∧ r.2.mem ((c.tc : Thread Cert.ProjRefIdeal.nD Cert.ProjRefIdeal.τ).loc Cert.ProjRefIdeal.main_v118) = v1 c
          ∧ r.2.mem ((c.tc : Thread Cert.ProjRefIdeal.nD Cert.ProjRefIdeal.τ).loc Cert.ProjRefIdeal.main_v120) = v2 c
          ∧ r.2.mem ((c.tc : Thread Cert.ProjRefIdeal.nD Cert.ProjRefIdeal.τ).loc Cert.ProjRefIdeal.main_v122) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10))

def preserves_Conv_ConvIdeal : Prop :=
  True

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnAttn : Cert.FfnAttn.Facts) (hFfnAttnIdeal : Cert.FfnAttnIdeal.Facts) (hFfnAttnRefIdeal : Cert.FfnAttnRefIdeal.Facts) (hProj : Cert.Proj.Facts) (hProjIdeal : Cert.ProjIdeal.Facts) (hProjRefIdeal : Cert.ProjRefIdeal.Facts) (hConv : Cert.Conv.Facts) (hConvIdeal : Cert.ConvIdeal.Facts) (hPre_packed_finite : Cert.Pre_packed_finite.Facts) (hPre_turned_finite : Cert.Pre_turned_finite.Facts),
    quiescent_Kernel (hKernel := hKernel)
    ∧ quiescent_KernelIdeal (hKernelIdeal := hKernelIdeal)
    ∧ quiescent_KernelIdeal_pre_packed_finite (hKernelIdeal := hKernelIdeal) (hPre_packed_finite := hPre_packed_finite)
    ∧ quiescent_ReferenceIdeal (hReferenceIdeal := hReferenceIdeal)
    ∧ quiescent_ReferenceIdeal_pre_packed_finite (hReferenceIdeal := hReferenceIdeal) (hPre_packed_finite := hPre_packed_finite)
    ∧ quiescent_Ffn (hFfn := hFfn)
    ∧ quiescent_FfnIdeal (hFfnIdeal := hFfnIdeal)
    ∧ quiescent_FfnRefIdeal (hFfnRefIdeal := hFfnRefIdeal)
    ∧ quiescent_FfnAttn (hFfnAttn := hFfnAttn)
    ∧ quiescent_FfnAttnIdeal (hFfnAttnIdeal := hFfnAttnIdeal)
    ∧ quiescent_FfnAttnRefIdeal (hFfnAttnRefIdeal := hFfnAttnRefIdeal)
    ∧ quiescent_Proj (hProj := hProj)
    ∧ quiescent_ProjIdeal (hProjIdeal := hProjIdeal)
    ∧ quiescent_ProjIdeal_pre_turned_finite (hProjIdeal := hProjIdeal) (hPre_turned_finite := hPre_turned_finite)
    ∧ quiescent_ProjRefIdeal (hProjRefIdeal := hProjRefIdeal)
    ∧ quiescent_ProjRefIdeal_pre_turned_finite (hProjRefIdeal := hProjRefIdeal) (hPre_turned_finite := hPre_turned_finite)
    ∧ quiescent_Conv (hConv := hConv)
    ∧ quiescent_ConvIdeal (hConvIdeal := hConvIdeal)
    ∧ preserves_Kernel_KernelIdeal
    ∧ algebraic_KernelIdeal_ReferenceIdeal_pre_packed_finite (hKernelIdeal := hKernelIdeal) (hReferenceIdeal := hReferenceIdeal) (hPre_packed_finite := hPre_packed_finite)
    ∧ preserves_Ffn_FfnIdeal
    ∧ algebraic_FfnIdeal_FfnRefIdeal (hFfnIdeal := hFfnIdeal) (hFfnRefIdeal := hFfnRefIdeal)
    ∧ preserves_FfnAttn_FfnAttnIdeal
    ∧ algebraic_FfnAttnIdeal_FfnAttnRefIdeal (hFfnAttnIdeal := hFfnAttnIdeal) (hFfnAttnRefIdeal := hFfnAttnRefIdeal)
    ∧ preserves_Proj_ProjIdeal
    ∧ algebraic_ProjIdeal_ProjRefIdeal_pre_turned_finite (hProjIdeal := hProjIdeal) (hProjRefIdeal := hProjRefIdeal) (hPre_turned_finite := hPre_turned_finite)
    ∧ preserves_Conv_ConvIdeal
-- ==== Pre_packed_finite.lean ====
abbrev S4x2048x4096 : Shape := ⟨3, ![4, 2048, 4096]⟩
abbrev S4x4096x2048 : Shape := ⟨3, ![4, 4096, 2048]⟩
abbrev S4x1024x4096 : Shape := ⟨3, ![4, 1024, 4096]⟩
abbrev S4x4x8x128 : Shape := ⟨4, ![4, 4, 8, 128]⟩
abbrev S_ : Shape := ⟨0, ![]⟩

class Facts : Prop where
  bcast_S_S4x4096x2048 : S_.BroadcastsInDim S4x4096x2048 (![] : Fin 0 → Fin S4x4096x2048.rank)
  bitsLt_bf16_f32 : FTy.bits .bf16 < FTy.bits .f32
  bcast_S_S4x2048x4096 : S_.BroadcastsInDim S4x2048x4096 (![] : Fin 0 → Fin S4x2048x4096.rank)
  bcast_S_S4x4x8x128 : S_.BroadcastsInDim S4x4x8x128 (![] : Fin 0 → Fin S4x4x8x128.rank)

variable [Facts]

def fn_part1 {F : FTy → Type} [FloatOps F] (main_arg3 : FVec F S4x4x8x128 .f32) (main_v8 : IVec S4x2048x4096 1) (main_v18 : IVec S4x4096x2048 1) : IVec S4x2048x4096 1 × IVec S4x4096x2048 1 × IVec S4x4x8x128 1 :=
  let main_v19 : FVec F S4x4x8x128 .f32 := Host.absf main_arg3
  let main_cst_3 : FVec F S_ .f32 := constant S_ .f32 0x7F800000#32
  let main_v20 : FVec F S4x4x8x128 .f32 := broadcastInDim S4x4x8x128 ![] bcast_S_S4x4x8x128 main_cst_3
  let main_v21 : IVec S4x4x8x128 1 := cmpf .olt main_v19 main_v20
  (main_v8, main_v18, main_v21)

def fn {F : FTy → Type} [FloatOps F] (main_arg0 : FVec F S4x2048x4096 .bf16) (main_arg1 : FVec F S4x4096x2048 .bf16) (main_arg2 : FVec F S4x1024x4096 .bf16) (main_arg3 : FVec F S4x4x8x128 .f32) : IVec S4x2048x4096 1 × IVec S4x4096x2048 1 × IVec S4x4x8x128 1 :=
  let main_v0 : IVec S4x4096x2048 32 := iotaInDim S4x4096x2048 32 2
  let main_c : IVec S_ 32 := constantI S_ 32 256#32
  let main_v1 : IVec S4x4096x2048 32 := broadcastInDim S4x4096x2048 ![] bcast_S_S4x4096x2048 main_c
  let main_v2 : IVec S4x4096x2048 32 := Host.remsi main_v0 main_v1
  let main_c_0 : IVec S_ 32 := constantI S_ 32 192#32
  let main_v3 : IVec S4x4096x2048 32 := broadcastInDim S4x4096x2048 ![] bcast_S_S4x4096x2048 main_c_0
  let main_v4 : IVec S4x4096x2048 1 := cmpi .sge main_v2 main_v3
  let main_v5 : FVec F S4x2048x4096 .f32 := (extf .f32 · bitsLt_bf16_f32) main_arg0
  let main_v6 : FVec F S4x2048x4096 .f32 := Host.absf main_v5
  let main_cst : FVec F S_ .f32 := constant S_ .f32 0x7F800000#32
  let main_v7 : FVec F S4x2048x4096 .f32 := broadcastInDim S4x2048x4096 ![] bcast_S_S4x2048x4096 main_cst
  let main_v8 : IVec S4x2048x4096 1 := cmpf .olt main_v6 main_v7
  let main_v9 : FVec F S4x4096x2048 .f32 := (extf .f32 · bitsLt_bf16_f32) main_arg1
  let main_v10 : FVec F S4x4096x2048 .f32 := Host.absf main_v9
  let main_cst_1 : FVec F S_ .f32 := constant S_ .f32 0x7F800000#32
  let main_v11 : FVec F S4x4096x2048 .f32 := broadcastInDim S4x4096x2048 ![] bcast_S_S4x4096x2048 main_cst_1
  let main_v12 : IVec S4x4096x2048 1 := cmpf .olt main_v10 main_v11
  let main_v13 : IVec S4x4096x2048 1 := noti main_v4
  let main_v14 : FVec F S4x4096x2048 .f32 := (extf .f32 · bitsLt_bf16_f32) main_arg1
  let main_cst_2 : FVec F S_ .f32 := constant S_ .f32 0x00000000#32
  let main_v15 : FVec F S4x4096x2048 .f32 := broadcastInDim S4x4096x2048 ![] bcast_S_S4x4096x2048 main_cst_2
  let main_v16 : IVec S4x4096x2048 1 := cmpf .oeq main_v14 main_v15
  let main_v17 : IVec S4x4096x2048 1 := ori main_v13 main_v16
  let main_v18 : IVec S4x4096x2048 1 := andi main_v12 main_v17
  fn_part1 (F := F) main_arg3 main_v8 main_v18
-- ==== Pre_turned_finite.lean ====
abbrev S4x4096x1024 : Shape := ⟨3, ![4, 4096, 1024]⟩
abbrev S1024 : Shape := ⟨1, ![1024]⟩
abbrev S1024x384 : Shape := ⟨2, ![1024, 384]⟩
abbrev S384 : Shape := ⟨1, ![384]⟩
abbrev S384x1536 : Shape := ⟨2, ![384, 1536]⟩
abbrev S1024x320 : Shape := ⟨2, ![1024, 320]⟩
abbrev S256 : Shape := ⟨1, ![256]⟩
abbrev S256x1024 : Shape := ⟨2, ![256, 1024]⟩
abbrev S4096x32 : Shape := ⟨2, ![4096, 32]⟩
abbrev S_ : Shape := ⟨0, ![]⟩
abbrev S384x8x192 : Shape := ⟨3, ![384, 8, 192]⟩
abbrev S384x8x32 : Shape := ⟨3, ![384, 8, 32]⟩
abbrev S1024x32 : Shape := ⟨2, ![1024, 32]⟩

class Facts : Prop where
  bcast_S_S1024 : S_.BroadcastsInDim S1024 (![] : Fin 0 → Fin S1024.rank)
  bcast_S_S384 : S_.BroadcastsInDim S384 (![] : Fin 0 → Fin S384.rank)
  shapeCasts_S384x1536_S384x8x192 : S384x1536.ShapeCasts S384x8x192
  slices_S384x8x192_S384x8x32_0_0_160 : S384x8x192.Slices ![0, 0, 160] S384x8x32
  bcast_S_S384x8x32 : S_.BroadcastsInDim S384x8x32 (![] : Fin 0 → Fin S384x8x32.rank)
  slices_S1024x320_S1024x32_0_288 : S1024x320.Slices ![0, 288] S1024x32
  bcast_S_S1024x32 : S_.BroadcastsInDim S1024x32 (![] : Fin 0 → Fin S1024x32.rank)

variable [Facts]

def fn {F : FTy → Type} [FloatOps F] (main_arg0 : FVec F S4x4096x1024 .f32) (main_arg1 : FVec F S1024 .f32) (main_arg2 : FVec F S1024x384 .f32) (main_arg3 : FVec F S384 .f32) (main_arg4 : FVec F S384x1536 .f32) (main_arg5 : FVec F S1024x320 .f32) (main_arg6 : FVec F S256 .f32) (main_arg7 : FVec F S256x1024 .f32) (main_arg8 : FVec F S256x1024 .f32) (main_arg9 : FVec F S4096x32 .f32) (main_arg10 : FVec F S4096x32 .f32) : IVec S1024 1 × IVec S384 1 × IVec S384x8x32 1 × IVec S1024x32 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S384 .f32 := Host.absf main_arg3
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S384x8x192 .f32 := shapeCast S384x8x192 main_arg4 shapeCasts_S384x1536_S384x8x192
  let main_v7 : FVec F S384x8x32 .f32 := (extractStridedSlice S384x8x32 ![0, 0, 160] · slices_S384x8x192_S384x8x32_0_0_160) main_v6
  let main_v8 : FVec F S384x8x32 .f32 := Host.absf main_v7
  let main_cst_1 : FVec F S_ .f32 := constant S_ .f32 0x7F800000#32
  let main_v9 : FVec F S384x8x32 .f32 := broadcastInDim S384x8x32 ![] bcast_S_S384x8x32 main_cst_1
  let main_v10 : IVec S384x8x32 1 := cmpf .olt main_v8 main_v9
  let main_v11 : FVec F S1024x32 .f32 := (extractStridedSlice S1024x32 ![0, 288] · slices_S1024x320_S1024x32_0_288) main_arg5
  let main_v12 : FVec F S1024x32 .f32 := Host.absf main_v11
  let main_cst_2 : FVec F S_ .f32 := constant S_ .f32 0x7F800000#32
  let main_v13 : FVec F S1024x32 .f32 := broadcastInDim S1024x32 ![] bcast_S_S1024x32 main_cst_2
  let main_v14 : IVec S1024x32 1 := cmpf .olt main_v12 main_v13
  (main_v2, main_v5, main_v10, main_v14)
-- ==== Kernel.lean ====
abbrev S4x2048x4096 : Shape := ⟨3, ![4, 2048, 4096]⟩
abbrev S4x4096x2048 : Shape := ⟨3, ![4, 4096, 2048]⟩
abbrev S4x1024x4096 : Shape := ⟨3, ![4, 1024, 4096]⟩
abbrev S4x4x8x128 : Shape := ⟨4, ![4, 4, 8, 128]⟩
abbrev S4x4096x1024 : Shape := ⟨3, ![4, 4096, 1024]⟩
abbrev S1x256x2048 : Shape := ⟨3, ![1, 256, 2048]⟩
abbrev S1x4096x256 : Shape := ⟨3, ![1, 4096, 256]⟩
abbrev S1x128x4096 : Shape := ⟨3, ![1, 128, 4096]⟩
abbrev S1x4x8x128 : Shape := ⟨4, ![1, 4, 8, 128]⟩
abbrev S1x2048x128 : Shape := ⟨3, ![1, 2048, 128]⟩
abbrev S1x1x2048 : Shape := ⟨3, ![1, 1, 2048]⟩
abbrev S1x2048 : Shape := ⟨2, ![1, 2048]⟩
abbrev S1x1x4x8x128 : Shape := ⟨5, ![1, 1, 4, 8, 128]⟩
abbrev S1 : Shape := ⟨1, ![1]⟩
abbrev S1x1x1x1x1 : Shape := ⟨5, ![1, 1, 1, 1, 1]⟩
abbrev S1x1x1 : Shape := ⟨3, ![1, 1, 1]⟩
abbrev S1x2048x256 : Shape := ⟨3, ![1, 2048, 256]⟩
abbrev S2048x256 : Shape := ⟨2, ![2048, 256]⟩
abbrev S1x256x512 : Shape := ⟨3, ![1, 256, 512]⟩
abbrev S256x512 : Shape := ⟨2, ![256, 512]⟩
abbrev S2048x512 : Shape := ⟨2, ![2048, 512]⟩
abbrev S1x128x2048 : Shape := ⟨3, ![1, 128, 2048]⟩
abbrev S128x2048 : Shape := ⟨2, ![128, 2048]⟩
abbrev S1x512 : Shape := ⟨2, ![1, 512]⟩
abbrev S512 : Shape := ⟨1, ![512]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x4096, .bf16⟩
  | .hbm, ⟨1, _⟩ => ⟨S4x4096x2048, .bf16⟩
  | .hbm, ⟨2, _⟩ => ⟨S4x1024x4096, .bf16⟩
  | .hbm, ⟨3, _⟩ => ⟨S4x4x8x128, .f32⟩
  | .hbm, ⟨4, _⟩ => ⟨S4x4096x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x4x8x128, .f32⟩
  | .local _ .vmem, ⟨7, _⟩ => ⟨S1x4x8x128, .f32⟩
  | .local _ .vmem, ⟨8, _⟩ => ⟨S1x2048x128, .bf16⟩
  | .local _ .vmem, ⟨9, _⟩ => ⟨S1x2048x128, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x2048x4096 : Shape := ⟨3, ![4, 2048, 4096]⟩
abbrev S4x4096x2048 : Shape := ⟨3, ![4, 4096, 2048]⟩
abbrev S4x1024x4096 : Shape := ⟨3, ![4, 1024, 4096]⟩
abbrev S4x4x8x128 : Shape := ⟨4, ![4, 4, 8, 128]⟩
abbrev S4x8x256x4096 : Shape := ⟨4, ![4, 8, 256, 4096]⟩
abbrev S4x4096x8x256 : Shape := ⟨4, ![4, 4096, 8, 256]⟩
abbrev S4x8x128x4096 : Shape := ⟨4, ![4, 8, 128, 4096]⟩
abbrev S4x4096x8x128 : Shape := ⟨4, ![4, 4096, 8, 128]⟩
abbrev S4x8x4096x4096 : Shape := ⟨4, ![4, 8, 4096, 4096]⟩
abbrev S4x8x64x4096 : Shape := ⟨4, ![4, 8, 64, 4096]⟩
abbrev S4x4096x8x64 : Shape := ⟨4, ![4, 4096, 8, 64]⟩
abbrev S_ : Shape := ⟨0, ![]⟩
abbrev S4x8x4096 : Shape := ⟨3, ![4, 8, 4096]⟩
abbrev S4x8x4096x1 : Shape := ⟨4, ![4, 8, 4096, 1]⟩
abbrev S4x4096x1024 : Shape := ⟨3, ![4, 4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S4x4096x2048, .bf16⟩
  | .hbm, ⟨2, _⟩ => ⟨S4x1024x4096, .bf16⟩
  | .hbm, ⟨3, _⟩ => ⟨S4x4x8x128, .f32⟩
  | .hbm, ⟨4, _⟩ => ⟨S4x2048x4096, .f32⟩
  | .hbm, ⟨5, _⟩ => ⟨S4x8x256x4096, .f32⟩
  | .hbm, ⟨6, _⟩ => ⟨S4x4096x2048, .f32⟩
  | .hbm, ⟨7, _⟩ => ⟨S4x4096x8x256, .f32⟩
  | .hbm, ⟨8, _⟩ => ⟨S4x1024x4096, .f32⟩
  | .hbm, ⟨9, _⟩ => ⟨S4x8x128x4096, .f32⟩
  | .hbm, ⟨10, _⟩ => ⟨S4x8x128x4096, .f32⟩
  | .hbm, ⟨11, _⟩ => ⟨S4x4096x8x128, .f32⟩
  | .hbm, ⟨12, _⟩ => ⟨S4x8x4096x4096, .f32⟩
  | .hbm, ⟨13, _⟩ => ⟨S4x8x64x4096, .f32⟩
  | .hbm, ⟨14, _⟩ => ⟨S4x4096x8x64, .f32⟩
  | .hbm, ⟨15, _⟩ => ⟨S4x8x4096x4096, .f32⟩
  | .hbm, ⟨16, _⟩ => ⟨S4x8x4096x4096, .f32⟩
  | .hbm, ⟨17, _⟩ => ⟨S_, .f32⟩
  | .hbm, ⟨18, _⟩ => ⟨S_, .f32⟩
  | .hbm, ⟨19, _⟩ => ⟨S4x8x4096x4096, .f32⟩
  | .hbm, ⟨20, _⟩ => ⟨S4x8x4096x4096, .f32⟩
  | .hbm, ⟨21, _⟩ => ⟨S_, .f32⟩
  | .hbm, ⟨22, _⟩ => ⟨S4x8x4096, .f32⟩
  | .hbm, ⟨23, _⟩ => ⟨S_, .f32⟩
  | .hbm, ⟨24, _⟩ => ⟨S4x8x4096, .f32⟩
  | .hbm, ⟨25, _⟩ => ⟨S4x8x4096, .f32⟩
  | .hbm, ⟨26, _⟩ => ⟨S4x8x4096x1, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S_, .f32⟩
  | .hbm, ⟨31, _⟩ => ⟨S4x8x4096, .f32⟩
  | .hbm, ⟨32, _⟩ => ⟨S4x8x4096x1, .f32⟩
  | .hbm, ⟨33, _⟩ => ⟨S4x8x4096x4096, .f32⟩
  | .hbm, ⟨34, _⟩ => ⟨S4x8x4096x4096, .f32⟩
  | .hbm, ⟨35, _⟩ => ⟨S4x8x128x4096, .f32⟩
  | .hbm, ⟨36, _⟩ => ⟨S4x4096x8x128, .f32⟩
  | .hbm, ⟨37, _⟩ => ⟨S4x4096x1024, .f32⟩
  | .hbm, ⟨38, _⟩ => ⟨S4x4096x1024, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .f32⟩
  | .local _ .vmem, ⟨4, _⟩ => ⟨S1024x2816, .f32⟩
  | .local _ .vmem, ⟨5, _⟩ => ⟨S2816x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== FfnAttn.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x2816, .f32⟩
  | .local _ .vmem, ⟨8, _⟩ => ⟨S1024x2816, .f32⟩
  | .local _ .vmem, ⟨9, _⟩ => ⟨S2816x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnAttnRefIdeal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S_, .f32⟩
  | .hbm, ⟨48, _⟩ => ⟨S16384x2816, .f32⟩
  | .hbm, ⟨49, _⟩ => ⟨S16384x2816, .f32⟩
  | .hbm, ⟨50, _⟩ => ⟨S_, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S1024x384 : Shape := ⟨2, ![1024, 384]⟩
abbrev S384 : Shape := ⟨1, ![384]⟩
abbrev S384x1536 : Shape := ⟨2, ![384, 1536]⟩
abbrev S1024x320 : Shape := ⟨2, ![1024, 320]⟩
abbrev S256 : Shape := ⟨1, ![256]⟩
abbrev S256x1024 : Shape := ⟨2, ![256, 1024]⟩
abbrev S4096x32 : Shape := ⟨2, ![4096, 32]⟩
abbrev S384x8x192 : Shape := ⟨3, ![384, 8, 192]⟩
abbrev S384x8x32 : Shape := ⟨3, ![384, 8, 32]⟩
abbrev S384x8x128 : Shape := ⟨3, ![384, 8, 128]⟩
abbrev S384x8x64 : Shape := ⟨3, ![384, 8, 64]⟩
abbrev S1024x32 : Shape := ⟨2, ![1024, 32]⟩
abbrev S_ : Shape := ⟨0, ![]⟩
abbrev S1024x64 : Shape := ⟨2, ![1024, 64]⟩
abbrev S1024x256 : Shape := ⟨2, ![1024, 256]⟩
abbrev S1024x512 : Shape := ⟨2, ![1024, 512]⟩
abbrev S1x1024 : Shape := ⟨2, ![1, 1024]⟩
abbrev S1x384 : Shape := ⟨2, ![1, 384]⟩
abbrev S384x1024 : Shape := ⟨2, ![384, 1024]⟩
abbrev S384x512 : Shape := ⟨2, ![384, 512]⟩
abbrev S512x384 : Shape := ⟨2, ![512, 384]⟩
abbrev S1x256 : Shape := ⟨2, ![1, 256]⟩
abbrev S4096x64 : Shape := ⟨2, ![4096, 64]⟩
abbrev S4096x128 : Shape := ⟨2, ![4096, 128]⟩
abbrev S64x4096 : Shape := ⟨2, ![64, 4096]⟩
abbrev S4x2048x4096 : Shape := ⟨3, ![4, 2048, 4096]⟩
abbrev S4x4096x2048 : Shape := ⟨3, ![4, 4096, 2048]⟩
abbrev S4x1024x4096 : Shape := ⟨3, ![4, 1024, 4096]⟩
abbrev S4x4x8x128 : Shape := ⟨4, ![4, 4, 8, 128]⟩
abbrev S1x1024x1024 : Shape := ⟨3, ![1, 1024, 1024]⟩
abbrev S1024x128 : Shape := ⟨2, ![1024, 128]⟩
abbrev S64x1024 : Shape := ⟨2, ![64, 1024]⟩
abbrev S1x2048x1024 : Shape := ⟨3, ![1, 2048, 1024]⟩
abbrev S1x1024x2048 : Shape := ⟨3, ![1, 1024, 2048]⟩
abbrev S1x1x8x128 : Shape := ⟨4, ![1, 1, 8, 128]⟩
abbrev S1024x1024 : Shape := ⟨2, ![1024, 1024]⟩
abbrev S1024x1 : Shape := ⟨2, ![1024, 1]⟩
abbrev S1x1024x128 : Shape := ⟨3, ![1, 1024, 128]⟩
abbrev S1 : Shape := ⟨1, ![1]⟩
abbrev S1x1 : Shape := ⟨2, ![1, 1]⟩
abbrev S1x1x1x1 : Shape := ⟨4, ![1, 1, 1, 1]⟩
abbrev S512x1024 : Shape := ⟨2, ![512, 1024]⟩
abbrev S128x1024 : Shape := ⟨2, ![128, 1024]⟩
abbrev S1x128x1024 : Shape := ⟨3, ![1, 128, 1024]⟩
abbrev S1x64x1024 : Shape := ⟨3, ![1, 64, 1024]⟩

abbrev nBuf : Space → Nat
  | .hbm => 54
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x384, .f32⟩
  | .hbm, ⟨3, _⟩ => ⟨S384, .f32⟩
  | .hbm, ⟨4, _⟩ => ⟨S384x1536, .f32⟩
  | .hbm, ⟨5, _⟩ => ⟨S1024x320, .f32⟩
  | .hbm, ⟨6, _⟩ => ⟨S256, .f32⟩
  | .hbm, ⟨7, _⟩ => ⟨S256x1024, .f32⟩
  | .hbm, ⟨8, _⟩ => ⟨S256x1024, .f32⟩
  | .hbm, ⟨9, _⟩ => ⟨S4096x32, .f32⟩
  | .hbm, ⟨10, _⟩ => ⟨S4096x32, .f32⟩
  | .hbm, ⟨11, _⟩ => ⟨S384x8x192, .f32⟩
  | .hbm, ⟨12, _⟩ => ⟨S384x8x32, .f32⟩
  | .hbm, ⟨13, _⟩ => ⟨S384x8x32, .f32⟩
  | .hbm, ⟨14, _⟩ => ⟨S384x8x128, .f32⟩
  | .hbm, ⟨15, _⟩ => ⟨S384x8x64, .f32⟩
  | .hbm, ⟨16, _⟩ => ⟨S384x8x32, .f32⟩
  | .hbm, ⟨17, _⟩ => ⟨S384x8x64, .f32⟩
  | .hbm, ⟨18, _⟩ => ⟨S1024x32, .f32⟩
  | .hbm, ⟨19, _⟩ => ⟨S1024x32, .f32⟩
  | .hbm, ⟨20, _⟩ => ⟨S_, .f32⟩
  | .hbm, ⟨21, _⟩ => ⟨S1024x64, .f32⟩
  | .hbm, ⟨22, _⟩ => ⟨S1024x256, .f32⟩
  | .hbm, ⟨23, _⟩ => ⟨S1024x32, .f32⟩
  | .hbm, ⟨24, _⟩ => ⟨S1024x512, .f32⟩
  | .hbm, ⟨25, _⟩ => ⟨S1x1024, .f32⟩
  | .hbm, ⟨26, _⟩ => ⟨S1024x384, .bf16⟩
  | .hbm, ⟨27, _⟩ => ⟨S1x384, .f32⟩
  | .hbm, ⟨28, _⟩ => ⟨S384x1024, .f32⟩
  | .hbm, ⟨29, _⟩ => ⟨S1024x384, .f32⟩
  | .hbm, ⟨30, _⟩ => ⟨S1024x384, .bf16⟩
  | .hbm, ⟨31, _⟩ => ⟨S384x512, .f32⟩
  | .hbm, ⟨32, _⟩ => ⟨S512x384, .f32⟩
  | .hbm, ⟨33, _⟩ => ⟨S512x384, .bf16⟩
  | .hbm, ⟨34, _⟩ => ⟨S384x512, .f32⟩
  | .hbm, ⟨35, _⟩ => ⟨S512x384, .f32⟩
  | .hbm, ⟨36, _⟩ => ⟨S512x384, .bf16⟩
  | .hbm, ⟨37, _⟩ => ⟨S1024x512, .bf16⟩
  | .hbm, ⟨38, _⟩ => ⟨S1x256, .f32⟩
  | .hbm, ⟨39, _⟩ => ⟨S256x1024, .bf16⟩
  | .hbm, ⟨40, _⟩ => ⟨S1024x256, .f32⟩
  | .hbm, ⟨41, _⟩ => ⟨S1024x256, .bf16⟩
  | .hbm, ⟨42, _⟩ => ⟨S_, .f32⟩
  | .hbm, ⟨43, _⟩ => ⟨S4096x64, .f32⟩
  | .hbm, ⟨44, _⟩ => ⟨S4096x128, .f32⟩
  | .hbm, ⟨45, _⟩ => ⟨S4096x128, .f32⟩
  | .hbm, ⟨46, _⟩ => ⟨S4096x64, .f32⟩
  | .hbm, ⟨47, _⟩ => ⟨S64x4096, .f32⟩
  | .hbm, ⟨48, _⟩ => ⟨S4096x64, .f32⟩
  | .hbm, ⟨49, _⟩ => ⟨S64x4096, .f32⟩
  | .hbm, ⟨50, _⟩ => ⟨S4x2048x4096, .bf16⟩
  | .hbm, ⟨51, _⟩ => ⟨S4x4096x2048, .bf16⟩
  | .hbm, ⟨52, _⟩ => ⟨S4x1024x4096, .bf16⟩
  | .hbm, ⟨53, _⟩ => ⟨S4x4x8x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x384, .bf16⟩
  | .local _ .vmem, ⟨4, _⟩ => ⟨S1x384, .f32⟩
  | .local _ .vmem, ⟨5, _⟩ => ⟨S1024x384, .bf16⟩
  | .local _ .vmem, ⟨6, _⟩ => ⟨S512x384, .bf16⟩
  | .local _ .vmem, ⟨7, _⟩ => ⟨S512x384, .bf16⟩
  | .local _ .vmem, ⟨8, _⟩ => ⟨S1024x512, .bf16⟩
  | .local _ .vmem, ⟨9, _⟩ => ⟨S1x256, .f32⟩
  | .local _ .vmem, ⟨10, _⟩ => ⟨S256x1024, .bf16⟩
  | .local _ .vmem, ⟨11, _⟩ => ⟨S1024x256, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S1x2048x1024, .bf16⟩
  | .local _ .vmem, ⟨21, _⟩ => ⟨S1x2048x1024, .bf16⟩
  | .local _ .vmem, ⟨22, _⟩ => ⟨S1x1024x2048, .bf16⟩
  | .local _ .vmem, ⟨23, _⟩ => ⟨S1x1024x2048, .bf16⟩
  | .local _ .vmem, ⟨24, _⟩ => ⟨S1x1024x1024, .bf16⟩
  | .local _ .vmem, ⟨25, _⟩ => ⟨S1x1024x1024, .bf16⟩
  | .local _ .vmem, ⟨26, _⟩ => ⟨S1x1x8x128, .f32⟩
  | .local _ .vmem, ⟨27, _⟩ => ⟨S1x1x8x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x2048x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjRefIdeal.lean ====
abbrev S4x4096x1024 : Shape := ⟨3, ![4, 4096, 1024]⟩
abbrev S1024 : Shape := ⟨1, ![1024]⟩
abbrev S1024x384 : Shape := ⟨2, ![1024, 384]⟩
abbrev S384 : Shape := ⟨1, ![384]⟩
abbrev S384x1536 : Shape := ⟨2, ![384, 1536]⟩
abbrev S1024x320 : Shape := ⟨2, ![1024, 320]⟩
abbrev S256 : Shape := ⟨1, ![256]⟩
abbrev S256x1024 : Shape := ⟨2, ![256, 1024]⟩
abbrev S4096x32 : Shape := ⟨2, ![4096, 32]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x384 : Shape := ⟨3, ![4, 4096, 384]⟩
abbrev S1x1x384 : Shape := ⟨3, ![1, 1, 384]⟩
abbrev S4x4096x1536 : Shape := ⟨3, ![4, 4096, 1536]⟩
abbrev S4x4096x8x192 : Shape := ⟨4, ![4, 4096, 8, 192]⟩
abbrev S4x4096x8x64 : Shape := ⟨4, ![4, 4096, 8, 64]⟩
abbrev S4096x1x32 : Shape := ⟨3, ![4096, 1, 32]⟩
abbrev S4x4096x8x32 : Shape := ⟨4, ![4, 4096, 8, 32]⟩
abbrev S1x4096x1x32 : Shape := ⟨4, ![1, 4096, 1, 32]⟩
abbrev S4x4096x320 : Shape := ⟨3, ![4, 4096, 320]⟩
abbrev S4x4096x256 : Shape := ⟨3, ![4, 4096, 256]⟩
abbrev S1x1x256 : Shape := ⟨3, ![1, 1, 256]⟩
abbrev S4x4096x64 : Shape := ⟨3, ![4, 4096, 64]⟩
abbrev S4x4096x32 : Shape := ⟨3, ![4, 4096, 32]⟩
abbrev S1x4096x32 : Shape := ⟨3, ![1, 4096, 32]⟩
abbrev S4x4096x8x128 : Shape := ⟨4, ![4, 4096, 8, 128]⟩
abbrev S4x4096x8 : Shape := ⟨3, ![4, 4096, 8]⟩
abbrev S4x4096x8x63 : Shape := ⟨4, ![4, 4096, 8, 63]⟩
abbrev S4x4096x8x1 : Shape := ⟨4, ![4, 4096, 8, 1]⟩
abbrev S4x4096x8x256 : Shape := ⟨4, ![4, 4096, 8, 256]⟩
abbrev S4x4096x1x64 : Shape := ⟨4, ![4, 4096, 1, 64]⟩
abbrev S4x4x1024 : Shape := ⟨3, ![4, 4, 1024]⟩
abbrev S4x4 : Shape := ⟨2, ![4, 4]⟩
abbrev S4x4096x2048 : Shape := ⟨3, ![4, 4096, 2048]⟩
abbrev S4x2048x4096 : Shape := ⟨3, ![4, 2048, 4096]⟩
abbrev S4x1024x4096 : Shape := ⟨3, ![4, 1024, 4096]⟩
abbrev S4x4x1x1 : Shape := ⟨4, ![4, 4, 1, 1]⟩
abbrev S4x4x8x128 : Shape := ⟨4, ![4, 4, 8, 128]⟩

abbrev nBuf : Space → Nat
  | .hbm => 153
  | .vmem => 0
  | .smem => 0
  | _ => 0

abbrev hbmTy0_0 (i : Nat) : BufTy := match i % 128 with
  | 0 => ⟨S4x4096x1024, .f32⟩
  | 1 => ⟨S1024, .f32⟩
  | 2 => ⟨S1024x384, .f32⟩
  | 3 => ⟨S384, .f32⟩
  | 4 => ⟨S384x1536, .f32⟩
  | 5 => ⟨S1024x320, .f32⟩
  | 6 => ⟨S256, .f32⟩
  | 7 => ⟨S256x1024, .f32⟩
  | 8 => ⟨S256x1024, .f32⟩
  | 9 => ⟨S4096x32, .f32⟩
  | 10 => ⟨S4096x32, .f32⟩
  | 11 => ⟨S4x4096x1024, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S_, .f32⟩
  | 19 => ⟨S4x4096x1, .f32⟩
  | 20 => ⟨S4x4096x1, .f32⟩
  | 21 => ⟨S4x4096x1, .f32⟩
  | 22 => ⟨S4x4096x1024, .f32⟩
  | 23 => ⟨S4x4096x1024, .f32⟩
  | 24 => ⟨S1x1x1024, .f32⟩
  | 25 => ⟨S4x4096x1024, .f32⟩
  | 26 => ⟨S4x4096x1024, .f32⟩
  | 27 => ⟨S4x4096x384, .f32⟩
  | 28 => ⟨S4x4096x384, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x384, .f32⟩
  | 40 => ⟨S4x4096x384, .f32⟩
  | 41 => ⟨S1x1x384, .f32⟩
  | 42 => ⟨S4x4096x384, .f32⟩
  | 43 => ⟨S4x4096x384, .f32⟩
  | 44 => ⟨S4x4096x1536, .f32⟩
  | 45 => ⟨S4x4096x8x192, .f32⟩
  | 46 => ⟨S4x4096x8x64, .f32⟩
  | 47 => ⟨S4096x1x32, .f32⟩
  | 48 => ⟨S4096x1x32, .f32⟩
  | 49 => ⟨S4x4096x8x32, .f32⟩
  | 50 => ⟨S4x4096x8x32, .f32⟩
  | 51 => ⟨S1x4096x1x32, .f32⟩
  | 52 => ⟨S4x4096x8x32, .f32⟩
  | 53 => ⟨S4x4096x8x32, .f32⟩
  | 54 => ⟨S1x4096x1x32, .f32⟩
  | 55 => ⟨S4x4096x8x32, .f32⟩
  | 56 => ⟨S4x4096x8x32, .f32⟩
  | 57 => ⟨S4x4096x8x32, .f32⟩
  | 58 => ⟨S1x4096x1x32, .f32⟩
  | 59 => ⟨S4x4096x8x32, .f32⟩
  | 60 => ⟨S4x4096x8x32, .f32⟩
  | 61 => ⟨S1x4096x1x32, .f32⟩
  | 62 => ⟨S4x4096x8x32, .f32⟩
  | 63 => ⟨S4x4096x8x32, .f32⟩
  | 64 => ⟨S4x4096x8x32, .f32⟩
  | 65 => ⟨S4x4096x8x64, .f32⟩
  | 66 => ⟨S4x4096x320, .f32⟩
  | 67 => ⟨S4x4096x256, .f32⟩
  | 68 => ⟨S4x4096x256, .f32⟩
  | 69 => ⟨S_, .f32⟩
  | 70 => ⟨S4x4096, .f32⟩
  | 71 => ⟨S4x4096x1, .f32⟩
  | 72 => ⟨S_, .f32⟩
  | 73 => ⟨S4x4096x1, .f32⟩
  | 74 => ⟨S4x4096x1, .f32⟩
  | 75 => ⟨S_, .f32⟩
  | 76 => ⟨S4x4096x1, .f32⟩
  | 77 => ⟨S4x4096x1, .f32⟩
  | 78 => ⟨S4x4096x1, .f32⟩
  | 79 => ⟨S4x4096x256, .f32⟩
  | 80 => ⟨S4x4096x256, .f32⟩
  | 81 => ⟨S1x1x256, .f32⟩
  | 82 => ⟨S4x4096x256, .f32⟩
  | 83 => ⟨S4x4096x256, .f32⟩
  | 84 => ⟨S4x4096x64, .f32⟩
  | 85 => ⟨S4x4096x32, .f32⟩
  | 86 => ⟨S4x4096x32, .f32⟩
  | 87 => ⟨S1x4096x32, .f32⟩
  | 88 => ⟨S4x4096x32, .f32⟩
  | 89 => ⟨S4x4096x32, .f32⟩
  | 90 => ⟨S1x4096x32, .f32⟩
  | 91 => ⟨S4x4096x32, .f32⟩
  | 92 => ⟨S4x4096x32, .f32⟩
  | 93 => ⟨S4x4096x32, .f32⟩
  | 94 => ⟨S1x4096x32, .f32⟩
  | 95 => ⟨S4x4096x32, .f32⟩
  | 96 => ⟨S4x4096x32, .f32⟩
  | 97 => ⟨S1x4096x32, .f32⟩
  | 98 => ⟨S4x4096x32, .f32⟩
  | 99 => ⟨S4x4096x32, .f32⟩
  | 100 => ⟨S4x4096x32, .f32⟩
  | 101 => ⟨S4x4096x64, .f32⟩
  | 102 => ⟨S4x4096x1024, .f32⟩
  | 103 => ⟨S4x4096x8x128, .f32⟩
  | 104 => ⟨S4x4096x1024, .f32⟩
  | 105 => ⟨S4x4096x8x128, .f32⟩
  | 106 => ⟨S_, .f32⟩
  | 107 => ⟨S4x4096x8x128, .f32⟩
  | 108 => ⟨S4x4096x8x128, .f32⟩
  | 109 => ⟨S_, .f32⟩
  | 110 => ⟨S4x4096x8x64, .f32⟩
  | 111 => ⟨S4x4096x8x64, .f32⟩
  | 112 => ⟨S4x4096x8x128, .f32⟩
  | 113 => ⟨S_, .f32⟩
  | 114 => ⟨S4x4096x8, .f32⟩
  | 115 => ⟨S4x4096x8x64, .f32⟩
  | 116 => ⟨S_, .f32⟩
  | 117 => ⟨S4x4096x8, .f32⟩
  | 118 => ⟨S4x4096x8, .f32⟩
  | 119 => ⟨S4x4096x8, .f32⟩
  | 120 => ⟨S_, .f32⟩
  | 121 => ⟨S4x4096x8x63, .f32⟩
  | 122 => ⟨S4x4096x8x1, .f32⟩
  | 123 => ⟨S4x4096x8x256, .f32⟩
  | 124 => ⟨S4x4096x1x64, .f32⟩
  | 125 => ⟨S4x4096x8x64, .f32⟩
  | 126 => ⟨S_, .f32⟩
  | 127 => ⟨S4x4096x8x64, .f32⟩
  | _ => ⟨S4x4096x1024, .f32⟩

abbrev hbmTy0_1 (i : Nat) : BufTy := match i % 128 with
  | 0 => ⟨S4x4096x8x256, .f32⟩
  | 1 => ⟨S4x4096x8x128, .f32⟩
  | 2 => ⟨S_, .f32⟩
  | 3 => ⟨S4x4096x8, .f32⟩
  | 4 => ⟨S4x4096x64, .f32⟩
  | 5 => ⟨S_, .f32⟩
  | 6 => ⟨S4x4096, .f32⟩
  | 7 => ⟨S4x4096x1, .f32⟩
  | 8 => ⟨S4x4096x8, .f32⟩
  | 9 => ⟨S4x4096x8, .f32⟩
  | 10 => ⟨S_, .f32⟩
  | 11 => ⟨S4x4096, .f32⟩
  | 12 => ⟨S4x4x1024, .f32⟩
  | 13 => ⟨S_, .f32⟩
  | 14 => ⟨S4x4, .f32⟩
  | 15 => ⟨S4x4, .f32⟩
  | 16 => ⟨S4x4096x2048, .f32⟩
  | 17 => ⟨S4x2048x4096, .f32⟩
  | 18 => ⟨S4x2048x4096, .bf16⟩
  | 19 => ⟨S4x4096x2048, .f32⟩
  | 20 => ⟨S4x4096x2048, .bf16⟩
  | 21 => ⟨S4x1024x4096, .f32⟩
  | 22 => ⟨S4x1024x4096, .bf16⟩
  | 23 => ⟨S4x4x1x1, .f32⟩
  | 24 => ⟨S4x4x8x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_8 : Ref sig .tc := ⟨.hbm, 106, rfl⟩
abbrev main_v86 : Ref sig .tc := ⟨.hbm, 107, rfl⟩
abbrev main_v87 : Ref sig .tc := ⟨.hbm, 108, rfl⟩
abbrev main_cst_9 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_10 : Ref sig .tc := ⟨.hbm, 113, rfl⟩
abbrev main_v91 : Ref sig .tc := ⟨.hbm, 114, rfl⟩
abbrev main_v92 : Ref sig .tc := ⟨.hbm, 115, rfl⟩
abbrev main_cst_11 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_13 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_14 : Ref sig .tc := ⟨.hbm, 130, rfl⟩
abbrev main_v104 : Ref sig .tc := ⟨.hbm, 131, rfl⟩
abbrev main_v105 : Ref sig .tc := ⟨.hbm, 132, rfl⟩
abbrev main_cst_15 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_16 : Ref sig .tc := ⟨.hbm, 138, rfl⟩
abbrev main_v110 : Ref sig .tc := ⟨.hbm, 139, rfl⟩
abbrev main_v111 : Ref sig .tc := ⟨.hbm, 140, rfl⟩
abbrev main_cst_17 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== Conv.lean ====
abbrev S4x4096x1024 : Shape := ⟨3, ![4, 4096, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1x1024 : Shape := ⟨2, ![1, 1024]⟩
abbrev S1x2048 : Shape := ⟨2, ![1, 2048]⟩
abbrev S1x512x1024 : Shape := ⟨3, ![1, 512, 1024]⟩
abbrev S1x16x1024 : Shape := ⟨3, ![1, 16, 1024]⟩
abbrev S544x1024 : Shape := ⟨2, ![544, 1024]⟩
abbrev S8x544x128 : Shape := ⟨3, ![8, 544, 128]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S544x1 : Shape := ⟨2, ![544, 1]⟩
abbrev S1024x256 : Shape := ⟨2, ![1024, 256]⟩
abbrev S544x256 : Shape := ⟨2, ![544, 256]⟩
abbrev S1x256 : Shape := ⟨2, ![1, 256]⟩
abbrev S544x128 : Shape := ⟨2, ![544, 128]⟩
abbrev S1x544x128 : Shape := ⟨3, ![1, 544, 128]⟩
abbrev S1x128 : Shape := ⟨2, ![1, 128]⟩
abbrev S64x128 : Shape := ⟨2, ![64, 128]⟩
abbrev S1x64x128 : Shape := ⟨3, ![1, 64, 128]⟩

abbrev nBuf : Space → Nat
  | .hbm => 21
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1024x2048, .bf16⟩
  | .hbm, ⟨13, _⟩ => ⟨S1x2048, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S31x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S544x1024, .bf16⟩
  | .local _ .vmem, ⟨19, _⟩ => ⟨S8x544x128, .f32⟩
  | .local _ .vmem, ⟨20, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.AttnFrameI.lean ====
/- The attention call's body and launch for `KernelIdeal`: what one grid point stores, on either side of the body's branch,
   and the whole launch's run: every window's contents after each point, and the argument arrays unchanged. -/
module

public import proofs.«01_k».proof.Proof.Gen.KernelIdeal.Frame
public import proofs.«01_k».proof.Proof.Gen.KernelIdeal.Skeleton
public import Idealize.ShloMosaic.Lib.Claim
public import Idealize.ShloMosaic.Lib.UnfoldOut

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point reads -/

/-- Row 255 of the query block: the query norms, packed into the last pad lane. -/
def rowR (x0 : Vec F S1x256x2048 .bf16) : Vec F S1x1x2048 .bf16 :=
  View.ld x0 (Rect.unit (s := S1x256x2048) ![0, 255, 0] S1x1x2048.size inb_S1x256x2048_S1x1x2048_0_255_0)
/-- The whole block of key-norm maxima. -/
def maxR (x3 : Vec F S1x4x8x128 .f32) : Vec F S1x4x8x128 .f32 :=
  View.ld x3 (Rect.unit (s := S1x4x8x128) ![0, 0, 0, 0] S1x4x8x128.size inb_S1x4x8x128_S1x4x8x128_0_0_0_0)
/-- Query columns 0 to 511. -/
def q0R (x0 : Vec F S1x256x2048 .bf16) : Vec F S1x256x512 .bf16 :=
  View.ld x0 (Rect.unit (s := S1x256x2048) ![0, 0, 0] S1x256x512.size inb_S1x256x2048_S1x256x512_0_0_0)
/-- Query columns 512 to 1023. -/
def q1R (x0 : Vec F S1x256x2048 .bf16) : Vec F S1x256x512 .bf16 :=
  View.ld x0 (Rect.unit (s := S1x256x2048) ![0, 0, 512] S1x256x512.size inb_S1x256x2048_S1x256x512_0_0_512)
/-- Query columns 1024 to 1535. -/
def q2R (x0 : Vec F S1x256x2048 .bf16) : Vec F S1x256x512 .bf16 :=
  View.ld x0 (Rect.unit (s := S1x256x2048) ![0, 0, 1024] S1x256x512.size inb_S1x256x2048_S1x256x512_0_0_1024)
/-- Query columns 1536 to 2047. -/
def q3R (x0 : Vec F S1x256x2048 .bf16) : Vec F S1x256x512 .bf16 :=
  View.ld x0 (Rect.unit (s := S1x256x2048) ![0, 0, 1536] S1x256x512.size inb_S1x256x2048_S1x256x512_0_0_1536)
/-- Key rows 0 to 2047. -/
def k0R (x1 : Vec F S1x4096x256 .bf16) : Vec F S1x2048x256 .bf16 :=
  View.ld x1 (Rect.unit (s := S1x4096x256) ![0, 0, 0] S1x2048x256.size inb_S1x4096x256_S1x2048x256_0_0_0)
/-- Value columns 0 to 2047. -/
def v0R (x2 : Vec F S1x128x4096 .bf16) : Vec F S1x128x2048 .bf16 :=
  View.ld x2 (Rect.unit (s := S1x128x4096) ![0, 0, 0] S1x128x2048.size inb_S1x128x4096_S1x128x2048_0_0_0)
/-- Key rows 2048 to 4095. -/
def k1R (x1 : Vec F S1x4096x256 .bf16) : Vec F S1x2048x256 .bf16 :=
  View.ld x1 (Rect.unit (s := S1x4096x256) ![0, 2048, 0] S1x2048x256.size inb_S1x4096x256_S1x2048x256_0_2048_0)
/-- Value columns 2048 to 4095. -/
def v1R (x2 : Vec F S1x128x4096 .bf16) : Vec F S1x128x2048 .bf16 :=
  View.ld x2 (Rect.unit (s := S1x128x4096) ![0, 0, 2048] S1x128x2048.size inb_S1x128x4096_S1x128x2048_0_0_2048)

/-! ## What one grid point stores -/

/-- The body's branch word: 1 where the bound on the scores is at most 40. -/
def safeBit (x0 : Vec F S1x256x2048 .bf16) (x3 : Vec F S1x4x8x128 .f32) : BitVec 1 :=
  Scalar.cmpf .ole (k0_pay4 (rowR x0) (maxR x3)) (Scalar.ofBits .f32 0x42200000#32)

/-- Output rows 0 to 511 where the scores are bounded: one shift for both key blocks. -/
def safe0 (x0 : Vec F S1x256x2048 .bf16) (x1 : Vec F S1x4096x256 .bf16) (x2 : Vec F S1x128x4096 .bf16) (x3 : Vec F S1x4x8x128 .f32) : FVec F S1x512x128 .bf16 :=
  k0_pay13 (k0_pay8 (k0_pay3 (rowR x0) (maxR x3)) (k0R x1) (q0R x0)) (k0_pay9 (k0_pay3 (rowR x0) (maxR x3)) (k0R x1) (q0R x0) (v0R x2)) (k0_pay11 (v1R x2)) (k0_pay12 (k0_pay3 (rowR x0) (maxR x3)) (k1R x1) (q0R x0))
/-- Output rows 512 to 1023 where the scores are bounded: one shift for both key blocks. -/
def safe1 (x0 : Vec F S1x256x2048 .bf16) (x1 : Vec F S1x4096x256 .bf16) (x2 : Vec F S1x128x4096 .bf16) (x3 : Vec F S1x4x8x128 .f32) : FVec F S1x512x128 .bf16 :=
  k0_pay19 (k0_pay3 (rowR x0) (maxR x3)) (k0_pay14 (k1R x1) (q1R x0)) (k0_pay16 (k0_pay3 (rowR x0) (maxR x3)) (k0_pay10 (k0R x1) (q1R x0))) (k0_pay17 (k0_pay3 (rowR x0) (maxR x3)) (k0_pay10 (k0R x1) (q1R x0)) (v0R x2)) (v1R x2)
/-- Output rows 1024 to 1535 where the scores are bounded: one shift for both key blocks. -/
def safe2 (x0 : Vec F S1x256x2048 .bf16) (x1 : Vec F S1x4096x256 .bf16) (x2 : Vec F S1x128x4096 .bf16) (x3 : Vec F S1x4x8x128 .f32) : FVec F S1x512x128 .bf16 :=
  k0_pay25 (k0_pay3 (rowR x0) (maxR x3)) (k0_pay20 (k1R x1) (q2R x0)) (k0_pay22 (k0_pay3 (rowR x0) (maxR x3)) (k0_pay18 (k0R x1) (q2R x0))) (k0_pay23 (k0_pay3 (rowR x0) (maxR x3)) (k0_pay18 (k0R x1) (q2R x0)) (v0R x2)) (v1R x2)
/-- Output rows 1536 to 2047 where the scores are bounded: one shift for both key blocks. -/
def safe3 (x0 : Vec F S1x256x2048 .bf16) (x1 : Vec F S1x4096x256 .bf16) (x2 : Vec F S1x128x4096 .bf16) (x3 : Vec F S1x4x8x128 .f32) : FVec F S1x512x128 .bf16 :=
  k0_pay5 (rowR x0) (maxR x3) (k0_pay26 (k1R x1) (q3R x0)) (k0_pay28 (k0_pay3 (rowR x0) (maxR x3)) (k0_pay24 (k0R x1)) (q3R x0)) (k0_pay29 (k0_pay3 (rowR x0) (maxR x3)) (k0_pay24 (k0R x1)) (q3R x0) (v0R x2)) (v1R x2)
/-- Output rows 0 to 511 otherwise: the running maximum over the two key blocks. -/
def onl0 (x0 : Vec F S1x256x2048 .bf16) (x1 : Vec F S1x4096x256 .bf16) (x2 : Vec F S1x128x4096 .bf16) (x3 : Vec F S1x4x8x128 .f32) : FVec F S1x512x128 .bf16 :=
  k0_pay39 (k0_pay31 (k1R x1) (q0R x0)) (k0_pay32 (k0R x1) (q0R x0)) (k0_pay34 (k0R x1) (q0R x0)) (k0_pay35 (k0R x1) (q0R x0) (v0R x2)) (k0_pay37 (v1R x2)) (k0_pay38 (k1R x1) (q0R x0))
/-- Output rows 512 to 1023 otherwise: the running maximum over the two key blocks. -/
def onl1 (x0 : Vec F S1x256x2048 .bf16) (x1 : Vec F S1x4096x256 .bf16) (x2 : Vec F S1x128x4096 .bf16) (x3 : Vec F S1x4x8x128 .f32) : FVec F S1x512x128 .bf16 :=
  k0_pay46 (k0_pay40 (k1R x1) (q1R x0)) (k0_pay41 (k0_pay36 (k0R x1) (q1R x0))) (k0_pay43 (k0_pay36 (k0R x1) (q1R x0))) (k0_pay44 (k0_pay36 (k0R x1) (q1R x0)) (v0R x2)) (v1R x2)
/-- Output rows 1024 to 1535 otherwise: the running maximum over the two key blocks. -/
def onl2 (x0 : Vec F S1x256x2048 .bf16) (x1 : Vec F S1x4096x256 .bf16) (x2 : Vec F S1x128x4096 .bf16) (x3 : Vec F S1x4x8x128 .f32) : FVec F S1x512x128 .bf16 :=
  k0_pay50 (k0_pay49 (k0_pay45 (k0R x1) (q2R x0)) (k0_pay47 (k1R x1) (q2R x0)) (v0R x2) (v1R x2))
/-- Output rows 1536 to 2047 otherwise: the running maximum over the two key blocks. -/
def onl3 (x0 : Vec F S1x256x2048 .bf16) (x1 : Vec F S1x4096x256 .bf16) (x2 : Vec F S1x128x4096 .bf16) (x3 : Vec F S1x4x8x128 .f32) : FVec F S1x512x128 .bf16 :=
  k0_pay6 (k0_pay51 (k0_pay48 (k0R x1) (q3R x0)) (k1R x1) (q3R x0) (v0R x2) (v1R x2))
/-- Output rows 0 to 511 of a block. -/
abbrev ro0 : Rect S1x2048x128 := Rect.unit (s := S1x2048x128) ![0, 0, 0] S1x512x128.size inb_S1x2048x128_S1x512x128_0_0_0
/-- Output rows 512 to 1023 of a block. -/
abbrev ro1 : Rect S1x2048x128 := Rect.unit (s := S1x2048x128) ![0, 512, 0] S1x512x128.size inb_S1x2048x128_S1x512x128_0_512_0
/-- Output rows 1024 to 1535 of a block. -/
abbrev ro2 : Rect S1x2048x128 := Rect.unit (s := S1x2048x128) ![0, 1024, 0] S1x512x128.size inb_S1x2048x128_S1x512x128_0_1024_0
/-- Output rows 1536 to 2047 of a block. -/
abbrev ro3 : Rect S1x2048x128 := Rect.unit (s := S1x2048x128) ![0, 1536, 0] S1x512x128.size inb_S1x2048x128_S1x512x128_0_1536_0
/-- What a point leaves in its output block. -/
def outB (x0 : Vec F S1x256x2048 .bf16) (x1 : Vec F S1x4096x256 .bf16) (x2 : Vec F S1x128x4096 .bf16) (x3 : Vec F S1x4x8x128 .f32) : Vec F S1x2048x128 .bf16 :=
  if safeBit x0 x3 = 1#1 then
    View.canon [⟨ro3, safe3 x0 x1 x2 x3⟩, ⟨ro2, safe2 x0 x1 x2 x3⟩, ⟨ro1, safe1 x0 x1 x2 x3⟩, ⟨ro0, safe0 x0 x1 x2 x3⟩]
  else
    View.canon [⟨ro3, onl3 x0 x1 x2 x3⟩, ⟨ro2, onl2 x0 x1 x2 x3⟩, ⟨ro1, onl1 x0 x1 x2 x3⟩, ⟨ro0, onl0 x0 x1 x2 x3⟩]

/-- The four stores cover the output block. -/
theorem cover (p0 p1 p2 p3 : Vec F S1x512x128 .bf16) (y : S1x2048x128.Idx) :
    ∃ pc ∈ ([⟨ro3, p0⟩, ⟨ro2, p1⟩, ⟨ro1, p2⟩, ⟨ro0, p3⟩] : List (View.Piece (Elt F) S1x2048x128 .bf16)), y ∈ pc.1.set :=
  View.cover_of_tiled [⟨ro3, p0⟩, ⟨ro2, p1⟩, ⟨ro1, p2⟩, ⟨ro0, p3⟩] S1x512x128.size (by rfl) y

/-- A one-bit word widened differs from zero exactly where it is 1. -/
theorem bit_set (b : BitVec 1) (h : b = 1#1) : Scalar.cmpi .ne (Scalar.extui b : BitVec 32) 0#32 = 1#1 := by
  subst h; decide
/-- The negated word widened is zero there. -/
theorem bit_set_not (b : BitVec 1) (h : b = 1#1) : ¬ Scalar.cmpi .ne (Scalar.extui (Scalar.xori b 1#1) : BitVec 32) 0#32 = 1#1 := by
  subst h; decide
/-- A one-bit word that is not 1, widened, is zero. -/
theorem bit_clear (b : BitVec 1) (h : ¬ b = 1#1) : ¬ Scalar.cmpi .ne (Scalar.extui b : BitVec 32) 0#32 = 1#1 := by
  revert h; revert b; decide
/-- Its negation, widened, differs from zero. -/
theorem bit_clear_not (b : BitVec 1) (h : ¬ b = 1#1) : Scalar.cmpi .ne (Scalar.extui (Scalar.xori b 1#1) : BitVec 32) 0#32 = 1#1 := by
  revert h; revert b; decide

set_option maxHeartbeats 2000000 in
/-- The body at whole staging buffers: the inputs as they were, the output block at `outB` of them. -/
theorem sound_kernel (c : Dev nD) (E : Set ℕ) (i : grid0.Coords) (arg3 : Memref sig .tc .vmem S1x256x2048 .bf16) (harg3 : arg3.IsWhole) (arg4 : Memref sig .tc .vmem S1x4096x256 .bf16) (harg4 : arg4.IsWhole) (arg5 : Memref sig .tc .vmem S1x128x4096 .bf16) (harg5 : arg5.IsWhole) (arg6 : Memref sig .tc .vmem S1x4x8x128 .f32) (harg6 : arg6.IsWhole) (arg7 : Memref sig .tc .vmem S1x2048x128 .bf16) (harg7 : arg7.IsWhole)
    (x0 : Vec F S1x256x2048 .bf16) (x1 : Vec F S1x4096x256 .bf16) (x2 : Vec F S1x128x4096 .bf16) (x3 : Vec F S1x4x8x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outB x0 x1 x2 x3)) -∗ K ⟨⟩))
      ⊢ wp frame (wpE (defs₀ (F := F)) Variants.none c none) E (cc0_mla_attention i arg3 harg3 arg4 harg4 arg5 harg5 arg6 harg6 arg7 harg7) K := by
  simp only [cc0_mla_attention_eq_skeleton]; unfold cc0_mla_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  by_cases hc : Scalar.cmpf .ole (k0_pay4 (arg3.view.readAt (Elt F) (Rect.unit (s := S1x256x2048) ![0, 255, 0] S1x1x2048.size inb_S1x256x2048_S1x1x2048_0_255_0).toLoadRect f0) (arg6.view.readAt (Elt F) (Rect.unit (s := S1x4x8x128) ![0, 0, 0, 0] S1x4x8x128.size inb_S1x4x8x128_S1x4x8x128_0_0_0_0).toLoadRect f3)) (Scalar.ofBits .f32 0x42200000#32) = 1#1
  · have h1 := bit_set _ hc
    have h2 := bit_set_not _ hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    refine (View.read_writes_eq_canon _ _ _ (cover _ _ _ _)).trans ?_
    unfold outB
    refine Eq.trans ?_ (if_pos hc).symm
    rfl
  · have h1 := bit_clear _ hc
    have h2 := bit_clear_not _ hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    refine (View.read_writes_eq_canon _ _ _ (cover _ _ _ _)).trans ?_
    unfold outB
    refine Eq.trans ?_ (if_neg hc).symm
    rfl

/-! ## The launch -/

/-- The proof data of the launch: each window's array as launched, and its contents after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outB (iblk m c 0 t) (iblk m c 1 t) (iblk m c 2 t) (iblk m c 3 t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-- What the body is given at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
/-- What the body gives back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

/-- The body's triple at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl, show (dats m 0 c).owesAt () t.succ = (dats m 0 c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

/-- Every point's body meets the launch's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program's run: the launch's array contents at the end, and every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim of the program. -/
theorem frame_q : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  θ_run_and (unchanged m ρ) ((θ_run defs _ _).mono (fun _ h => h.2) (run_main_quiescent m ρ))

end Cert.KernelIdeal.Attn

end
-- ==== Proof.AttnMath.lean ====
/- Softmax-weighted sums over the extended reals: the shifted, the online and the textbook form are one value. -/
module

public import Idealize.ShloMosaic.PureOps.Ideal.Laws

@[expose] public section

noncomputable section

namespace Cert.AttnMath

open Idealize.ShloMosaic

variable {ι : Type} [Fintype ι]

/-- A positive real factor moves inside a finite sum of extended reals. -/
theorem coe_mul_sum (s : Finset ι) (r : ℝ) (h : 0 < r) (f : ι → EReal) :
    (r : EReal) * ∑ i ∈ s, f i = ∑ i ∈ s, (r : EReal) * f i := by
  classical
  induction s using Finset.induction_on with
  | empty => simp
  | insert a t ha ih =>
    rw [Finset.sum_insert ha, Finset.sum_insert ha,
      EReal.left_distrib_of_nonneg_of_ne_top (by exact_mod_cast h.le) (EReal.coe_ne_top r), ih]

/-- A finite sum of reals read as extended reals is the sum of them. -/
theorem coe_sum (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- The total of the powers of two of the scores. -/
def mass (s : ι → ℝ) : ℝ := ∑ j, (2 : ℝ) ^ s j

theorem mass_pos [Nonempty ι] (s : ι → ℝ) : 0 < mass s :=
  Finset.sum_pos (fun _ _ => Real.rpow_pos_of_pos two_pos _) Finset.univ_nonempty

/-- Attention at one query: the values weighted by the softmax, to base two, of the scores. -/
def attend (w : ι → EReal) (s : ι → ℝ) : EReal := ∑ k, w k * (((2 : ℝ) ^ s k / mass s : ℝ) : EReal)

/-- A power of two at a shifted score is a real. -/
theorem exp2_shift (x a : ℝ) : Ideal.exp2 ((x : EReal) - (a : EReal)) = (((2 : ℝ) ^ x / (2 : ℝ) ^ a : ℝ) : EReal) := by
  rw [← EReal.coe_sub, Ideal.exp2_coe]
  congr 1
  exact Real.rpow_sub two_pos x a

/-- The denominator at a shift. -/
theorem sum_exp2 (s : ι → ℝ) (a : ℝ) :
    ∑ k, Ideal.exp2 ((s k : EReal) - (a : EReal)) = ((mass s / (2 : ℝ) ^ a : ℝ) : EReal) := by
  simp only [exp2_shift]
  rw [← coe_sum, ← Finset.sum_div, mass]

/-- Whatever the shift, the shifted weighted sum over the shifted total is the softmax-weighted sum. -/
theorem shifted [Nonempty ι] (w : ι → EReal) (s : ι → ℝ) (a : ℝ) :
    Ideal.div (∑ k, w k * Ideal.exp2 ((s k : EReal) - (a : EReal))) (∑ k, Ideal.exp2 ((s k : EReal) - (a : EReal)))
      = attend w s := by
  have hm := mass_pos s
  have ha : (0 : ℝ) < 2 ^ a := Real.rpow_pos_of_pos two_pos a
  rw [sum_exp2, Ideal.div_coe (by positivity), mul_comm, coe_mul_sum _ _ (by positivity), attend]
  refine Finset.sum_congr rfl fun k _ => ?_
  rw [mul_left_comm, exp2_shift, ← EReal.coe_mul]
  congr 2
  field_simp

/-- Moving a shifted weighted sum from the shift `a` to the shift `b`. -/
theorem rescale (w : ι → EReal) (s : ι → ℝ) (a b : ℝ) :
    Ideal.exp2 ((a : EReal) - (b : EReal)) * ∑ k, w k * Ideal.exp2 ((s k : EReal) - (a : EReal))
      = ∑ k, w k * Ideal.exp2 ((s k : EReal) - (b : EReal)) := by
  have ha : (0 : ℝ) < 2 ^ a := Real.rpow_pos_of_pos two_pos a
  have hb : (0 : ℝ) < 2 ^ b := Real.rpow_pos_of_pos two_pos b
  rw [exp2_shift, coe_mul_sum _ _ (by positivity)]
  refine Finset.sum_congr rfl fun k _ => ?_
  rw [mul_left_comm, exp2_shift, exp2_shift, ← EReal.coe_mul]
  congr 2
  field_simp

/-- The same for the total. -/
theorem rescale_one (s : ι → ℝ) (a b : ℝ) :
    Ideal.exp2 ((a : EReal) - (b : EReal)) * ∑ k, Ideal.exp2 ((s k : EReal) - (a : EReal))
      = ∑ k, Ideal.exp2 ((s k : EReal) - (b : EReal)) := by
  have h := rescale (fun _ => 1) s a b
  simpa only [one_mul] using h

/-- A textbook softmax weight of a score times `log 2`, at any real shift. -/
theorem textbook [Nonempty ι] (s : ι → ℝ) (M : ℝ) (k : ι) :
    Ideal.div (Ideal.exp ((s k : EReal) * ((Real.log 2 : ℝ) : EReal) - (M : EReal)))
        (0 + ∑ j, Ideal.exp ((s j : EReal) * ((Real.log 2 : ℝ) : EReal) - (M : EReal)))
      = (((2 : ℝ) ^ s k / mass s : ℝ) : EReal) := by
  have hm := mass_pos s
  have he (j : ι) : Ideal.exp ((s j : EReal) * ((Real.log 2 : ℝ) : EReal) - (M : EReal))
      = (((2 : ℝ) ^ s j / Real.exp M : ℝ) : EReal) := by
    rw [← EReal.coe_mul, ← EReal.coe_sub, Ideal.exp_coe, Real.exp_sub, Real.rpow_def_of_pos two_pos, mul_comm]
  simp only [he]
  rw [zero_add, ← coe_sum, ← Finset.sum_div, Ideal.div_coe (by have := Real.exp_pos M; unfold mass at hm; positivity),
    ← EReal.coe_mul]
  congr 1
  have := Real.exp_pos M
  unfold mass at hm ⊢
  field_simp

/-- The greatest of finitely many reals, at least one, folded from the bottom, is a real. -/
theorem fold_max_real [Nonempty ι] (s : ι → ℝ) :
    ∃ M : ℝ, (Finset.univ : Finset ι).fold max (⊥ : EReal) (fun k => (s k : EReal)) = (M : EReal) := by
  have hb : (Finset.univ : Finset ι).fold max (⊥ : EReal) (fun k => (s k : EReal)) ≠ ⊥ := by
    rw [← bot_lt_iff_ne_bot, Finset.lt_fold_max]
    exact .inr ⟨Classical.arbitrary ι, Finset.mem_univ _, EReal.bot_lt_coe _⟩
  have ht : (Finset.univ : Finset ι).fold max (⊥ : EReal) (fun k => (s k : EReal)) ≠ ⊤ := by
    rw [← lt_top_iff_ne_top, Finset.fold_max_lt]
    exact ⟨bot_lt_top, fun k _ => EReal.coe_lt_top _⟩
  exact ⟨_, (EReal.coe_toReal ht hb).symm⟩

/-- Two halves summed with one shift, one over the other: the softmax-weighted sum over both. -/
theorem two_blocks (w : Fin 4096 → EReal) (s : Fin 4096 → ℝ) (a : ℝ) :
    Ideal.div
        ((∑ k : Fin 2048, w (Fin.castAdd 2048 k) * Ideal.exp2 ((s (Fin.castAdd 2048 k) : EReal) - (a : EReal)))
          + ∑ k : Fin 2048, w (Fin.natAdd 2048 k) * Ideal.exp2 ((s (Fin.natAdd 2048 k) : EReal) - (a : EReal)))
        ((∑ k : Fin 2048, Ideal.exp2 ((s (Fin.castAdd 2048 k) : EReal) - (a : EReal)))
          + ∑ k : Fin 2048, Ideal.exp2 ((s (Fin.natAdd 2048 k) : EReal) - (a : EReal)))
      = attend w s := by
  rw [← shifted w s a, Fin.sum_univ_add (a := 2048) (b := 2048) (fun k => w k * Ideal.exp2 ((s k : EReal) - (a : EReal))),
    Fin.sum_univ_add (a := 2048) (b := 2048) (fun k => Ideal.exp2 ((s k : EReal) - (a : EReal)))]

end Cert.AttnMath

end
-- ==== Proof.AttnBlock.lean ====
/- One block of the attention's output, read at an element over the exact reals. -/
module

public import proofs.«01_k».proof.Proof.AttnFrameI
public import proofs.«01_k».proof.Proof.AttnMath
public import Idealize.ShloMosaic.Lib.Pointwise
public import Idealize.ShloMosaic.Lib.Pipeline.ValueKit.Tiles

@[expose] public section

set_option maxRecDepth 16384

noncomputable section

namespace Cert.KernelIdeal.Attn

open Cert.KernelIdeal Cert.KernelIdeal.Gen Cert.AttnMath
open Idealize.ShloMosaic Idealize.ShloMosaic.TcCoe

variable {F : FTy → Type} [FloatOps F]

/-- Scores of 2048 keys against 512 queries. -/
def score (k : Vec F S1x2048x256 .bf16) (q : Vec F S1x256x512 .bf16) : FVec F S2048x512 .f32 :=
  matmul dot_S2048x256_S256x512_S2048x512_1_0_0_1_n_n none
    (shapeCast S2048x256 k shapeCasts_S1x2048x256_S2048x256 : FVec F S2048x256 .bf16)
    (shapeCast S256x512 q shapeCasts_S1x256x512_S256x512 : FVec F S256x512 .bf16) (constant S2048x512 .f32 0x00000000#32)

/-- Powers of two of scores less one shift per query. -/
def pows (s : FVec F S2048x512 .f32) (sh : FVec F S1x512 .f32) : FVec F S2048x512 .f32 :=
  exp2 (subf s (broadcastTo S2048x512 sh broadcasts_S1x512_S2048x512))

/-- Their total per query. -/
def total (e : FVec F S2048x512 .f32) : FVec F S1x512 .f32 :=
  shapeCast S1x512 (multiReduction .add [0] S512 e 0x00000000#32 reduces_S2048x512_S512 (.inl rfl) rfl) shapeCasts_S512_S1x512

/-- The greatest score per query. -/
def top (s : FVec F S2048x512 .f32) : FVec F S1x512 .f32 :=
  shapeCast S1x512 (multiReduction .maximumf [0] S512 s 0xFF800000#32 reduces_S2048x512_S512 (.inl rfl) rfl) shapeCasts_S512_S1x512

/-- The values weighted by the powers. -/
def weigh (v : Vec F S1x128x2048 .bf16) (e : FVec F S2048x512 .f32) : FVec F S128x512 .f32 :=
  matmul dot_S128x2048_S2048x512_S128x512_1_0_0_1_n_n none
    (shapeCast S128x2048 v shapeCasts_S1x128x2048_S128x2048 : FVec F S128x2048 .bf16)
    (truncf .bf16 e bitsLt_bf16_f32) (constant S128x512 .f32 0x00000000#32)

/-- A numerator over a denominator per query, queries first. -/
def quot (n : FVec F S128x512 .f32) (d : FVec F S1x512 .f32) : FVec F S1x512x128 .bf16 :=
  shapeCast S1x512x128 (truncf .bf16 (transpose S512x128 [1, 0]
    (divf n (broadcastTo S128x512 d broadcasts_S1x512_S128x512)) transposes_S128x512_p1_0_S512x128) bitsLt_bf16_f32)
    shapeCasts_S512x128_S1x512x128

/-- 512 output rows with one shift for both key blocks. -/
def safeF (s0 s1 : FVec F S2048x512 .f32) (sh : FVec F S1x512 .f32) (v0 v1 : Vec F S1x128x2048 .bf16) : FVec F S1x512x128 .bf16 :=
  quot (addf (weigh v0 (pows s0 sh)) (weigh v1 (pows s1 sh))) (addf (total (pows s0 sh)) (total (pows s1 sh)))

/-- 512 output rows with the running maximum over the two key blocks. -/
def onlF (s0 s1 : FVec F S2048x512 .f32) (v0 v1 : Vec F S1x128x2048 .bf16) : FVec F S1x512x128 .bf16 :=
  quot
    (addf (mulf (broadcastTo S128x512 (exp2 (subf (top s0) (maximumf (top s0) (top s1)))) broadcasts_S1x512_S128x512)
        (weigh v0 (pows s0 (top s0))))
      (weigh v1 (pows s1 (maximumf (top s0) (top s1)))))
    (addf (mulf (exp2 (subf (top s0) (maximumf (top s0) (top s1)))) (total (pows s0 (top s0))))
      (total (pows s1 (maximumf (top s0) (top s1)))))

/-- The shifts of all the block's queries. -/
def shifts (x0 : Vec F S1x256x2048 .bf16) (x3 : Vec F S1x4x8x128 .f32) : FVec F S1x2048 .f32 := k0_pay3 (rowR x0) (maxR x3)

section Forms
variable (x0 : Vec F S1x256x2048 .bf16) (x1 : Vec F S1x4096x256 .bf16) (x2 : Vec F S1x128x4096 .bf16) (x3 : Vec F S1x4x8x128 .f32)

theorem safe0_form : safe0 x0 x1 x2 x3 = safeF (score (k0R x1) (q0R x0)) (score (k1R x1) (q0R x0))
    (extractStridedSlice S1x512 ![0, 0] (shifts x0 x3) slices_S1x2048_o0_0_S1x512) (v0R x2) (v1R x2) := rfl
theorem safe1_form : safe1 x0 x1 x2 x3 = safeF (score (k0R x1) (q1R x0)) (score (k1R x1) (q1R x0))
    (extractStridedSlice S1x512 ![0, 512] (shifts x0 x3) slices_S1x2048_o0_512_S1x512) (v0R x2) (v1R x2) := rfl
theorem safe2_form : safe2 x0 x1 x2 x3 = safeF (score (k0R x1) (q2R x0)) (score (k1R x1) (q2R x0))
    (extractStridedSlice S1x512 ![0, 1024] (shifts x0 x3) slices_S1x2048_o0_1024_S1x512) (v0R x2) (v1R x2) := rfl
theorem safe3_form : safe3 x0 x1 x2 x3 = safeF (score (k0R x1) (q3R x0)) (score (k1R x1) (q3R x0))
    (extractStridedSlice S1x512 ![0, 1536] (shifts x0 x3) slices_S1x2048_o0_1536_S1x512) (v0R x2) (v1R x2) := rfl
theorem onl0_form : onl0 x0 x1 x2 x3 = onlF (score (k0R x1) (q0R x0)) (score (k1R x1) (q0R x0)) (v0R x2) (v1R x2) := rfl
theorem onl1_form : onl1 x0 x1 x2 x3 = onlF (score (k0R x1) (q1R x0)) (score (k1R x1) (q1R x0)) (v0R x2) (v1R x2) := rfl
theorem onl2_form : onl2 x0 x1 x2 x3 = onlF (score (k0R x1) (q2R x0)) (score (k1R x1) (q2R x0)) (v0R x2) (v1R x2) := rfl
theorem onl3_form : onl3 x0 x1 x2 x3 = onlF (score (k0R x1) (q3R x0)) (score (k1R x1) (q3R x0)) (v0R x2) (v1R x2) := rfl
end Forms

/-! ## At an element -/

/-- The word `0xFF800000` is the bottom of the extended reals. -/
theorem neg_inf : Ideal.ofBits .f32 0xFF800000#32 = ⊥ := by
  simp [Ideal.ofBits, Ideal.ieee]

theorem score_apply (k : Vec Ideal S1x2048x256 .bf16) (q : Vec Ideal S1x256x512 .bf16) (a : Fin 2048) (r : Fin 512) :
    score (F := Ideal) k q (ix2 a r) = ∑ l : Fin 256, (k (ix3 0 a l) : EReal) * q (ix3 0 l r) := by
  pointwise [score]

theorem pows_apply (s : FVec Ideal S2048x512 .f32) (sh : FVec Ideal S1x512 .f32) (a : Fin 2048) (r : Fin 512) :
    pows (F := Ideal) s sh (ix2 a r) = Ideal.exp2 ((s (ix2 a r) : EReal) - sh (ix2 0 r)) := by
  pointwise [pows]
  rfl

theorem total_apply (e : FVec Ideal S2048x512 .f32) (r : Fin 512) :
    total (F := Ideal) e (ix2 0 r) = ∑ a : Fin 2048, (e (ix2 a r) : EReal) := by
  pointwise [total]

theorem weigh_apply (v : Vec Ideal S1x128x2048 .bf16) (e : FVec Ideal S2048x512 .f32) (d : Fin 128) (r : Fin 512) :
    weigh (F := Ideal) v e (ix2 d r) = ∑ a : Fin 2048, (v (ix3 0 d a) : EReal) * e (ix2 a r) := by
  pointwise [weigh]

theorem quot_apply (n : FVec Ideal S128x512 .f32) (d : FVec Ideal S1x512 .f32) (r : Fin 512) (c : Fin 128) :
    quot (F := Ideal) n d (ix3 0 r c) = Ideal.div (n (ix2 c r)) (d (ix2 0 r)) := by
  pointwise [quot]

theorem top_apply (s : FVec Ideal S2048x512 .f32) (r : Fin 512) :
    top (F := Ideal) s (ix2 0 r) = (Finset.univ : Finset (Fin 2048)).fold max (⊥ : EReal) (fun a => s (ix2 a r)) := by
  pointwise [top]
  rw [neg_inf]

/-- A power of two at an element. -/
theorem exp2_at (x : FVec Ideal S1x512 .f32) (i : S1x512.Idx) : exp2 x i = Ideal.exp2 (x i) := rfl

/-- The rows with one shift: the softmax-weighted sum, whatever the (real) shift. -/
theorem safeF_apply (s0 s1 : FVec Ideal S2048x512 .f32) (sh : FVec Ideal S1x512 .f32) (v0 v1 : Vec Ideal S1x128x2048 .bf16)
    (w : Fin 4096 → EReal) (s : Fin 4096 → ℝ) (a : ℝ) (r : Fin 512) (c : Fin 128)
    (h0 : ∀ k : Fin 2048, s0 (ix2 k r) = (s (Fin.castAdd 2048 k) : EReal))
    (h1 : ∀ k : Fin 2048, s1 (ix2 k r) = (s (Fin.natAdd 2048 k) : EReal))
    (hsh : sh (ix2 0 r) = (a : EReal))
    (hv0 : ∀ k : Fin 2048, v0 (ix3 0 c k) = w (Fin.castAdd 2048 k))
    (hv1 : ∀ k : Fin 2048, v1 (ix3 0 c k) = w (Fin.natAdd 2048 k)) :
    safeF (F := Ideal) s0 s1 sh v0 v1 (ix3 0 r c) = attend w s := by
  rw [safeF, quot_apply, ← two_blocks w s a]
  refine congrArg₂ Ideal.div ?_ ?_
  · rw [addf_apply, Ideal.addf_def]
    simp only [weigh_apply, pows_apply, h0, h1, hsh, hv0, hv1]
  · rw [addf_apply, Ideal.addf_def]
    simp only [total_apply, pows_apply, h0, h1, hsh]

/-- The rows with the running maximum: the same. -/
theorem onlF_apply (s0 s1 : FVec Ideal S2048x512 .f32) (v0 v1 : Vec Ideal S1x128x2048 .bf16)
    (w : Fin 4096 → EReal) (s : Fin 4096 → ℝ) (r : Fin 512) (c : Fin 128)
    (h0 : ∀ k : Fin 2048, s0 (ix2 k r) = (s (Fin.castAdd 2048 k) : EReal))
    (h1 : ∀ k : Fin 2048, s1 (ix2 k r) = (s (Fin.natAdd 2048 k) : EReal))
    (hv0 : ∀ k : Fin 2048, v0 (ix3 0 c k) = w (Fin.castAdd 2048 k))
    (hv1 : ∀ k : Fin 2048, v1 (ix3 0 c k) = w (Fin.natAdd 2048 k)) :
    onlF (F := Ideal) s0 s1 v0 v1 (ix3 0 r c) = attend w s := by
  obtain ⟨a, ha⟩ := fold_max_real (fun k : Fin 2048 => s (Fin.castAdd 2048 k))
  obtain ⟨b, hb⟩ := fold_max_real (fun k : Fin 2048 => s (Fin.natAdd 2048 k))
  have ta : top s0 (ix2 0 r) = (a : EReal) := by simp only [top_apply, h0, ha]
  have tb : top s1 (ix2 0 r) = (b : EReal) := by simp only [top_apply, h1, hb]
  have tm : maximumf (top s0) (top s1) (ix2 0 r) = ((max a b : ℝ) : EReal) := by
    rw [maximumf_apply, Ideal.maximumf_def, ta, tb]
    exact (EReal.coe_strictMono.monotone.map_max).symm
  have te : exp2 (subf (top s0) (maximumf (top s0) (top s1))) (ix2 0 r) = Ideal.exp2 ((a : EReal) - ((max a b : ℝ) : EReal)) := by
    rw [exp2_at, subf_apply, Ideal.subf_def, ta, tm]
  have tB : broadcastTo S128x512 (exp2 (subf (top s0) (maximumf (top s0) (top s1)))) broadcasts_S1x512_S128x512 (ix2 c r)
      = Ideal.exp2 ((a : EReal) - ((max a b : ℝ) : EReal)) := by
    rw [← te]
    generalize exp2 (subf (top s0) (maximumf (top s0) (top s1))) = e
    pointwise
  rw [onlF, quot_apply, ← two_blocks w s (max a b)]
  refine congrArg₂ Ideal.div ?_ ?_
  · rw [addf_apply, Ideal.addf_def, mulf_apply, Ideal.mulf_def, tB]
    simp only [weigh_apply, pows_apply, h0, h1, ta, tm, hv0, hv1]
    rw [rescale]
  · rw [addf_apply, Ideal.addf_def, mulf_apply, Ideal.mulf_def, te]
    simp only [total_apply, pows_apply, h0, h1, ta, tm]
    rw [rescale_one]

section Block
variable (x0 : Vec Ideal S1x256x2048 .bf16) (x1 : Vec Ideal S1x4096x256 .bf16) (x2 : Vec Ideal S1x128x4096 .bf16) (x3 : Vec Ideal S1x4x8x128 .f32)
  (r : Fin 512) (c : Fin 128) (s : Fin 4096 → ℝ)

/-- Query columns 0 to 511. -/
theorem rows0 (hs : ∀ k : Fin 4096, ∑ l : Fin 256, (x1 (ix3 0 k l) : EReal) * x0 (ix3 0 l ⟨r.val, by omega⟩) = (s k : EReal))
    (hsh : ∃ a : ℝ, shifts x0 x3 (ix2 0 ⟨r.val, by omega⟩) = (a : EReal)) :
    safe0 x0 x1 x2 x3 (ix3 0 r c) = attend (fun k => x2 (ix3 0 c k)) s
      ∧ onl0 x0 x1 x2 x3 (ix3 0 r c) = attend (fun k => x2 (ix3 0 c k)) s := by
  obtain ⟨a, ha⟩ := hsh
  have h0 : ∀ k : Fin 2048, score (k0R x1) (q0R x0) (ix2 k r) = (s (Fin.castAdd 2048 k) : EReal) := fun k => by
    rw [score_apply, ← hs]; pointwise [k0R, q0R]; rfl
  have h1 : ∀ k : Fin 2048, score (k1R x1) (q0R x0) (ix2 k r) = (s (Fin.natAdd 2048 k) : EReal) := fun k => by
    rw [score_apply, ← hs]; pointwise [k1R, q0R]; rfl
  have hv0 : ∀ k : Fin 2048, v0R x2 (ix3 0 c k) = x2 (ix3 0 c (Fin.castAdd 2048 k)) := fun k => by pointwise [v0R]; rfl
  have hv1 : ∀ k : Fin 2048, v1R x2 (ix3 0 c k) = x2 (ix3 0 c (Fin.natAdd 2048 k)) := fun k => by pointwise [v1R]; rfl
  refine ⟨?_, ?_⟩
  · rw [safe0_form]
    exact safeF_apply _ _ _ _ _ (fun k => x2 (ix3 0 c k)) s a r c h0 h1 (by rw [← ha]; pointwise) hv0 hv1
  · rw [onl0_form]
    exact onlF_apply _ _ _ _ (fun k => x2 (ix3 0 c k)) s r c h0 h1 hv0 hv1

/-- Query columns 512 to 1023. -/
theorem rows1 (hs : ∀ k : Fin 4096, ∑ l : Fin 256, (x1 (ix3 0 k l) : EReal) * x0 (ix3 0 l ⟨512 + r.val, by omega⟩) = (s k : EReal))
    (hsh : ∃ a : ℝ, shifts x0 x3 (ix2 0 ⟨512 + r.val, by omega⟩) = (a : EReal)) :
    safe1 x0 x1 x2 x3 (ix3 0 r c) = attend (fun k => x2 (ix3 0 c k)) s
      ∧ onl1 x0 x1 x2 x3 (ix3 0 r c) = attend (fun k => x2 (ix3 0 c k)) s := by
  obtain ⟨a, ha⟩ := hsh
  have h0 : ∀ k : Fin 2048, score (k0R x1) (q1R x0) (ix2 k r) = (s (Fin.castAdd 2048 k) : EReal) := fun k => by
    rw [score_apply, ← hs]; pointwise [k0R, q1R]; rfl
  have h1 : ∀ k : Fin 2048, score (k1R x1) (q1R x0) (ix2 k r) = (s (Fin.natAdd 2048 k) : EReal) := fun k => by
    rw [score_apply, ← hs]; pointwise [k1R, q1R]; rfl
  have hv0 : ∀ k : Fin 2048, v0R x2 (ix3 0 c k) = x2 (ix3 0 c (Fin.castAdd 2048 k)) := fun k => by pointwise [v0R]; rfl
  have hv1 : ∀ k : Fin 2048, v1R x2 (ix3 0 c k) = x2 (ix3 0 c (Fin.natAdd 2048 k)) := fun k => by pointwise [v1R]; rfl
  refine ⟨?_, ?_⟩
  · rw [safe1_form]
    exact safeF_apply _ _ _ _ _ (fun k => x2 (ix3 0 c k)) s a r c h0 h1 (by rw [← ha]; pointwise) hv0 hv1
  · rw [onl1_form]
    exact onlF_apply _ _ _ _ (fun k => x2 (ix3 0 c k)) s r c h0 h1 hv0 hv1

/-- Query columns 1024 to 1535. -/
theorem rows2 (hs : ∀ k : Fin 4096, ∑ l : Fin 256, (x1 (ix3 0 k l) : EReal) * x0 (ix3 0 l ⟨1024 + r.val, by omega⟩) = (s k : EReal))
    (hsh : ∃ a : ℝ, shifts x0 x3 (ix2 0 ⟨1024 + r.val, by omega⟩) = (a : EReal)) :
    safe2 x0 x1 x2 x3 (ix3 0 r c) = attend (fun k => x2 (ix3 0 c k)) s
      ∧ onl2 x0 x1 x2 x3 (ix3 0 r c) = attend (fun k => x2 (ix3 0 c k)) s := by
  obtain ⟨a, ha⟩ := hsh
  have h0 : ∀ k : Fin 2048, score (k0R x1) (q2R x0) (ix2 k r) = (s (Fin.castAdd 2048 k) : EReal) := fun k => by
    rw [score_apply, ← hs]; pointwise [k0R, q2R]; rfl
  have h1 : ∀ k : Fin 2048, score (k1R x1) (q2R x0) (ix2 k r) = (s (Fin.natAdd 2048 k) : EReal) := fun k => by
    rw [score_apply, ← hs]; pointwise [k1R, q2R]; rfl
  have hv0 : ∀ k : Fin 2048, v0R x2 (ix3 0 c k) = x2 (ix3 0 c (Fin.castAdd 2048 k)) := fun k => by pointwise [v0R]; rfl
  have hv1 : ∀ k : Fin 2048, v1R x2 (ix3 0 c k) = x2 (ix3 0 c (Fin.natAdd 2048 k)) := fun k => by pointwise [v1R]; rfl
  refine ⟨?_, ?_⟩
  · rw [safe2_form]
    exact safeF_apply _ _ _ _ _ (fun k => x2 (ix3 0 c k)) s a r c h0 h1 (by rw [← ha]; pointwise) hv0 hv1
  · rw [onl2_form]
    exact onlF_apply _ _ _ _ (fun k => x2 (ix3 0 c k)) s r c h0 h1 hv0 hv1

/-- Query columns 1536 to 2047. -/
theorem rows3 (hs : ∀ k : Fin 4096, ∑ l : Fin 256, (x1 (ix3 0 k l) : EReal) * x0 (ix3 0 l ⟨1536 + r.val, by omega⟩) = (s k : EReal))
    (hsh : ∃ a : ℝ, shifts x0 x3 (ix2 0 ⟨1536 + r.val, by omega⟩) = (a : EReal)) :
    safe3 x0 x1 x2 x3 (ix3 0 r c) = attend (fun k => x2 (ix3 0 c k)) s
      ∧ onl3 x0 x1 x2 x3 (ix3 0 r c) = attend (fun k => x2 (ix3 0 c k)) s := by
  obtain ⟨a, ha⟩ := hsh
  have h0 : ∀ k : Fin 2048, score (k0R x1) (q3R x0) (ix2 k r) = (s (Fin.castAdd 2048 k) : EReal) := fun k => by
    rw [score_apply, ← hs]; pointwise [k0R, q3R]; rfl
  have h1 : ∀ k : Fin 2048, score (k1R x1) (q3R x0) (ix2 k r) = (s (Fin.natAdd 2048 k) : EReal) := fun k => by
    rw [score_apply, ← hs]; pointwise [k1R, q3R]; rfl
  have hv0 : ∀ k : Fin 2048, v0R x2 (ix3 0 c k) = x2 (ix3 0 c (Fin.castAdd 2048 k)) := fun k => by pointwise [v0R]; rfl
  have hv1 : ∀ k : Fin 2048, v1R x2 (ix3 0 c k) = x2 (ix3 0 c (Fin.natAdd 2048 k)) := fun k => by pointwise [v1R]; rfl
  refine ⟨?_, ?_⟩
  · rw [safe3_form]
    exact safeF_apply _ _ _ _ _ (fun k => x2 (ix3 0 c k)) s a r c h0 h1 (by rw [← ha]; pointwise) hv0 hv1
  · rw [onl3_form]
    exact onlF_apply _ _ _ _ (fun k => x2 (ix3 0 c k)) s r c h0 h1 hv0 hv1

/-- A block's output at an element: the softmax-weighted sum of the values, where the scores and the shift are reals. -/
theorem outB_apply (r : Fin 2048)
    (hs : ∀ k : Fin 4096, ∑ l : Fin 256, (x1 (ix3 0 k l) : EReal) * x0 (ix3 0 l r) = (s k : EReal))
    (hsh : ∃ a : ℝ, shifts x0 x3 (ix2 0 r) = (a : EReal)) :
    outB x0 x1 x2 x3 (ix3 0 r c) = attend (fun k => x2 (ix3 0 c k)) s := by
  obtain ⟨rv, hrv⟩ := r
  have tile (n : ℕ) (hn : n + 512 ≤ 2048) (p : FVec Ideal S1x512x128 .bf16)
      (h : ∀ r' : Fin 512, rv = n + r'.val → p (ix3 0 r' c) = attend (fun k => x2 (ix3 0 c k)) s) :
      View.TileAt (Val := Elt Ideal) (e := .bf16) (S := S1x2048x128) (ix3 0 ⟨rv, hrv⟩ c) ![0, n, 0] S1x512x128.size p
        (attend (fun k => x2 (ix3 0 c k)) s) := fun x hx => by
    have e : x = ix3 0 ⟨(x 1).val, (x 1).isLt⟩ c := by
      funext a
      match a with
      | ⟨0, _⟩ => exact Fin.ext (by have := hx 0; have h' : (x 0).val < 1 := (x 0).isLt; show (x 0).val = 0; omega)
      | ⟨1, _⟩ => rfl
      | ⟨2, _⟩ => exact Fin.ext (by have h' : c.val = 0 + (x 2).val := hx 2; show (x 2).val = c.val; omega)
    rw [e]
    exact h _ (hx 1)
  have safeT : View.AllAt (Val := Elt Ideal) (e := .bf16) [⟨ro3, safe3 x0 x1 x2 x3⟩, ⟨ro2, safe2 x0 x1 x2 x3⟩, ⟨ro1, safe1 x0 x1 x2 x3⟩, ⟨ro0, safe0 x0 x1 x2 x3⟩]
      (ix3 0 ⟨rv, hrv⟩ c) (attend (fun k => x2 (ix3 0 c k)) s) := by
    refine View.allAt_cons_unit _ _ _ _ _ (tile 1536 (by omega) _ fun r' hr => ?_) ?_
    · have er : rv = 1536 + r'.val := hr
      subst er; exact (rows3 x0 x1 x2 x3 r' c s hs hsh).1
    refine View.allAt_cons_unit _ _ _ _ _ (tile 1024 (by omega) _ fun r' hr => ?_) ?_
    · have er : rv = 1024 + r'.val := hr
      subst er; exact (rows2 x0 x1 x2 x3 r' c s hs hsh).1
    refine View.allAt_cons_unit _ _ _ _ _ (tile 512 (by omega) _ fun r' hr => ?_) ?_
    · have er : rv = 512 + r'.val := hr
      subst er; exact (rows1 x0 x1 x2 x3 r' c s hs hsh).1
    refine View.allAt_cons_unit _ _ _ _ _ (tile 0 (by omega) _ fun r' hr => ?_) ?_
    · have er : rv = r'.val := Eq.trans (show rv = 0 + r'.val from hr) (Nat.zero_add _)
      subst er; exact (rows0 x0 x1 x2 x3 r' c s hs hsh).1
    exact View.allAt_nil _ _
  have onlT : View.AllAt (Val := Elt Ideal) (e := .bf16) [⟨ro3, onl3 x0 x1 x2 x3⟩, ⟨ro2, onl2 x0 x1 x2 x3⟩, ⟨ro1, onl1 x0 x1 x2 x3⟩, ⟨ro0, onl0 x0 x1 x2 x3⟩]
      (ix3 0 ⟨rv, hrv⟩ c) (attend (fun k => x2 (ix3 0 c k)) s) := by
    refine View.allAt_cons_unit _ _ _ _ _ (tile 1536 (by omega) _ fun r' hr => ?_) ?_
    · have er : rv = 1536 + r'.val := hr
      subst er; exact (rows3 x0 x1 x2 x3 r' c s hs hsh).2
    refine View.allAt_cons_unit _ _ _ _ _ (tile 1024 (by omega) _ fun r' hr => ?_) ?_
    · have er : rv = 1024 + r'.val := hr
      subst er; exact (rows2 x0 x1 x2 x3 r' c s hs hsh).2
    refine View.allAt_cons_unit _ _ _ _ _ (tile 512 (by omega) _ fun r' hr => ?_) ?_
    · have er : rv = 512 + r'.val := hr
      subst er; exact (rows1 x0 x1 x2 x3 r' c s hs hsh).2
    refine View.allAt_cons_unit _ _ _ _ _ (tile 0 (by omega) _ fun r' hr => ?_) ?_
    · have er : rv = r'.val := Eq.trans (show rv = 0 + r'.val from hr) (Nat.zero_add _)
      subst er; exact (rows0 x0 x1 x2 x3 r' c s hs hsh).2
    exact View.allAt_nil _ _
  unfold outB
  split
  · exact View.canon_eq_of_allAt _ _ _ (cover _ _ _ _ _) safeT
  · exact View.canon_eq_of_allAt _ _ _ (cover _ _ _ _ _) onlT

end Block

end Cert.KernelIdeal.Attn

end
-- ==== Proof.AttnValue.lean ====
/- The attention call's result array over the exact reals: at every element the softmax-weighted sum of the values. -/
module

public import proofs.«01_k».proof.Proof.AttnBlock
public import Idealize.ShloMosaic.Lib.Pipeline.ValueKit

@[expose] public section

set_option maxRecDepth 16384

noncomputable section

namespace Cert.KernelIdeal.Attn

open Cert.KernelIdeal Cert.KernelIdeal.Gen Cert.AttnMath
open Idealize.ShloMosaic Idealize.ShloMosaic.TcCoe Idealize.SL.Sem
open Idealize.ShloMosaic.Pipeline (Dat)

/-! ## The shifts are reals -/

/-- The greatest of some reals, at least one, folded from the bottom, is a real. -/
theorem fold_max_real_on {ι : Type} (S : Finset ι) (hS : S.Nonempty) (f : ι → EReal) (hf : ∀ i, ∃ a : ℝ, f i = (a : EReal)) :
    ∃ M : ℝ, S.fold max (⊥ : EReal) f = (M : EReal) := by
  have hb : S.fold max (⊥ : EReal) f ≠ ⊥ := by
    obtain ⟨i, hi⟩ := hS
    rw [← bot_lt_iff_ne_bot, Finset.lt_fold_max]
    obtain ⟨a, ha⟩ := hf i
    exact .inr ⟨i, hi, ha ▸ EReal.bot_lt_coe _⟩
  have ht : S.fold max (⊥ : EReal) f ≠ ⊤ := by
    rw [← lt_top_iff_ne_top, Finset.fold_max_lt]
    refine ⟨bot_lt_top, fun i _ => ?_⟩
    obtain ⟨a, ha⟩ := hf i
    exact ha ▸ EReal.coe_lt_top _
  exact ⟨_, (EReal.coe_toReal ht hb).symm⟩

/-- A word whose exponent is not all ones denotes a real. -/
theorem ieee_real {w : Nat} (e m : Nat) (b : BitVec w) (h : (b.extractLsb' m e).toNat ≠ 2 ^ e - 1) :
    ∃ a : ℝ, Ideal.ieee e m b = (a : EReal) := by
  unfold Ideal.ieee
  simp only [if_neg h]
  split <;> exact ⟨_, rfl⟩

/-- The factor on the bound, a word of 32 bits, is a real. -/
theorem factor_real : ∃ a : ℝ, Ideal.ofBits .f32 0x3F828F5C#32 = (a : EReal) :=
  ieee_real 8 23 0x3F828F5C#32 (by decide)

/-- The shape of one element has one index. -/
theorem only_one (i : S1.Idx) : i = ix1 0 := by
  funext a
  match a with | ⟨0, _⟩ => exact Subsingleton.elim (α := Fin 1) _ _

/-- The one element of a vector of one element, reshaped. -/
theorem extract_one (y : FVec Ideal S1 .f32) :
    extractAt ![0, 0, 0, 0, 0] (shapeCast S1x1x1x1x1 y shapeCasts_S1_S1x1x1x1x1 : FVec Ideal S1x1x1x1x1 .f32)
      inpos_S1x1x1x1x1_p0_0_0_0_0 = y (ix1 0) := by
  unfold extractAt shapeCast
  exact congrArg y (only_one _)

/-- The greatest of a block of reals over all its axes is a real. -/
theorem max_block_real (y : FVec Ideal S1x1x4x8x128 .f32) (hy : ∀ i, ∃ a : ℝ, y i = (a : EReal))
    (h : Shape.Reduces S1x1x4x8x128 [1, 2, 3, 4] S1) (hφ : FKind.Formats .f32) (hacc : 0xFF800000#32 = FKind.maximumf.neutral .f32 hφ) :
    ∃ a : ℝ, multiReduction .maximumf [1, 2, 3, 4] S1 y 0xFF800000#32 h hφ hacc (ix1 0) = (a : EReal) := by
  rw [multiReduction_maximumf_eq_fold]
  have hne : (Finset.univ.filter fun i => h.drop i = ix1 0).Nonempty :=
    ⟨ix5 0 0 0 0 0, Finset.mem_filter.mpr ⟨Finset.mem_univ _, only_one _⟩⟩
  obtain ⟨M, hM⟩ := fold_max_real_on _ hne y hy
  refine ⟨M, ?_⟩
  rw [← hM, Ideal.ofBits_def, neg_inf]
  rfl

/-- The bound read off the greatest key norm. -/
theorem bound_form (x3 : Vec Ideal S1x4x8x128 .f32) :
    k0_pay2 (F := Ideal) x3 = (Ideal.ofBits .f32 0x3F828F5C#32 : EReal) *
      (multiReduction .maximumf [1, 2, 3, 4] S1 (shapeCast S1x1x4x8x128 x3 shapeCasts_S1x4x8x128_S1x1x4x8x128 : FVec Ideal S1x1x4x8x128 .f32)
        0xFF800000#32 reduces_S1x1x4x8x128_S1 (.inl rfl) rfl) (ix1 0) := by
  unfold k0_pay2
  dsimp only
  rw [extract_one]
  rfl

/-- The greatest key norm of a block of real key norms, times the factor, is a real. -/
theorem bound_real (x3 : Vec Ideal S1x4x8x128 .f32) (h3 : ∀ i, ∃ a : ℝ, x3 i = (a : EReal)) :
    ∃ a : ℝ, k0_pay2 (F := Ideal) x3 = (a : EReal) := by
  obtain ⟨f, hf⟩ := factor_real
  obtain ⟨M, hM⟩ := max_block_real (shapeCast S1x1x4x8x128 x3 shapeCasts_S1x4x8x128_S1x1x4x8x128) (fun i => h3 _)
    reduces_S1x1x4x8x128_S1 (.inl rfl) rfl
  refine ⟨f * M, ?_⟩
  rw [EReal.coe_mul, ← hf, ← hM]
  exact bound_form x3

/-- The shift of a query is a real where the query block and the key norms are. -/
theorem shifts_real (x0 : Vec Ideal S1x256x2048 .bf16) (x3 : Vec Ideal S1x4x8x128 .f32)
    (h0 : ∀ i, ∃ a : ℝ, x0 i = (a : EReal)) (h3 : ∀ i, ∃ a : ℝ, x3 i = (a : EReal)) (r : Fin 2048) :
    ∃ a : ℝ, shifts x0 x3 (ix2 0 r) = (a : EReal) := by
  obtain ⟨a, ha⟩ := bound_real (maxR x3) (fun i => h3 _)
  obtain ⟨b, hb⟩ := h0 (ix3 0 255 r)
  refine ⟨a * b, ?_⟩
  rw [EReal.coe_mul, ← ha, ← hb]
  unfold shifts k0_pay3 k0_pay1
  generalize k0_pay2 (F := Ideal) (maxR x3) = y
  pointwise [rowR]

/-! ## The score of a query and a key, and the result -/

/-- The score of the query and the head of the result's element `x` with the key `j`: the sum over the head's 256
    lanes. -/
def sc (q : S4x2048x4096.Idx → EReal) (k : S4x4096x2048.Idx → EReal) (x : S4x4096x1024.Idx) (j : Fin 4096) : EReal :=
  ∑ l : Fin 256, k (ix3 (x 0) j ⟨(x 2).val / 128 * 256 + l.val, by
      have h : (x 2).val < 1024 := (x 2).isLt
      omega⟩)
    * q (ix3 (x 0) ⟨(x 2).val / 128 * 256 + l.val, by
      have h : (x 2).val < 1024 := (x 2).isLt
      omega⟩ (x 1))

/-- The call's result: the values of the element's head and lane, weighted by the powers of two of the scores over
    their sum. -/
def result (q : S4x2048x4096.Idx → EReal) (k : S4x4096x2048.Idx → EReal) (v : S4x1024x4096.Idx → EReal)
    (x : S4x4096x1024.Idx) : EReal :=
  attend (fun j => v (ix3 (x 0) (x 2) j)) (fun j => (sc q k x j).toReal)

/-- The score of real queries and keys is a real. -/
theorem sc_real (q : S4x2048x4096.Idx → EReal) (k : S4x4096x2048.Idx → EReal) (hq : ∀ i, ∃ a : ℝ, q i = (a : EReal))
    (hk : ∀ i, ∃ a : ℝ, k i = (a : EReal)) (x : S4x4096x1024.Idx) (j : Fin 4096) :
    sc q k x j = ((sc q k x j).toReal : EReal) := by
  choose fq hfq using hq
  choose fk hfk using hk
  unfold sc
  simp only [hfq, hfk, ← EReal.coe_mul, ← coe_sum, EReal.toReal_coe]

/-! ## The blocks of a grid point -/

variable (m : (ℓ : Loc nD τ sig) → Buf (Elt Ideal) ℓ)

theorem ix_0 : ∀ t : Fin cfg0.N, win0_0.index t = ![(grid0.coords t 0).val, (grid0.coords t 1).val, (grid0.coords t 2).val] :=
  (by decide +kernel : ∀ t : Fin grid0.N, _)
theorem ix_1 : ∀ t : Fin cfg0.N, win0_1.index t = ![(grid0.coords t 0).val, 0, (grid0.coords t 1).val] :=
  (by decide +kernel : ∀ t : Fin grid0.N, _)
theorem ix_2 : ∀ t : Fin cfg0.N, win0_2.index t = ![(grid0.coords t 0).val, (grid0.coords t 1).val, 0] :=
  (by decide +kernel : ∀ t : Fin grid0.N, _)
theorem ix_3 : ∀ t : Fin cfg0.N, win0_3.index t = ![(grid0.coords t 0).val, 0, 0, 0] :=
  (by decide +kernel : ∀ t : Fin grid0.N, _)
theorem ix_4 : ∀ t : Fin cfg0.N, win0_4.index t = ![(grid0.coords t 0).val, (grid0.coords t 2).val, (grid0.coords t 1).val] :=
  (by decide +kernel : ∀ t : Fin grid0.N, _)

/-- The query block at a point: the head's lanes of 2048 queries. -/
theorem blk_0 (c : Dev nD) (t : Fin cfg0.N) (l : Fin 256) (r : Fin 2048) (h : (grid0.coords t 0).val < 4)
    (h' : (grid0.coords t 1).val * 256 + l.val < 2048) (h'' : (grid0.coords t 2).val * 2048 + r.val < 4096) :
    iblk m c 0 t (ix3 0 l r) = V m c main_arg0 (ix3 ⟨_, h⟩ ⟨_, h'⟩ ⟨_, h''⟩) := by
  blk_simp [iblk]
  refine congrArg (V m c main_arg0) ?_
  blk_ext [ix_0]

/-- The key block at a point: the head's lanes of all keys. -/
theorem blk_1 (c : Dev nD) (t : Fin cfg0.N) (j : Fin 4096) (l : Fin 256) (h : (grid0.coords t 0).val < 4)
    (h' : (grid0.coords t 1).val * 256 + l.val < 2048) :
    iblk m c 1 t (ix3 0 j l) = V m c main_arg1 (ix3 ⟨_, h⟩ j ⟨_, h'⟩) := by
  blk_simp [iblk]
  refine congrArg (V m c main_arg1) ?_
  blk_ext [ix_1]

/-- The value block at a point: the head's lanes of all values. -/
theorem blk_2 (c : Dev nD) (t : Fin cfg0.N) (l : Fin 128) (j : Fin 4096) (h : (grid0.coords t 0).val < 4)
    (h' : (grid0.coords t 1).val * 128 + l.val < 1024) :
    iblk m c 2 t (ix3 0 l j) = V m c main_arg2 (ix3 ⟨_, h⟩ ⟨_, h'⟩ j) := by
  blk_simp [iblk]
  refine congrArg (V m c main_arg2) ?_
  blk_ext [ix_2]

/-- Where the grid's coordinates lie. -/
theorem coords_lt (t : Fin cfg0.N) : (grid0.coords t 0).val < 4 ∧ (grid0.coords t 1).val < 8 ∧ (grid0.coords t 2).val < 2 :=
  ⟨(grid0.coords t 0).isLt, (grid0.coords t 1).isLt, (grid0.coords t 2).isLt⟩

/-- The array the call leaves, where queries, keys and key norms are reals. -/
theorem final_o (c : Dev nD) (hq : ∀ i, ∃ a : ℝ, V m c main_arg0 i = (a : EReal)) (hk : ∀ i, ∃ a : ℝ, V m c main_arg1 i = (a : EReal))
    (hn : ∀ i, ∃ a : ℝ, V m c main_arg3 i = (a : EReal)) :
    (dats m 0 c).arrAt 4 cfg0.N = result (V m c main_arg0) (V m c main_arg1) (V m c main_arg2) := by
  refine (dats m 0 c).arrAt_eq_of_covers 4 _ (by decide +kernel) fun t hf y => ?_
  blk_simp
  rw [after_4]
  obtain ⟨hb, hh, hi⟩ := coords_lt t
  idx_vars y
  have h1 : y1.val < 2048 := y1.isLt
  have h2 : y2.val < 128 := y2.isLt
  have hE : ((View.whole main_v0).slice (win0_4.rect t)).emb (ix3 y0 y1 y2)
      = ix3 ⟨(grid0.coords t 0).val, hb⟩ ⟨(grid0.coords t 2).val * 2048 + y1.val, by omega⟩
          ⟨(grid0.coords t 1).val * 128 + y2.val, by omega⟩ := by
    blk_ext [ix_4]
  rw [hE]
  obtain rfl : y0 = 0 := Subsingleton.elim (α := Fin 1) _ _
  unfold result
  have hv : ∀ j : Fin 4096, iblk m c 2 t (ix3 0 y2 j)
      = V m c main_arg2 (ix3 ⟨(grid0.coords t 0).val, hb⟩ ⟨(grid0.coords t 1).val * 128 + y2.val, by omega⟩ j) :=
    fun j => blk_2 m c t y2 j hb (by omega)
  refine (outB_apply (iblk m c 0 t) (iblk m c 1 t) (iblk m c 2 t) (iblk m c 3 t) y2 _ y1 (fun j => ?_) ?_).trans
    (congrArg (fun w => attend w _) (funext hv))
  · rw [← sc_real _ _ hq hk]
    unfold sc
    refine Finset.sum_congr rfl fun l _ => ?_
    have hl : l.val < 256 := l.isLt
    have e : (grid0.coords t 1).val * 256 + l.val
        = ((grid0.coords t 1).val * 128 + y2.val) / 128 * 256 + l.val := by omega
    rw [blk_0 m c t l y1 hb (by omega) (by omega), blk_1 m c t j l hb (by omega)]
    simp only [e]
    rfl
  · exact shifts_real _ _ (fun i => hq _) (fun i => hn _) y1

end Cert.KernelIdeal.Attn

end
-- ==== Proof.AttnRef.lean ====
/- The attention reference over the exact reals: at every element the softmax-weighted sum of the values. -/
module

public import proofs.«01_k».proof.Proof.Gen.ReferenceIdeal.Read
public import proofs.«01_k».proof.Proof.AttnMath
public import Idealize.ShloMosaic.Lib.Pointwise
public import Idealize.ShloMosaic.PureOps.Ideal.Laws

@[expose] public section

set_option maxRecDepth 16384

noncomputable section

namespace Cert.ReferenceIdeal.Attn

open Cert.ReferenceIdeal Cert.ReferenceIdeal.Read Cert.AttnMath
open Idealize.ShloMosaic

/-! ## The constants -/

/-- The base of the exponential's exponent: the logarithm of two. -/
theorem log_two (i : S4x8x4096x4096.Idx) : val_main_v14 (F := Ideal) i = ((Real.log 2 : ℝ) : EReal) := by
  have h2 : Ideal.ofBits .f32 0x40000000#32 = ((2 : ℝ) : EReal) := by
    simp [Ideal.ofBits, Ideal.ieee]
    rw [← EReal.coe_mul]
    norm_num
  rw [val_main_v14_apply, val_main_v13_apply, val_main_cst_apply, Ideal.hostUnary_log_def, Ideal.ofBits_def, h2,
    Ideal.log_coe, if_neg (by norm_num)]

theorem neg_inf_word : Ideal.ofBits .f32 0xFF800000#32 = (⊥ : EReal) := by
  simp [Ideal.ofBits, Ideal.ieee]

/-! ## Queries, keys and values by head -/

variable (x0 : S4x2048x4096.Idx → EReal) (x1 : S4x4096x2048.Idx → EReal) (x2 : S4x1024x4096.Idx → EReal)

/-- A query's lane in its head. -/
theorem query_at (b : Fin 4) (h : Fin 8) (l : Fin 256) (i : Fin 4096) (hl : h.val * 256 + l.val < 2048) :
    val_main_v1 (F := Ideal) x0 (ix4 b h l i) = x0 (ix3 b ⟨h.val * 256 + l.val, hl⟩ i) := by
  rw [val_main_v1_apply, val_main_v0_apply, Ideal.extf_def]
  refine congrArg x0 ?_
  have hb := b.isLt; have hh := h.isLt; have hl' := l.isLt; have hi := i.isLt
  funext a
  match a with
  | ⟨0, _⟩ => exact Fin.ext (by show (((b.val * 8 + h.val) * 256 + l.val) * 4096 + i.val) / 8388608 = b.val; omega)
  | ⟨1, _⟩ => exact Fin.ext (by
      show (((b.val * 8 + h.val) * 256 + l.val) * 4096 + i.val) / 4096 % 2048 = h.val * 256 + l.val; omega)
  | ⟨2, _⟩ => exact Fin.ext (by show (((b.val * 8 + h.val) * 256 + l.val) * 4096 + i.val) % 4096 = i.val; omega)

/-- A key's lane in its head. -/
theorem key_at (b : Fin 4) (j : Fin 4096) (h : Fin 8) (l : Fin 256) (hl : h.val * 256 + l.val < 2048) :
    val_main_v3 (F := Ideal) x1 (ix4 b j h l) = x1 (ix3 b j ⟨h.val * 256 + l.val, hl⟩) := by
  rw [val_main_v3_apply, val_main_v2_apply, Ideal.extf_def]
  refine congrArg x1 ?_
  have hb := b.isLt; have hh := h.isLt; have hl' := l.isLt; have hj := j.isLt
  funext a
  match a with
  | ⟨0, _⟩ => exact Fin.ext (by show (((b.val * 4096 + j.val) * 8 + h.val) * 256 + l.val) / 8388608 = b.val; omega)
  | ⟨1, _⟩ => exact Fin.ext (by show (((b.val * 4096 + j.val) * 8 + h.val) * 256 + l.val) / 2048 % 4096 = j.val; omega)
  | ⟨2, _⟩ => exact Fin.ext (by
      show (((b.val * 4096 + j.val) * 8 + h.val) * 256 + l.val) % 2048 = h.val * 256 + l.val; omega)

/-- A value's lane in its head. -/
theorem value_at (b : Fin 4) (h : Fin 8) (d : Fin 128) (j : Fin 4096) (hd : h.val * 128 + d.val < 1024) :
    val_main_v5 (F := Ideal) x2 (ix4 b h d j) = x2 (ix3 b ⟨h.val * 128 + d.val, hd⟩ j) := by
  rw [val_main_v5_apply, val_main_v4_apply, Ideal.extf_def]
  refine congrArg x2 ?_
  have hb := b.isLt; have hh := h.isLt; have hl' := d.isLt; have hj := j.isLt
  funext a
  match a with
  | ⟨0, _⟩ => exact Fin.ext (by show (((b.val * 8 + h.val) * 128 + d.val) * 4096 + j.val) / 4194304 = b.val; omega)
  | ⟨1, _⟩ => exact Fin.ext (by
      show (((b.val * 8 + h.val) * 128 + d.val) * 4096 + j.val) / 4096 % 1024 = h.val * 128 + d.val; omega)
  | ⟨2, _⟩ => exact Fin.ext (by show (((b.val * 8 + h.val) * 128 + d.val) * 4096 + j.val) % 4096 = j.val; omega)

/-! ## The scores -/

/-- The score over a head's 256 lanes, the last 64 of them zero in every key. -/
def score (b : Fin 4) (h : Fin 8) (i j : Fin 4096) : EReal :=
  ∑ l : Fin 256, x1 (ix3 b j ⟨h.val * 256 + l.val, by have := h.isLt; have := l.isLt; omega⟩)
    * x0 (ix3 b ⟨h.val * 256 + l.val, by have := h.isLt; have := l.isLt; omega⟩ i)

/-- The first sum of products is over the first 128 lanes. -/
theorem content_at (b : Fin 4) (h : Fin 8) (i j : Fin 4096) :
    val_main_v8 (F := Ideal) x0 x1 (ix4 b h i j)
      = ∑ l : Fin 128, x1 (ix3 b j ⟨h.val * 256 + l.val, by have := h.isLt; have := l.isLt; omega⟩)
          * x0 (ix3 b ⟨h.val * 256 + l.val, by have := h.isLt; have := l.isLt; omega⟩ i) := by
  rw [val_main_v8_apply]
  refine Finset.sum_congr rfl fun l _ => ?_
  have hh := h.isLt; have hl := l.isLt
  rw [val_main_v6_apply, val_main_v7_apply, mul_comm]
  have e0 : idx_main_v6 (lidx_main_v8 (ix4 b h i j) l) = ix4 b h ⟨l.val, by omega⟩ i := by
    funext a
    match a with | ⟨0, _⟩ => rfl | ⟨1, _⟩ => rfl | ⟨2, _⟩ => rfl | ⟨3, _⟩ => rfl
  have e1 : idx_main_v7 (ridx_main_v8 (ix4 b h i j) l) = ix4 b j h ⟨l.val, by omega⟩ := by
    funext a
    match a with | ⟨0, _⟩ => rfl | ⟨1, _⟩ => rfl | ⟨2, _⟩ => rfl | ⟨3, _⟩ => rfl
  rw [e0, e1, query_at x0 b h _ i (by show h.val * 256 + l.val < 2048; omega),
    key_at x1 b j h _ (by show h.val * 256 + l.val < 2048; omega)]

/-- The second sum of products is over the next 64 lanes. -/
theorem rope_at (b : Fin 4) (h : Fin 8) (i j : Fin 4096) :
    val_main_v11 (F := Ideal) x0 x1 (ix4 b h i j)
      = ∑ l : Fin 64, x1 (ix3 b j ⟨h.val * 256 + (128 + l.val), by have := h.isLt; have := l.isLt; omega⟩)
          * x0 (ix3 b ⟨h.val * 256 + (128 + l.val), by have := h.isLt; have := l.isLt; omega⟩ i) := by
  rw [val_main_v11_apply]
  refine Finset.sum_congr rfl fun l _ => ?_
  have hh := h.isLt; have hl := l.isLt
  rw [val_main_v9_apply, val_main_v10_apply, mul_comm]
  have e0 : idx_main_v9 (lidx_main_v11 (ix4 b h i j) l) = ix4 b h ⟨128 + l.val, by omega⟩ i := by
    funext a
    match a with | ⟨0, _⟩ => rfl | ⟨1, _⟩ => rfl | ⟨2, _⟩ => rfl | ⟨3, _⟩ => rfl
  have e1 : idx_main_v10 (ridx_main_v11 (ix4 b h i j) l) = ix4 b j h ⟨128 + l.val, by omega⟩ := by
    funext a
    match a with | ⟨0, _⟩ => rfl | ⟨1, _⟩ => rfl | ⟨2, _⟩ => rfl | ⟨3, _⟩ => rfl
  rw [e0, e1, query_at x0 b h _ i (by show h.val * 256 + (128 + l.val) < 2048; omega),
    key_at x1 b j h _ (by show h.val * 256 + (128 + l.val) < 2048; omega)]

/-- A sum over 256 lanes whose last 64 terms vanish. -/
theorem sum_lanes (f : Fin 256 → EReal) (hf : ∀ l : Fin 256, 192 ≤ l.val → f l = 0) :
    ∑ l, f l = (∑ l : Fin 128, f ⟨l.val, by have := l.isLt; omega⟩)
      + ∑ l : Fin 64, f ⟨128 + l.val, by have := l.isLt; omega⟩ := by
  have hz : ∑ l : Fin 64, f (Fin.natAdd 192 l) = 0 :=
    Finset.sum_eq_zero fun l _ => hf _ (by simp [Fin.natAdd])
  have h1 : ∑ l : Fin (192 + 64), f l
      = (∑ l : Fin 192, f (Fin.castAdd 64 l)) + ∑ l : Fin 64, f (Fin.natAdd 192 l) := Fin.sum_univ_add (a := 192) (b := 64) f
  have h2 : ∑ l : Fin (128 + 64), f (Fin.castAdd 64 l)
      = (∑ l : Fin 128, f (Fin.castAdd 64 (Fin.castAdd 64 l))) + ∑ l : Fin 64, f (Fin.castAdd 64 (Fin.natAdd 128 l)) :=
    Fin.sum_univ_add (a := 128) (b := 64) fun l => f (Fin.castAdd 64 l)
  rw [hz, add_zero] at h1
  exact h1.trans h2

/-- Keys whose last 64 lanes of every head are zero. -/
def Padded : Prop := ∀ (b : Fin 4) (j : Fin 4096) (l : Fin 2048), 192 ≤ l.val % 256 → x1 (ix3 b j l) = 0

/-- The reference's score. -/
theorem score_at (hp : Padded x1) (b : Fin 4) (h : Fin 8) (i j : Fin 4096) :
    val_main_v12 (F := Ideal) x0 x1 (ix4 b h i j) = score x0 x1 b h i j := by
  rw [val_main_v12_apply, content_at, rope_at, Ideal.addf_def]
  unfold score
  refine (sum_lanes (fun l => x1 (ix3 b j ⟨h.val * 256 + l.val, by have := h.isLt; have := l.isLt; omega⟩)
    * x0 (ix3 b ⟨h.val * 256 + l.val, by have := h.isLt; have := l.isLt; omega⟩ i)) fun l hl => ?_).symm
  have hl' := l.isLt
  rw [hp b j _ (by show 192 ≤ (h.val * 256 + l.val) % 256; omega), zero_mul]

/-! ## The softmax -/

/-- The greatest exponent of a query is a real. -/
theorem top_at (hs : ∀ i, ∃ a : ℝ, val_main_v15 (F := Ideal) x0 x1 i = (a : EReal)) (i : S4x8x4096.Idx) :
    ∃ M : ℝ, val_main_v18 (F := Ideal) x0 x1 i = (M : EReal) := by
  choose f hf using hs
  rw [val_main_v18_apply, val_main_v17_apply, val_main_cst_1_apply, Ideal.ofBits_def, neg_inf_word]
  unfold val_main_v16
  rw [Host.reduce_eq_fold_single FloatOps.maximumf _ _ Gen.reducesTo_S4x8x4096x4096_S4x8x4096_d3 (by decide) Gen.h_S_]
  obtain ⟨M, hM⟩ := fold_max_real (fun k : Fin 4096 => f ((show S4x8x4096x4096.Reduces [3] S4x8x4096 by decide).lift i k))
  refine ⟨M, ?_⟩
  rw [← hM, Ideal.maximumf_def, val_main_cst_0_apply, Ideal.ofBits_def, neg_inf_word, max_eq_right bot_le]
  exact congrArg (Finset.fold max (⊥ : EReal) · Finset.univ) (funext fun k => hf _)

/-- The weight of a key: its power of two over the total. -/
theorem weight_at (hp : Padded x1) (hr : ∀ b h i j, score x0 x1 b h i j = ((score x0 x1 b h i j).toReal : EReal))
    (b : Fin 4) (h : Fin 8) (i j : Fin 4096) :
    val_main_v26 (F := Ideal) x0 x1 (ix4 b h i j)
      = (((2 : ℝ) ^ (score x0 x1 b h i j).toReal / mass (fun k => (score x0 x1 b h i k).toReal) : ℝ) : EReal) := by
  have h15 (b : Fin 4) (h : Fin 8) (i j : Fin 4096) : val_main_v15 (F := Ideal) x0 x1 (ix4 b h i j)
      = ((score x0 x1 b h i j).toReal : EReal) * ((Real.log 2 : ℝ) : EReal) := by
    rw [val_main_v15_apply, log_two, score_at x0 x1 hp, Ideal.mulf_def, ← hr]
  have hs : ∀ i, ∃ a : ℝ, val_main_v15 (F := Ideal) x0 x1 i = (a : EReal) := fun i => by
    obtain ⟨b', h', i', j', rfl⟩ : ∃ (b : Fin 4) (h : Fin 8) (p q : Fin 4096), i = ix4 b h p q :=
      ⟨i 0, i 1, i 2, i 3, by
        funext a
        match a with | ⟨0, _⟩ => rfl | ⟨1, _⟩ => rfl | ⟨2, _⟩ => rfl | ⟨3, _⟩ => rfl⟩
    exact ⟨(score x0 x1 b' h' i' j').toReal * Real.log 2, by rw [EReal.coe_mul, h15]⟩
  obtain ⟨M, hM⟩ := top_at x0 x1 hs (ix3 b h i)
  have h22 (k : Fin 4096) : val_main_v22 (F := Ideal) x0 x1 (ix4 b h i k)
      = Ideal.exp (((score x0 x1 b h i k).toReal : EReal) * ((Real.log 2 : ℝ) : EReal) - (M : EReal)) := by
    rw [val_main_v22_apply, val_main_v21_apply, val_main_v20_apply, val_main_v19_apply, h15, Ideal.hostUnary_exp_def,
      Ideal.subf_def]
    have e : idx_main_v19 (idx_main_v20 (ix4 b h i k)) = ix3 b h i := by
      funext a
      match a with | ⟨0, _⟩ => rfl | ⟨1, _⟩ => rfl | ⟨2, _⟩ => rfl
    rw [e, hM]
  rw [val_main_v26_apply, val_main_v25_apply, val_main_v24_apply, val_main_v23_apply, h22, Ideal.hostDivf_def,
    val_main_cst_2_apply, Ideal.ofBits_def, Ideal.ofBits_zero_f32]
  refine Eq.trans ?_ (textbook (fun k => (score x0 x1 b h i k).toReal) M j)
  refine congrArg (fun z => Ideal.div _ (0 + z)) (Finset.sum_congr rfl fun k _ => ?_)
  rw [← h22]
  refine congrArg _ ?_
  funext a
  match a with | ⟨0, _⟩ => rfl | ⟨1, _⟩ => rfl | ⟨2, _⟩ => rfl | ⟨3, _⟩ => rfl

/-- The reference's result: the values of the element's head and lane, weighted by the powers of two of the scores
    over their sum. -/
theorem result_at (hp : Padded x1) (hr : ∀ b h i j, score x0 x1 b h i j = ((score x0 x1 b h i j).toReal : EReal))
    (b : Fin 4) (i : Fin 4096) (n : Fin 1024) :
    val_main_v30 (F := Ideal) x0 x1 x2 (ix3 b i n)
      = attend (fun j => x2 (ix3 b n j))
          (fun j => (score x0 x1 b ⟨n.val / 128, by have := n.isLt; omega⟩ i j).toReal) := by
  have h0 := b.isLt; have h1 := i.isLt; have h2 := n.isLt
  rw [val_main_v30_apply, val_main_v29_apply, val_main_v28_apply, Ideal.truncf_def]
  have e : idx_main_v28 (idx_main_v29 (ix3 b i n))
      = ix4 b ⟨n.val / 128, by omega⟩ ⟨n.val % 128, by omega⟩ i := by
    funext a
    match a with
    | ⟨0, _⟩ => exact Fin.ext (by
        show ((b.val * 4096 + i.val) * 1024 + n.val) / 4194304 = b.val; omega)
    | ⟨1, _⟩ => exact Fin.ext (by
        show ((b.val * 4096 + i.val) * 1024 + n.val) / 128 % 8 = n.val / 128; omega)
    | ⟨2, _⟩ => exact Fin.ext (by
        show ((b.val * 4096 + i.val) * 1024 + n.val) % 128 = n.val % 128; omega)
    | ⟨3, _⟩ => exact Fin.ext (by
        show ((b.val * 4096 + i.val) * 1024 + n.val) / 1024 % 4096 = i.val; omega)
  rw [e, val_main_v27_apply]
  unfold attend
  refine Finset.sum_congr rfl fun k _ => ?_
  have e1 : lidx_main_v27 (ix4 b ⟨n.val / 128, by omega⟩ ⟨n.val % 128, by omega⟩ i) k
      = ix4 b ⟨n.val / 128, by omega⟩ ⟨n.val % 128, by omega⟩ k := by
    funext a
    match a with | ⟨0, _⟩ => rfl | ⟨1, _⟩ => rfl | ⟨2, _⟩ => rfl | ⟨3, _⟩ => rfl
  have e2 : ridx_main_v27 (ix4 b ⟨n.val / 128, by omega⟩ ⟨n.val % 128, by omega⟩ i) k
      = ix4 b ⟨n.val / 128, by omega⟩ i k := by
    funext a
    match a with | ⟨0, _⟩ => rfl | ⟨1, _⟩ => rfl | ⟨2, _⟩ => rfl | ⟨3, _⟩ => rfl
  rw [e1, e2, weight_at x0 x1 hp hr,
    value_at x2 b ⟨n.val / 128, by omega⟩ ⟨n.val % 128, by omega⟩ k
      (by show n.val / 128 * 128 + n.val % 128 < 1024; omega)]
  refine congrArg (fun n' => x2 (ix3 b n' k) * _) (Fin.ext ?_)
  show n.val / 128 * 128 + n.val % 128 = n.val
  omega

end Cert.ReferenceIdeal.Attn

end
-- ==== Proof.AttnPre.lean ====
/- What the attention's precondition says of its arguments. -/
module

public import proofs.«01_k».proof.Pre_packed_finite
public import Idealize.ShloMosaic.Lib.Pointwise
public import Idealize.ShloMosaic.PureOps.Ideal.Laws

@[expose] public section

set_option maxRecDepth 16384

noncomputable section

namespace Cert.AttnPre

open Cert.Pre_packed_finite
open Idealize.ShloMosaic

variable [Facts]

theorem pos_inf_word : Ideal.ofBits .f32 0x7F800000#32 = (⊤ : EReal) := by
  simp [Ideal.ofBits, Ideal.ieee]

/-- An extended real whose absolute value is below the top is a real. -/
theorem real_of_abs (x : EReal) (h : Ideal.cmp .olt (max x (-x)) (⊤ : EReal) = 1#1) : ∃ a : ℝ, x = (a : EReal) := by
  have h' : max x (-x) < ⊤ := (Ideal.cmp_olt_eq_one _ _).mp h
  have h1 : x ≠ ⊤ := fun e => by simp [e] at h'
  have h2 : x ≠ ⊥ := fun e => by simp [e] at h'
  exact ⟨_, (EReal.coe_toReal h1 h2).symm⟩

variable (a0 : FVec Ideal S4x2048x4096 .bf16) (a1 : FVec Ideal S4x4096x2048 .bf16) (a2 : FVec Ideal S4x1024x4096 .bf16)
  (a3 : FVec Ideal S4x4x8x128 .f32)

/-- The first clause: every query is a real. -/
theorem query_real (h : (fn (F := Ideal) a0 a1 a2 a3).1 = fun _ => 1#1) (i : S4x2048x4096.Idx) :
    ∃ a : ℝ, a0 i = (a : EReal) := by
  refine real_of_abs _ ?_
  refine Eq.trans ?_ (congrFun h i)
  rw [← pos_inf_word]
  rfl

/-- The third clause: every key norm is a real. -/
theorem norm_real (h : (fn (F := Ideal) a0 a1 a2 a3).2.2 = fun _ => 1#1) (i : S4x4x8x128.Idx) :
    ∃ a : ℝ, a3 i = (a : EReal) := by
  refine real_of_abs _ ?_
  refine Eq.trans ?_ (congrFun h i)
  rw [← pos_inf_word]
  rfl

theorem both_of_and (x y : BitVec 1) (h : x &&& y = 1#1) : x = 1#1 ∧ y = 1#1 := by
  revert x y; decide

theorem right_of_or (x y : BitVec 1) (hx : x = 1#1) (h : ~~~x ||| y = 1#1) : y = 1#1 := by
  revert x y; decide

/-- The lane test of the second clause, on words. -/
theorem lane_word : ∀ l : Fin 2048, 192 ≤ l.val % 256 →
    IntOp.cmpi .sge (IntOp.remsi .host (BitVec.ofNat 32 l.val) 256#32) 192#32 = 1#1 := by
  decide +kernel

/-- The second clause at an element, split. -/
theorem key_clause (h : (fn (F := Ideal) a0 a1 a2 a3).2.1 = fun _ => 1#1) (b : Fin 4) (j : Fin 4096) (l : Fin 2048) :
    Ideal.cmp .olt (max (a1 (ix3 b j l)) (-(a1 (ix3 b j l)))) (⊤ : EReal) = 1#1
      ∧ ~~~(IntOp.cmpi .sge (IntOp.remsi .host (BitVec.ofNat 32 l.val) 256#32) 192#32)
          ||| Ideal.cmp .oeq (a1 (ix3 b j l)) (Ideal.ofBits .f32 0x00000000#32) = 1#1 := by
  refine both_of_and _ _ ?_
  refine Eq.trans ?_ (congrFun h (ix3 b j l))
  rw [← pos_inf_word]
  rfl

/-- Every key is a real. -/
theorem key_real (h : (fn (F := Ideal) a0 a1 a2 a3).2.1 = fun _ => 1#1) (b : Fin 4) (j : Fin 4096) (l : Fin 2048) :
    ∃ a : ℝ, a1 (ix3 b j l) = (a : EReal) :=
  real_of_abs _ (key_clause a0 a1 a2 a3 h b j l).1

/-- The last 64 lanes of every head of a key are zero. -/
theorem key_pad (h : (fn (F := Ideal) a0 a1 a2 a3).2.1 = fun _ => 1#1) (b : Fin 4) (j : Fin 4096) (l : Fin 2048)
    (hl : 192 ≤ l.val % 256) : a1 (ix3 b j l) = (0 : EReal) := by
  have h2 := right_of_or _ _ (lane_word l hl) (key_clause a0 a1 a2 a3 h b j l).2
  rw [Ideal.ofBits_zero_f32] at h2
  exact (Ideal.cmp_oeq_eq_one _ _).mp h2

end Cert.AttnPre

end
-- ==== Proof.AttnClaim.lean ====
/- The attention call computes the attention reference, over the exact reals. -/
module

public import proofs.«01_k».proof.Defs
public import proofs.«01_k».proof.Proof.AttnValue
public import proofs.«01_k».proof.Proof.AttnRef
public import proofs.«01_k».proof.Proof.AttnPre
public import proofs.«01_k».proof.Proof.Gen.Pre_packed_finite

@[expose] public section

set_option maxRecDepth 16384

noncomputable section

namespace Cert.AttnClaim

open Idealize.ShloMosaic Idealize.ShloMosaic.TcCoe Idealize.SL.Sem Cert.AttnMath

/-- The two spellings of the score of an element of the result. -/
theorem score_eq (q : Cert.KernelIdeal.S4x2048x4096.Idx → EReal) (k : Cert.KernelIdeal.S4x4096x2048.Idx → EReal)
    (b : Fin 4) (i : Fin 4096) (n : Fin 1024) (j : Fin 4096) :
    Cert.KernelIdeal.Attn.sc q k (ix3 b i n) j
      = Cert.ReferenceIdeal.Attn.score q k b ⟨n.val / 128, by have := n.isLt; omega⟩ i j := rfl

/-- Every score of a reference on real queries and keys is a real. -/
theorem score_real (q : Cert.KernelIdeal.S4x2048x4096.Idx → EReal) (k : Cert.KernelIdeal.S4x4096x2048.Idx → EReal)
    (hq : ∀ i, ∃ a : ℝ, q i = (a : EReal)) (hk : ∀ i, ∃ a : ℝ, k i = (a : EReal)) (b : Fin 4) (h : Fin 8) (i j : Fin 4096) :
    Cert.ReferenceIdeal.Attn.score q k b h i j = ((Cert.ReferenceIdeal.Attn.score q k b h i j).toReal : EReal) := by
  choose fq hfq using hq
  choose fk hfk using hk
  unfold Cert.ReferenceIdeal.Attn.score
  simp only [hfq, hfk, ← EReal.coe_mul, ← coe_sum, EReal.toReal_coe]

/-- An index of the keys is its coordinates. -/
theorem key_index (i : Cert.KernelIdeal.S4x4096x2048.Idx) : ∃ (b : Fin 4) (j : Fin 4096) (l : Fin 2048), i = ix3 b j l :=
  ⟨i 0, i 1, i 2, by
    funext a
    match a with | ⟨0, _⟩ => rfl | ⟨1, _⟩ => rfl | ⟨2, _⟩ => rfl⟩

/-- The reference's result is the call's. -/
theorem result_eq (q : Cert.KernelIdeal.S4x2048x4096.Idx → EReal) (k : Cert.KernelIdeal.S4x4096x2048.Idx → EReal)
    (v : Cert.KernelIdeal.S4x1024x4096.Idx → EReal) (hq : ∀ i, ∃ a : ℝ, q i = (a : EReal))
    (hk : ∀ i, ∃ a : ℝ, k i = (a : EReal)) (hp : Cert.ReferenceIdeal.Attn.Padded k) :
    Cert.ReferenceIdeal.Read.val_main_v30 (F := Ideal) q k v = Cert.KernelIdeal.Attn.result q k v := by
  funext x
  obtain ⟨b, i, n, rfl⟩ : ∃ (b : Fin 4) (i : Fin 4096) (n : Fin 1024), x = ix3 b i n :=
    ⟨x 0, x 1, x 2, by
      funext a
      match a with | ⟨0, _⟩ => rfl | ⟨1, _⟩ => rfl | ⟨2, _⟩ => rfl⟩
  rw [Cert.ReferenceIdeal.Attn.result_at q k v hp (score_real q k hq hk)]
  rfl

/-- From memories agreeing on the arguments, the call and the reference end with the same array, and leave their
    arguments as they were. -/
theorem algebraic : algebraic_KernelIdeal_ReferenceIdeal_pre_packed_finite (hKernelIdeal := Cert.KernelIdeal.Gen.facts)
    (hReferenceIdeal := Cert.ReferenceIdeal.Gen.facts) (hPre_packed_finite := Cert.Pre_packed_finite.Gen.facts) := by
  intro m g m' g' hpre hagree
  have hq (c : Dev Cert.KernelIdeal.nD) := AttnPre.query_real _ _ _ _ (hpre c).1
  have hk (c : Dev Cert.KernelIdeal.nD) (i : Cert.KernelIdeal.S4x4096x2048.Idx) :
      ∃ a : ℝ, m ((c.tc : Thread Cert.KernelIdeal.nD Cert.KernelIdeal.τ).loc Cert.KernelIdeal.main_arg1) i = (a : EReal) := by
    obtain ⟨b, j, l, rfl⟩ := key_index i
    exact AttnPre.key_real _ _ _ _ (hpre c).2.1 b j l
  have hp (c : Dev Cert.KernelIdeal.nD) : Cert.ReferenceIdeal.Attn.Padded
      (m ((c.tc : Thread Cert.KernelIdeal.nD Cert.KernelIdeal.τ).loc Cert.KernelIdeal.main_arg1)) :=
    fun b j l hl => AttnPre.key_pad _ _ _ _ (hpre c).2.1 b j l hl
  have hn (c : Dev Cert.KernelIdeal.nD) := AttnPre.norm_real _ _ _ _ (hpre c).2.2
  refine ⟨fun c => Cert.KernelIdeal.Attn.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_)
      (θ_run_and (Cert.KernelIdeal.Attn.run_main (F := Ideal) m g) (Cert.KernelIdeal.Attn.unchanged (F := Ideal) m g))
    exact ⟨((h.1 c).1 4).trans (Cert.KernelIdeal.Attn.final_o m c (hq c) (hk c) (hn c)), h.2 c⟩
  · refine (θ_run _ _ _).mono (fun r h c => ⟨(h c).1.trans ?_, (h c).2⟩) (Cert.ReferenceIdeal.Value.run (F := Ideal) m' g')
    rw [Cert.ReferenceIdeal.Read.val_main_v30_eq, (hagree c).1, (hagree c).2.1, (hagree c).2.2.1]
    exact result_eq _ _ _ (hq c) (hk c) (hp c)

end Cert.AttnClaim

end
-- ==== Proof.FfnMath.lean ====
/- The mathematics of the feed-forward block over the exact reals: a root-mean-square norm of a row, the gated unit, and
   a sum over the hidden lanes taken in eleven chunks. -/
module

public import Idealize.ShloMosaic.PureOps.Ideal.Laws

@[expose] public section

noncomputable section

namespace Cert.FfnMath

open Idealize.ShloMosaic

/-- The norm of a row `y` with gains `g`: each element over the root of the mean square, plus a small constant. -/
def rms (y g : Fin 1024 → EReal) (d : Fin 1024) : EReal :=
  y d * Ideal.rsqrt (Ideal.div (∑ k, y k * y k) (Ideal.ofBits .f32 0x44800000#32) + Ideal.ofBits .f32 0x358637BD#32) * g d

/-- A gated element: `g` over one plus the exponential of its negation, times `u`. -/
def gated (g u : EReal) : EReal := Ideal.div g (1 + Ideal.exp (0 - g)) * u

/-- The gated unit's output for a normed row `n`, at a lane of the model. -/
def swiglu (n : Fin 1024 → EReal) (wg wu : Fin 1024 → Fin 2816 → EReal) (wd : Fin 2816 → Fin 1024 → EReal)
    (o : Fin 1024) : EReal :=
  ∑ f, gated (∑ k, n k * wg k f) (∑ k, n k * wu k f) * wd f o

/-- The feed-forward block of a row: the row plus the norm of the gated unit's output on its norm, the gains of the
    second norm halved. -/
def block (x pre : Fin 1024 → EReal) (wg wu : Fin 1024 → Fin 2816 → EReal) (wd : Fin 2816 → Fin 1024 → EReal)
    (post : Fin 1024 → EReal) (o : Fin 1024) : EReal :=
  x o + rms (swiglu (rms x pre) wg wu wd) (fun d => Ideal.ofBits .f32 0x3F000000#32 * post d) o

/-- The residual stream after the mixer, on a row: the row plus the norm of the attention's projection. -/
def mixed (x a : Fin 1024 → EReal) (w : Fin 1024 → Fin 1024 → EReal) (g : Fin 1024 → EReal) (d : Fin 1024) : EReal :=
  x d + rms (fun o => ∑ k, a k * w k o) g d

/-- A factor on the gains is a factor on the norm. -/
theorem rms_scale (y g : Fin 1024 → EReal) (c : EReal) (d : Fin 1024) :
    rms y (fun k => c * g k) d = c * rms y g d := by
  unfold rms
  rw [← mul_assoc, mul_comm _ c, mul_assoc]

/-- The gate through a quotient of one. -/
theorem gated_logistic (g u : EReal) : g * Ideal.div 1 (1 + Ideal.exp (-g)) * u = gated g u := by
  have h0 : (0 : EReal) ≤ Ideal.exp (-g) := by
    induction -g using EReal.rec with
    | bot => exact le_rfl
    | coe r => rw [Ideal.exp_coe]; exact_mod_cast (Real.exp_pos r).le
    | top => exact le_top
  have h1 : (1 + Ideal.exp (-g) : EReal) ≠ 0 := by
    have : (0 : EReal) < 1 + Ideal.exp (-g) := lt_of_lt_of_le zero_lt_one (le_add_of_nonneg_right h0)
    exact this.ne'
  unfold gated Ideal.div
  rw [zero_sub, if_neg h1, if_neg h1, one_mul]

/-- The `c`-th of the eleven chunks of a sum over the hidden lanes. -/
def chunk (F : Fin 2816 → EReal) (c : Nat) (hc : c < 11) : EReal :=
  ∑ l : Fin 256, F ⟨c * 256 + l.val, by have := l.isLt; omega⟩

/-- A sum over the first `n + 1` chunks. -/
theorem sum_step (F : Fin 2816 → EReal) (n : Nat) (hn : n < 11) :
    ∑ l : Fin (n * 256 + 256), F ⟨l.val, by have := l.isLt; omega⟩
      = (∑ l : Fin (n * 256), F ⟨l.val, by have := l.isLt; omega⟩) + chunk F n hn :=
  Fin.sum_univ_add (a := n * 256) (b := 256) fun l => F ⟨l.val, by have := l.isLt; omega⟩

/-- A sum over the hidden lanes is its eleven chunks added in order. -/
theorem sum_chunks (F : Fin 2816 → EReal) :
    ∑ f, F f = chunk F 0 (by decide) + chunk F 1 (by decide) + chunk F 2 (by decide) + chunk F 3 (by decide)
      + chunk F 4 (by decide) + chunk F 5 (by decide) + chunk F 6 (by decide) + chunk F 7 (by decide)
      + chunk F 8 (by decide) + chunk F 9 (by decide) + chunk F 10 (by decide) := by
  have h0 : ∑ l : Fin (0 * 256 + 256), F ⟨l.val, by have := l.isLt; omega⟩ = chunk F 0 (by decide) := by
    rw [sum_step F 0 (by decide)]
    exact (congrArg (· + _) (Finset.sum_eq_zero fun l _ => absurd l.isLt (by omega))).trans (zero_add _)
  have h1 := (sum_step F 1 (by decide)).trans (congrArg (· + _) h0)
  have h2 := (sum_step F 2 (by decide)).trans (congrArg (· + _) h1)
  have h3 := (sum_step F 3 (by decide)).trans (congrArg (· + _) h2)
  have h4 := (sum_step F 4 (by decide)).trans (congrArg (· + _) h3)
  have h5 := (sum_step F 5 (by decide)).trans (congrArg (· + _) h4)
  have h6 := (sum_step F 6 (by decide)).trans (congrArg (· + _) h5)
  have h7 := (sum_step F 7 (by decide)).trans (congrArg (· + _) h6)
  have h8 := (sum_step F 8 (by decide)).trans (congrArg (· + _) h7)
  have h9 := (sum_step F 9 (by decide)).trans (congrArg (· + _) h8)
  exact (sum_step F 10 (by decide)).trans (congrArg (· + _) h9)

end Cert.FfnMath

end
-- ==== Proof.FfnBlock.lean ====
/- The feed-forward call's blocks of a grid point, read at a row and a lane over the exact reals. -/
module

public import proofs.«01_k».proof.Proof.Gen.FfnIdeal.Value
public import proofs.«01_k».proof.Proof.FfnMath
public import Idealize.ShloMosaic.Lib.Pointwise
public import Idealize.ShloMosaic.Lib.Pipeline.ValueKit

@[expose] public section

set_option maxRecDepth 16384

noncomputable section

namespace Cert.FfnIdeal.Calc

open Cert.FfnIdeal Cert.FfnIdeal.Gen Cert.FfnMath
open Idealize.ShloMosaic

/-! ## The body's steps as vectors -/

/-- The norm of a block's rows. -/
def normed (y : FVec Ideal S512x1024 .f32) (g : FVec Ideal S1x1024 .f32) : FVec Ideal S512x1024 .f32 := k0_pay2 y g

/-- A chunk of a projection of the normed rows. -/
def proj (n : FVec Ideal S512x1024 .f32) (w : FVec Ideal S1024x256 .f32) : FVec Ideal S512x256 .f32 :=
  matmul dot_S512x1024_S1024x256_S512x256_1_0_0_1_n_n none n w (constant S512x256 .f32 0x00000000#32)

/-- The gate on a chunk. -/
def gate (g u : FVec Ideal S512x256 .f32) : FVec Ideal S512x256 .f32 :=
  mulf (divf g (addf (broadcast S512x256 (Scalar.ofBits .f32 0x3F800000#32))
    (exp (subf (broadcast S512x256 (Scalar.ofBits .f32 0x00000000#32)) g)))) u

/-- A chunk's part of the output. -/
def part (n : FVec Ideal S512x1024 .f32) (wg wu : FVec Ideal S1024x256 .f32) (wd : FVec Ideal S256x1024 .f32) :
    FVec Ideal S512x1024 .f32 :=
  matmul dot_S512x256_S256x1024_S512x1024_1_0_0_1_n_n none (gate (proj n wg) (proj n wu)) wd
    (constant S512x1024 .f32 0x00000000#32)

/-! ## Read at a row and a lane -/

theorem normed_apply (y : FVec Ideal S512x1024 .f32) (g : FVec Ideal S1x1024 .f32) (r : Fin 512) (d : Fin 1024) :
    normed y g (ix2 r d) = rms (fun k => y (ix2 r k)) (fun k => g (ix2 0 k)) d := by
  unfold normed rms
  pointwise [k0_pay2]

theorem proj_apply (n : FVec Ideal S512x1024 .f32) (w : FVec Ideal S1024x256 .f32) (r : Fin 512) (l : Fin 256) :
    proj n w (ix2 r l) = ∑ k : Fin 1024, (n (ix2 r k) : EReal) * w (ix2 k l) := by
  pointwise [proj]

theorem gate_apply (g u : FVec Ideal S512x256 .f32) (r : Fin 512) (l : Fin 256) :
    gate g u (ix2 r l) = gated (g (ix2 r l)) (u (ix2 r l)) := by
  unfold gated
  pointwise [gate]

theorem part_apply (n : FVec Ideal S512x1024 .f32) (wg wu : FVec Ideal S1024x256 .f32) (wd : FVec Ideal S256x1024 .f32)
    (r : Fin 512) (o : Fin 1024) :
    part n wg wu wd (ix2 r o) = ∑ l : Fin 256,
      gated (∑ k : Fin 1024, (n (ix2 r k) : EReal) * wg (ix2 k l)) (∑ k : Fin 1024, (n (ix2 r k) : EReal) * wu (ix2 k l))
        * wd (ix2 l o) := by
  unfold part
  generalize hh : gate (proj n wg) (proj n wu) = h
  have e (l : Fin 256) : h (ix2 r l) = gated (∑ k : Fin 1024, (n (ix2 r k) : EReal) * wg (ix2 k l))
      (∑ k : Fin 1024, (n (ix2 r k) : EReal) * wu (ix2 k l)) := by
    rw [← hh, gate_apply, proj_apply, proj_apply]
  simp only [← e]
  pointwise

/-! ## A chunk of the weights, and the whole body -/

/-- The output's part of the chunk of hidden lanes from `o` on. -/
def piece (n : FVec Ideal S512x1024 .f32) (wg wu : Vec Ideal S1024x2816 .f32) (wd : Vec Ideal S2816x1024 .f32) (o : Nat)
    (h : ∀ a, (![0, o] : Fin 2 → Nat) a + (![1024, 256] : Fin 2 → Nat) a ≤ S1024x2816.size a)
    (h' : ∀ a, (![o, 0] : Fin 2 → Nat) a + (![256, 1024] : Fin 2 → Nat) a ≤ S2816x1024.size a) : FVec Ideal S512x1024 .f32 :=
  part n (View.ld wg (Rect.unit ![0, o] ![1024, 256] h)) (View.ld wu (Rect.unit ![0, o] ![1024, 256] h))
    (View.ld wd (Rect.unit ![o, 0] ![256, 1024] h'))

theorem cols_apply (w : Vec Ideal S1024x2816 .f32) (o : Nat)
    (h : ∀ a, (![0, o] : Fin 2 → Nat) a + (![1024, 256] : Fin 2 → Nat) a ≤ S1024x2816.size a) (k : Fin 1024) (l : Fin 256)
    (hl : o + l.val < 2816) :
    View.ld w (Rect.unit ![0, o] ![1024, 256] h) (ix2 k l) = w (ix2 k ⟨o + l.val, hl⟩) := by
  pointwise

theorem rows_apply (w : Vec Ideal S2816x1024 .f32) (o : Nat)
    (h : ∀ a, (![o, 0] : Fin 2 → Nat) a + (![256, 1024] : Fin 2 → Nat) a ≤ S2816x1024.size a) (l : Fin 256) (d : Fin 1024)
    (hl : o + l.val < 2816) :
    View.ld w (Rect.unit ![o, 0] ![256, 1024] h) (ix2 l d) = w (ix2 ⟨o + l.val, hl⟩ d) := by
  pointwise

/-- The term of a hidden lane in the gated unit's output. -/
def term (n : Fin 1024 → EReal) (wg wu : Vec Ideal S1024x2816 .f32) (wd : Vec Ideal S2816x1024 .f32) (d : Fin 1024)
    (f : Fin 2816) : EReal :=
  gated (∑ k : Fin 1024, n k * wg (ix2 k f)) (∑ k : Fin 1024, n k * wu (ix2 k f)) * wd (ix2 f d)

theorem piece_apply (n : FVec Ideal S512x1024 .f32) (wg wu : Vec Ideal S1024x2816 .f32) (wd : Vec Ideal S2816x1024 .f32)
    (o : Nat) (h h') (c : Nat) (hc : c < 11) (ho : o = c * 256) (r : Fin 512) (d : Fin 1024) :
    piece n wg wu wd o h h' (ix2 r d) = chunk (term (fun k => n (ix2 r k)) wg wu wd d) c hc := by
  subst ho
  unfold piece chunk term
  rw [part_apply]
  refine Finset.sum_congr rfl fun l _ => ?_
  have hl : c * 256 + l.val < 2816 := by have := l.isLt; omega
  exact congrArg₂ (fun a b : EReal => a * b)
    (congrArg₂ gated
      (Finset.sum_congr rfl fun k _ => congrArg (fun a : EReal => (n (ix2 r k) : EReal) * a) (cols_apply wg _ h k l hl))
      (Finset.sum_congr rfl fun k _ => congrArg (fun a : EReal => (n (ix2 r k) : EReal) * a) (cols_apply wu _ h k l hl)))
    (rows_apply wd _ h' l d hl)

theorem out_apply (a b x : FVec Ideal S512x1024 .f32) (g : FVec Ideal S1x1024 .f32) (r : Fin 512) (d : Fin 1024) :
    k0_pay1 a b x g (ix2 r d)
      = x (ix2 r d) + rms (fun k => (a (ix2 r k) : EReal) + b (ix2 r k)) (fun k => g (ix2 0 k)) d := by
  unfold rms
  pointwise [k0_pay1]

/-- The block's output from its normed rows, its rows, the weights and the second norm's gains. -/
def body (n x : FVec Ideal S512x1024 .f32) (wg wu : Vec Ideal S1024x2816 .f32) (wd : Vec Ideal S2816x1024 .f32)
    (g : FVec Ideal S1x1024 .f32) : FVec Ideal S512x1024 .f32 :=
  k0_pay1 (addf (addf (addf (addf (addf (addf (addf (addf (addf
      (piece n wg wu wd 0 inb_S1024x2816_S1024x256_0_0 inb_S2816x1024_S256x1024_0_0)
      (piece n wg wu wd 256 inb_S1024x2816_S1024x256_0_256 inb_S2816x1024_S256x1024_256_0))
      (piece n wg wu wd 512 inb_S1024x2816_S1024x256_0_512 inb_S2816x1024_S256x1024_512_0))
      (piece n wg wu wd 768 inb_S1024x2816_S1024x256_0_768 inb_S2816x1024_S256x1024_768_0))
      (piece n wg wu wd 1024 inb_S1024x2816_S1024x256_0_1024 inb_S2816x1024_S256x1024_1024_0))
      (piece n wg wu wd 1280 inb_S1024x2816_S1024x256_0_1280 inb_S2816x1024_S256x1024_1280_0))
      (piece n wg wu wd 1536 inb_S1024x2816_S1024x256_0_1536 inb_S2816x1024_S256x1024_1536_0))
      (piece n wg wu wd 1792 inb_S1024x2816_S1024x256_0_1792 inb_S2816x1024_S256x1024_1792_0))
      (piece n wg wu wd 2048 inb_S1024x2816_S1024x256_0_2048 inb_S2816x1024_S256x1024_2048_0))
      (piece n wg wu wd 2304 inb_S1024x2816_S1024x256_0_2304 inb_S2816x1024_S256x1024_2304_0))
    (piece n wg wu wd 2560 inb_S1024x2816_S1024x256_0_2560 inb_S2816x1024_S256x1024_2560_0) x g

theorem body_apply (n x : FVec Ideal S512x1024 .f32) (wg wu : Vec Ideal S1024x2816 .f32) (wd : Vec Ideal S2816x1024 .f32)
    (g : FVec Ideal S1x1024 .f32) (r : Fin 512) (d : Fin 1024) :
    body n x wg wu wd g (ix2 r d)
      = x (ix2 r d) + rms (swiglu (fun k => n (ix2 r k)) (fun k f => wg (ix2 k f)) (fun k f => wu (ix2 k f))
          (fun f d => wd (ix2 f d))) (fun k => g (ix2 0 k)) d := by
  unfold body
  rw [out_apply]
  refine congrArg (fun y => x (ix2 r d) + rms y (fun k => g (ix2 0 k)) d) (funext fun k => ?_)
  refine Eq.trans ?_ (sum_chunks (term (fun k => n (ix2 r k)) wg wu wd k)).symm
  have p (o h h' c hc ho) := piece_apply n wg wu wd o h h' c hc ho r k
  rw [← p 0 inb_S1024x2816_S1024x256_0_0 inb_S2816x1024_S256x1024_0_0 0 (by decide) rfl,
    ← p 256 inb_S1024x2816_S1024x256_0_256 inb_S2816x1024_S256x1024_256_0 1 (by decide) rfl,
    ← p 512 inb_S1024x2816_S1024x256_0_512 inb_S2816x1024_S256x1024_512_0 2 (by decide) rfl,
    ← p 768 inb_S1024x2816_S1024x256_0_768 inb_S2816x1024_S256x1024_768_0 3 (by decide) rfl,
    ← p 1024 inb_S1024x2816_S1024x256_0_1024 inb_S2816x1024_S256x1024_1024_0 4 (by decide) rfl,
    ← p 1280 inb_S1024x2816_S1024x256_0_1280 inb_S2816x1024_S256x1024_1280_0 5 (by decide) rfl,
    ← p 1536 inb_S1024x2816_S1024x256_0_1536 inb_S2816x1024_S256x1024_1536_0 6 (by decide) rfl,
    ← p 1792 inb_S1024x2816_S1024x256_0_1792 inb_S2816x1024_S256x1024_1792_0 7 (by decide) rfl,
    ← p 2048 inb_S1024x2816_S1024x256_0_2048 inb_S2816x1024_S256x1024_2048_0 8 (by decide) rfl,
    ← p 2304 inb_S1024x2816_S1024x256_0_2304 inb_S2816x1024_S256x1024_2304_0 9 (by decide) rfl,
    ← p 2560 inb_S1024x2816_S1024x256_0_2560 inb_S2816x1024_S256x1024_2560_0 10 (by decide) rfl]
  rfl

end Cert.FfnIdeal.Calc

end
-- ==== Proof.FfnValue.lean ====
/- What the feed-forward call leaves in its output: the feed-forward block of every row. -/
module

public import proofs.«01_k».proof.Proof.FfnBlock

@[expose] public section

set_option maxRecDepth 16384

noncomputable section

namespace Cert.FfnIdeal.Calc

open Cert.FfnIdeal Cert.FfnIdeal.Gen Cert.FfnMath
open Idealize.ShloMosaic Idealize.ShloMosaic.TcCoe Idealize.SL.Sem
open Idealize.ShloMosaic.Pipeline (Dat)

variable (m : (ℓ : Loc nD τ sig) → Buf (Elt Ideal) ℓ)

theorem ix_0 : ∀ t : Fin cfg0.N, win0_0.index t = ![(grid0.coords t 0).val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![(grid0.coords t 0).val, 0] := (by decide +kernel : ∀ t : Fin grid0.N, _)

theorem blk_0 (c : Dev nD) (t : Fin cfg0.N) (r : Fin 512) (d : Fin 1024) (h : (grid0.coords t 0).val * 512 + r.val < 16384) :
    iblk m c 0 t (ix2 r d) = m ((c : Thread nD τ).loc main_arg0) (ix2 ⟨_, h⟩ d) := by
  rw [← V_main_arg0 m c]
  blk_simp [iblk]
  refine congrArg (V m c main_arg0) ?_
  blk_ext [ix_0]

theorem blk_1 (c : Dev nD) (t : Fin cfg0.N) (d : Fin 1024) :
    iblk m c 1 t (ix2 0 d) = m ((c : Thread nD τ).loc main_arg1) (ix1 d) := by
  refine Eq.trans (b := V m c main_v0 (ix2 0 d)) ?_ ?_
  · blk_simp [iblk]
    refine congrArg (V m c main_v0) ?_
    blk_ext [ix_1]
  · entry_read
    pointwise

theorem blk_2 (c : Dev nD) (t : Fin cfg0.N) (k : Fin 1024) (f : Fin 2816) :
    iblk m c 2 t (ix2 k f) = m ((c : Thread nD τ).loc main_arg2) (ix2 k f) := by
  rw [← V_main_arg2 m c]
  blk_simp [iblk]
  refine congrArg (V m c main_arg2) ?_
  blk_ext [ix_2]

theorem blk_3 (c : Dev nD) (t : Fin cfg0.N) (k : Fin 1024) (f : Fin 2816) :
    iblk m c 3 t (ix2 k f) = m ((c : Thread nD τ).loc main_arg3) (ix2 k f) := by
  rw [← V_main_arg3 m c]
  blk_simp [iblk]
  refine congrArg (V m c main_arg3) ?_
  blk_ext [ix_3]

theorem blk_4 (c : Dev nD) (t : Fin cfg0.N) (f : Fin 2816) (d : Fin 1024) :
    iblk m c 4 t (ix2 f d) = m ((c : Thread nD τ).loc main_arg4) (ix2 f d) := by
  rw [← V_main_arg4 m c]
  blk_simp [iblk]
  refine congrArg (V m c main_arg4) ?_
  blk_ext [ix_4]

theorem blk_5 (c : Dev nD) (t : Fin cfg0.N) (d : Fin 1024) :
    iblk m c 5 t (ix2 0 d) = (Ideal.ofBits .f32 0x3F000000#32 * m ((c : Thread nD τ).loc main_arg5) (ix1 d) : EReal) := by
  refine Eq.trans (b := V m c main_v3 (ix2 0 d)) ?_ ?_
  · blk_simp [iblk]
    refine congrArg (V m c main_v3) ?_
    blk_ext [ix_5]
  · entry_read
    pointwise

/-- The call's output from its arguments: the feed-forward block of every row. -/
def result (x : S16384x1024.Idx → EReal) (pre : S1024.Idx → EReal) (wg wu : S1024x2816.Idx → EReal)
    (wd : S2816x1024.Idx → EReal) (post : S1024.Idx → EReal) (i : S16384x1024.Idx) : EReal :=
  block (fun d => x (ix2 (i 0) d)) (fun d => pre (ix1 d)) (fun k f => wg (ix2 k f)) (fun k f => wu (ix2 k f))
    (fun f d => wd (ix2 f d)) (fun d => post (ix1 d)) (i 1)

theorem coord_lt (t : Fin cfg0.N) : (grid0.coords t 0).val < 32 := (grid0.coords t 0).isLt

/-- The array the call leaves. -/
theorem final_o (c : Dev nD) : (dats m 0 c).arrAt 6 cfg0.N = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 6 _ (by decide +kernel) fun t hf y => ?_
  blk_simp
  rw [after0_6]; unfold outsAt0
  frame_out
  have ht := coord_lt t
  idx_vars y
  have h0 : y0.val < 512 := y0.isLt
  have hE : ((View.whole main_v4).slice (win0_6.rect t)).emb (ix2 y0 y1)
      = ix2 ⟨(grid0.coords t 0).val * 512 + y0.val, by omega⟩ y1 := by
    blk_ext [ix_6]
  rw [hE]
  refine Eq.trans (b := body (normed (iblk m c 0 t) (iblk m c 1 t)) (iblk m c 0 t) (iblk m c 2 t) (iblk m c 3 t)
    (iblk m c 4 t) (iblk m c 5 t) (ix2 y0 y1)) rfl ?_
  rw [body_apply]
  unfold result block
  simp only [normed_apply, blk_0 m c t y0 _ (by omega), blk_1, blk_2, blk_3, blk_4, blk_5]
  rfl

end Cert.FfnIdeal.Calc

end
-- ==== Proof.FfnRef.lean ====
/- The feed-forward reference over the exact reals: at every element the feed-forward block of its row. -/
module

public import proofs.«01_k».proof.Proof.Gen.FfnRefIdeal.Read
public import proofs.«01_k».proof.Proof.FfnMath
public import Idealize.ShloMosaic.Lib.Pointwise
public import Idealize.ShloMosaic.Lib.IdealHost
public import Idealize.ShloMosaic.PureOps.Ideal.Laws

@[expose] public section

set_option maxRecDepth 16384

noncomputable section

namespace Cert.FfnRefIdeal.Calc

open Cert.FfnRefIdeal Cert.FfnRefIdeal.Read Cert.FfnMath
open Idealize.ShloMosaic

/-- An index of rank two is its coordinates. -/
theorem ix2_of {n k : Nat} (i : (⟨2, ![n, k]⟩ : Shape).Idx) (a : Fin n) (b : Fin k) (h0 : i 0 = a) (h1 : i 1 = b) : i = ix2 a b := by
  funext x
  match x with | ⟨0, _⟩ => exact h0 | ⟨1, _⟩ => exact h1

/-- An index of rank one is its coordinate. -/
theorem ix1_of {n : Nat} (i : (⟨1, ![n]⟩ : Shape).Idx) (a : Fin n) (h0 : i 0 = a) : i = ix1 a := by
  funext x
  match x with | ⟨0, _⟩ => exact h0

variable (x0 : S16384x1024.Idx → EReal) (x1 : S1024.Idx → EReal) (x2 x3 : S1024x2816.Idx → EReal)
  (x4 : S2816x1024.Idx → EReal) (x5 : S1024.Idx → EReal)

/-- The normed rows. -/
theorem normed_at (i : Fin 16384) (d : Fin 1024) :
    val_main_v12 (F := Ideal) x0 x1 (ix2 i d) = rms (fun k => x0 (ix2 i k)) (fun k => x1 (ix1 k)) d := by
  simp only [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply,
    Ideal.mulf_def, Ideal.addf_def, Ideal.hostDivf_def, Ideal.hostUnary_rsqrt_def, Ideal.ofBits_def, Ideal.ofBits_zero_f32, zero_add]
  have e (k : Fin 1024) : idx_main_v1 (idx_main_v2 (idx_main_v8 (ix2 i d))) k = ix2 i k := ix2_of _ i k rfl rfl
  have e' : idx_main_v10 (idx_main_v11 (ix2 i d)) = ix1 d := ix1_of _ d rfl
  simp only [e, e']
  rfl

/-- The gate's projection. -/
theorem gate_at (i : Fin 16384) (f : Fin 2816) :
    val_main_v13 (F := Ideal) x0 x1 x2 (ix2 i f)
      = ∑ k, rms (fun k => x0 (ix2 i k)) (fun k => x1 (ix1 k)) k * x2 (ix2 k f) := by
  rw [val_main_v13_apply]
  refine Finset.sum_congr rfl fun k _ => ?_
  rw [ix2_of (lidx_main_v13 (ix2 i f) k) i k rfl rfl, ix2_of (ridx_main_v13 (ix2 i f) k) k f rfl rfl, normed_at]

/-- The other projection. -/
theorem up_at (i : Fin 16384) (f : Fin 2816) :
    val_main_v15 (F := Ideal) x0 x1 x3 (ix2 i f)
      = ∑ k, rms (fun k => x0 (ix2 i k)) (fun k => x1 (ix1 k)) k * x3 (ix2 k f) := by
  rw [val_main_v15_apply]
  refine Finset.sum_congr rfl fun k _ => ?_
  rw [ix2_of (lidx_main_v15 (ix2 i f) k) i k rfl rfl, ix2_of (ridx_main_v15 (ix2 i f) k) k f rfl rfl, normed_at]

/-- The gated lanes. -/
theorem gated_at (i : Fin 16384) (f : Fin 2816) :
    val_main_v16 (F := Ideal) x0 x1 x2 x3 (ix2 i f)
      = gated (∑ k, rms (fun k => x0 (ix2 i k)) (fun k => x1 (ix1 k)) k * x2 (ix2 k f))
          (∑ k, rms (fun k => x0 (ix2 i k)) (fun k => x1 (ix1 k)) k * x3 (ix2 k f)) := by
  rw [← gate_at, ← up_at, ← gated_logistic]
  simp only [val_main_v16_apply, val_main_v14_apply, val_main_call0_v5_apply, val_main_call0_v4_apply,
    val_main_call0_v3_apply, val_main_call0_v2_apply, val_main_call0_v1_apply, val_main_call0_v0_apply,
    val_main_call0_cst_apply, val_main_call0_cst_0_apply, Ideal.mulf_def, Ideal.addf_def, Ideal.hostDivf_def,
    Ideal.hostUnary_exp_def, Ideal.negf_def, Ideal.ofBits_def, Ideal.ofBits_one_f32]
  rfl

/-- The gated unit's output. -/
theorem swiglu_at (i : Fin 16384) (o : Fin 1024) :
    val_main_v17 (F := Ideal) x0 x1 x2 x3 x4 (ix2 i o)
      = swiglu (rms (fun k => x0 (ix2 i k)) (fun k => x1 (ix1 k))) (fun k f => x2 (ix2 k f)) (fun k f => x3 (ix2 k f))
          (fun f d => x4 (ix2 f d)) o := by
  rw [val_main_v17_apply]
  refine Finset.sum_congr rfl fun f _ => ?_
  rw [ix2_of (lidx_main_v17 (ix2 i o) f) i f rfl rfl, ix2_of (ridx_main_v17 (ix2 i o) f) f o rfl rfl, gated_at]

/-- The result: the feed-forward block of the element's row. -/
theorem result_at (i : Fin 16384) (o : Fin 1024) :
    val_main_v33 (F := Ideal) x0 x1 x2 x3 x4 x5 (ix2 i o)
      = block (fun d => x0 (ix2 i d)) (fun d => x1 (ix1 d)) (fun k f => x2 (ix2 k f)) (fun k f => x3 (ix2 k f))
          (fun f d => x4 (ix2 f d)) (fun d => x5 (ix1 d)) o := by
  unfold block
  rw [rms_scale]
  simp only [val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_v21_apply, val_main_v20_apply, val_main_v19_apply,
    val_main_v18_apply, val_main_cst_2_apply, val_main_cst_3_apply, val_main_cst_4_apply, val_main_cst_5_apply,
    Ideal.mulf_def, Ideal.addf_def, Ideal.hostDivf_def, Ideal.hostUnary_rsqrt_def, Ideal.ofBits_def, Ideal.ofBits_zero_f32, zero_add]
  have e (k : Fin 1024) : idx_main_v19 (idx_main_v20 (idx_main_v26 (ix2 i o))) k = ix2 i k := ix2_of _ i k rfl rfl
  have e' : idx_main_v28 (idx_main_v29 (ix2 i o)) = ix1 o := ix1_of _ o rfl
  simp only [e, e', swiglu_at]
  rfl

end Cert.FfnRefIdeal.Calc

end
-- ==== Proof.FfnClaim.lean ====
/- The feed-forward call computes the feed-forward reference, over the exact reals. -/
module

public import proofs.«01_k».proof.Defs
public import proofs.«01_k».proof.Proof.FfnValue
public import proofs.«01_k».proof.Proof.FfnRef

@[expose] public section

set_option maxRecDepth 16384

noncomputable section

namespace Cert.FfnClaim

open Idealize.ShloMosaic Idealize.ShloMosaic.TcCoe Idealize.SL.Sem

/-- The reference's result is the call's. -/
theorem result_eq (x0 : Cert.FfnIdeal.S16384x1024.Idx → EReal) (x1 : Cert.FfnIdeal.S1024.Idx → EReal)
    (x2 x3 : Cert.FfnIdeal.S1024x2816.Idx → EReal) (x4 : Cert.FfnIdeal.S2816x1024.Idx → EReal)
    (x5 : Cert.FfnIdeal.S1024.Idx → EReal) :
    Cert.FfnRefIdeal.Read.val_main_v33 (F := Ideal) x0 x1 x2 x3 x4 x5 = Cert.FfnIdeal.Calc.result x0 x1 x2 x3 x4 x5 := by
  funext x
  obtain ⟨i, o, rfl⟩ : ∃ (i : Fin 16384) (o : Fin 1024), x = ix2 i o :=
    ⟨x 0, x 1, Cert.FfnRefIdeal.Calc.ix2_of _ _ _ rfl rfl⟩
  exact Cert.FfnRefIdeal.Calc.result_at x0 x1 x2 x3 x4 x5 i o

/-- From memories agreeing on the arguments, the call and the reference end with the same array, and leave their
    arguments as they were. -/
theorem algebraic : algebraic_FfnIdeal_FfnRefIdeal (hFfnIdeal := Cert.FfnIdeal.Gen.facts)
    (hFfnRefIdeal := Cert.FfnRefIdeal.Gen.facts) := by
  intro m g m' g' _ hagree
  refine ⟨fun c => Cert.FfnIdeal.Calc.result
    (m ((c.tc : Thread Cert.FfnIdeal.nD Cert.FfnIdeal.τ).loc Cert.FfnIdeal.main_arg0))
    (m ((c.tc : Thread Cert.FfnIdeal.nD Cert.FfnIdeal.τ).loc Cert.FfnIdeal.main_arg1))
    (m ((c.tc : Thread Cert.FfnIdeal.nD Cert.FfnIdeal.τ).loc Cert.FfnIdeal.main_arg2))
    (m ((c.tc : Thread Cert.FfnIdeal.nD Cert.FfnIdeal.τ).loc Cert.FfnIdeal.main_arg3))
    (m ((c.tc : Thread Cert.FfnIdeal.nD Cert.FfnIdeal.τ).loc Cert.FfnIdeal.main_arg4))
    (m ((c.tc : Thread Cert.FfnIdeal.nD Cert.FfnIdeal.τ).loc Cert.FfnIdeal.main_arg5)), ?_, ?_⟩
  · exact (θ_run _ _ _).mono (fun r h c => ⟨(h c).1.trans (Cert.FfnIdeal.Calc.final_o m c), (h c).2⟩)
      (Cert.FfnIdeal.Value.run_blocks (F := Ideal) m g)
  · refine (θ_run _ _ _).mono (fun r h c => ⟨(h c).1.trans ?_, (h c).2⟩) (Cert.FfnRefIdeal.Value.run (F := Ideal) m' g')
    rw [Cert.FfnRefIdeal.Read.val_main_v33_eq, (hagree c).1, (hagree c).2.1, (hagree c).2.2.1, (hagree c).2.2.2.1,
      (hagree c).2.2.2.2.1, (hagree c).2.2.2.2.2]
    exact result_eq _ _ _ _ _ _

end Cert.FfnClaim

end
-- ==== Proof.FfnAttnValue.lean ====
/- What the joined output projection and feed-forward call leaves in its output: on every row, the norm of the projected
   attention added to the residual stream, then the feed-forward block. -/
module

public import proofs.«01_k».proof.Proof.Gen.FfnAttnIdeal.Value
public import proofs.«01_k».proof.Proof.FfnBlock

@[expose] public section

set_option maxRecDepth 16384

noncomputable section

namespace Cert.FfnAttnIdeal.Calc

open Cert.FfnAttnIdeal Cert.FfnAttnIdeal.Gen Cert.FfnMath
open Idealize.ShloMosaic Idealize.ShloMosaic.TcCoe Idealize.SL.Sem
open Idealize.ShloMosaic.Pipeline (Dat)

/-- The residual stream after the mixer: the norm of the projected attention added to it. -/
theorem mixed_apply (x : FVec Ideal S512x1024 .f32) (a : FVec Ideal S512x1024 .bf16) (w : FVec Ideal S1024x1024 .bf16)
    (g : FVec Ideal S1x1024 .f32) (r : Fin 512) (d : Fin 1024) :
    k0_pay1 (F := Ideal) x a w g (ix2 r d)
      = mixed (fun k => x (ix2 r k)) (fun k => a (ix2 r k)) (fun k o => w (ix2 k o)) (fun k => g (ix2 0 k)) d := by
  unfold mixed rms
  pointwise [k0_pay1]

variable (m : (ℓ : Loc nD τ sig) → Buf (Elt Ideal) ℓ)

theorem ix_0 : ∀ t : Fin cfg0.N, win0_0.index t = ![(grid0.coords t 0).val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![(grid0.coords t 0).val, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![(grid0.coords t 0).val, 0] := (by decide +kernel : ∀ t : Fin grid0.N, _)

theorem blk_0 (c : Dev nD) (t : Fin cfg0.N) (r : Fin 512) (d : Fin 1024) (h : (grid0.coords t 0).val * 512 + r.val < 16384) :
    iblk m c 0 t (ix2 r d) = m ((c : Thread nD τ).loc main_arg0) (ix2 ⟨_, h⟩ d) := by
  rw [← V_main_arg0 m c]
  blk_simp [iblk]
  refine congrArg (V m c main_arg0) ?_
  blk_ext [ix_0]

theorem blk_1 (c : Dev nD) (t : Fin cfg0.N) (k o : Fin 1024) :
    iblk m c 1 t (ix2 k o) = (m ((c : Thread nD τ).loc main_arg1) (ix2 k o) : EReal) := by
  refine Eq.trans (b := V m c main_v4 (ix2 k o)) ?_ ?_
  · blk_simp [iblk]
    refine congrArg (V m c main_v4) ?_
    blk_ext [ix_1]
  · entry_read
    pointwise

theorem blk_2 (c : Dev nD) (t : Fin cfg0.N) (d : Fin 1024) :
    iblk m c 2 t (ix2 0 d) = (m ((c : Thread nD τ).loc main_arg2) (ix1 d) : EReal) := by
  refine Eq.trans (b := V m c main_v5 (ix2 0 d)) ?_ ?_
  · blk_simp [iblk]
    refine congrArg (V m c main_v5) ?_
    blk_ext [ix_2]
  · entry_read
    pointwise

theorem blk_3 (c : Dev nD) (t : Fin cfg0.N) (r : Fin 512) (d : Fin 1024) (h : (grid0.coords t 0).val * 512 + r.val < 16384) :
    iblk m c 3 t (ix2 r d) = m ((c : Thread nD τ).loc main_arg3) (ix2 ⟨_, h⟩ d) := by
  rw [← V_main_arg3 m c]
  blk_simp [iblk]
  refine congrArg (V m c main_arg3) ?_
  blk_ext [ix_3]

theorem blk_4 (c : Dev nD) (t : Fin cfg0.N) (d : Fin 1024) :
    iblk m c 4 t (ix2 0 d) = (m ((c : Thread nD τ).loc main_arg4) (ix1 d) : EReal) := by
  refine Eq.trans (b := V m c main_v0 (ix2 0 d)) ?_ ?_
  · blk_simp [iblk]
    refine congrArg (V m c main_v0) ?_
    blk_ext [ix_4]
  · entry_read
    pointwise

theorem blk_5 (c : Dev nD) (t : Fin cfg0.N) (k : Fin 1024) (f : Fin 2816) :
    iblk m c 5 t (ix2 k f) = m ((c : Thread nD τ).loc main_arg5) (ix2 k f) := by
  rw [← V_main_arg5 m c]
  blk_simp [iblk]
  refine congrArg (V m c main_arg5) ?_
  blk_ext [ix_5]

theorem blk_6 (c : Dev nD) (t : Fin cfg0.N) (k : Fin 1024) (f : Fin 2816) :
    iblk m c 6 t (ix2 k f) = m ((c : Thread nD τ).loc main_arg6) (ix2 k f) := by
  rw [← V_main_arg6 m c]
  blk_simp [iblk]
  refine congrArg (V m c main_arg6) ?_
  blk_ext [ix_6]

theorem blk_7 (c : Dev nD) (t : Fin cfg0.N) (k : Fin 2816) (f : Fin 1024) :
    iblk m c 7 t (ix2 k f) = m ((c : Thread nD τ).loc main_arg7) (ix2 k f) := by
  rw [← V_main_arg7 m c]
  blk_simp [iblk]
  refine congrArg (V m c main_arg7) ?_
  blk_ext [ix_7]

theorem blk_8 (c : Dev nD) (t : Fin cfg0.N) (d : Fin 1024) :
    iblk m c 8 t (ix2 0 d) = (Ideal.ofBits .f32 0x3F000000#32 * m ((c : Thread nD τ).loc main_arg8) (ix1 d) : EReal) := by
  refine Eq.trans (b := V m c main_v3 (ix2 0 d)) ?_ ?_
  · blk_simp [iblk]
    refine congrArg (V m c main_v3) ?_
    blk_ext [ix_8]
  · entry_read
    pointwise

/-- The call's output from its arguments. -/
def result (a : S16384x1024.Idx → EReal) (wo : S1024x1024.Idx → EReal) (mp : S1024.Idx → EReal) (x : S16384x1024.Idx → EReal)
    (pre : S1024.Idx → EReal) (wg wu : S1024x2816.Idx → EReal) (wd : S2816x1024.Idx → EReal) (post : S1024.Idx → EReal)
    (i : S16384x1024.Idx) : EReal :=
  block (mixed (fun d => x (ix2 (i 0) d)) (fun d => a (ix2 (i 0) d)) (fun k o => wo (ix2 k o)) (fun d => mp (ix1 d)))
    (fun d => pre (ix1 d)) (fun k f => wg (ix2 k f)) (fun k f => wu (ix2 k f)) (fun f d => wd (ix2 f d))
    (fun d => post (ix1 d)) (i 1)

theorem coord_lt (t : Fin cfg0.N) : (grid0.coords t 0).val < 32 := (grid0.coords t 0).isLt

/-- The array the call leaves. -/
theorem final_o (c : Dev nD) : (dats m 0 c).arrAt 9 cfg0.N = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) := by
  refine (dats m 0 c).arrAt_eq_of_covers 9 _ (by decide +kernel) fun t hf y => ?_
  blk_simp
  rw [after0_9]; unfold outsAt0
  frame_out
  have ht := coord_lt t
  idx_vars y
  have h0 : y0.val < 512 := y0.isLt
  have hE : ((View.whole main_v6).slice (win0_9.rect t)).emb (ix2 y0 y1)
      = ix2 ⟨(grid0.coords t 0).val * 512 + y0.val, by omega⟩ y1 := by
    blk_ext [ix_9]
  rw [hE]
  refine Eq.trans (b := Cert.FfnIdeal.Calc.body
    (Cert.FfnIdeal.Calc.normed (k0_pay1 (iblk m c 3 t) (iblk m c 0 t) (iblk m c 1 t) (iblk m c 2 t)) (iblk m c 4 t))
    (k0_pay1 (iblk m c 3 t) (iblk m c 0 t) (iblk m c 1 t) (iblk m c 2 t)) (iblk m c 5 t) (iblk m c 6 t)
    (iblk m c 7 t) (iblk m c 8 t) (ix2 y0 y1)) rfl ?_
  rw [Cert.FfnIdeal.Calc.body_apply]
  unfold result block
  simp only [Cert.FfnIdeal.Calc.normed_apply, mixed_apply, blk_0 m c t y0 _ (by omega), blk_1, blk_2,
    blk_3 m c t y0 _ (by omega), blk_4, blk_5, blk_6, blk_7, blk_8]
  rfl

end Cert.FfnAttnIdeal.Calc

end
-- ==== Proof.FfnAttnRef.lean ====
/- The joined output projection and feed-forward reference over the exact reals: at every element the feed-forward block
   of its row of the residual stream after the mixer. -/
module

public import proofs.«01_k».proof.Proof.Gen.FfnAttnRefIdeal.Read
public import proofs.«01_k».proof.Proof.FfnRef

@[expose] public section

set_option maxRecDepth 16384

noncomputable section

namespace Cert.FfnAttnRefIdeal.Calc

open Cert.FfnAttnRefIdeal Cert.FfnAttnRefIdeal.Read Cert.FfnMath
open Cert.FfnRefIdeal.Calc (ix1_of ix2_of)
open Idealize.ShloMosaic

variable (x0 : S16384x1024.Idx → EReal) (x1 : S1024x1024.Idx → EReal) (x2 : S1024.Idx → EReal)
  (x3 : S16384x1024.Idx → EReal) (x4 : S1024.Idx → EReal) (x5 x6 : S1024x2816.Idx → EReal)
  (x7 : S2816x1024.Idx → EReal) (x8 : S1024.Idx → EReal)

/-- A row of the residual stream after the mixer. -/
abbrev row (i : Fin 16384) : Fin 1024 → EReal :=
  mixed (fun d => x3 (ix2 i d)) (fun d => x0 (ix2 i d)) (fun k o => x1 (ix2 k o)) (fun d => x2 (ix1 d))

/-- The attention's projection. -/
theorem projected_at (i : Fin 16384) (o : Fin 1024) :
    val_main_v1 (F := Ideal) x0 x1 (ix2 i o) = ∑ k, x0 (ix2 i k) * x1 (ix2 k o) := by
  rw [val_main_v1_apply]
  refine Finset.sum_congr rfl fun k _ => ?_
  rw [ix2_of (lidx_main_v1 (ix2 i o) k) i k rfl rfl, ix2_of (ridx_main_v1 (ix2 i o) k) k o rfl rfl, val_main_v0_apply,
    Ideal.extf_def]

/-- The residual stream after the mixer. -/
theorem mixed_at (i : Fin 16384) (d : Fin 1024) :
    val_main_v15 (F := Ideal) x0 x1 x2 x3 (ix2 i d) = row x0 x1 x2 x3 i d := by
  simp only [val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_cst_apply, val_main_cst_0_apply,
    val_main_cst_1_apply, Ideal.mulf_def, Ideal.addf_def, Ideal.hostDivf_def, Ideal.hostUnary_rsqrt_def,
    Ideal.ofBits_def, Ideal.ofBits_zero_f32, zero_add]
  have e (k : Fin 1024) : idx_main_v3 (idx_main_v4 (idx_main_v10 (ix2 i d))) k = ix2 i k := ix2_of _ i k rfl rfl
  have e' : idx_main_v12 (idx_main_v13 (ix2 i d)) = ix1 d := ix1_of _ d rfl
  simp only [e, e', projected_at]
  rfl

/-- The normed rows. -/
theorem normed_at (i : Fin 16384) (d : Fin 1024) :
    val_main_v28 (F := Ideal) x0 x1 x2 x3 x4 (ix2 i d) = rms (row x0 x1 x2 x3 i) (fun k => x4 (ix1 k)) d := by
  simp only [val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, val_main_cst_2_apply, val_main_cst_3_apply,
    val_main_cst_4_apply, Ideal.mulf_def, Ideal.addf_def, Ideal.hostDivf_def, Ideal.hostUnary_rsqrt_def,
    Ideal.ofBits_def, Ideal.ofBits_zero_f32, zero_add]
  have e (k : Fin 1024) : idx_main_v17 (idx_main_v18 (idx_main_v24 (ix2 i d))) k = ix2 i k := ix2_of _ i k rfl rfl
  have e' : idx_main_v26 (idx_main_v27 (ix2 i d)) = ix1 d := ix1_of _ d rfl
  simp only [e, e', mixed_at]
  rfl

/-- The gate's projection. -/
theorem gate_at (i : Fin 16384) (f : Fin 2816) :
    val_main_v29 (F := Ideal) x0 x1 x2 x3 x4 x5 (ix2 i f)
      = ∑ k, rms (row x0 x1 x2 x3 i) (fun k => x4 (ix1 k)) k * x5 (ix2 k f) := by
  rw [val_main_v29_apply]
  refine Finset.sum_congr rfl fun k _ => ?_
  rw [ix2_of (lidx_main_v29 (ix2 i f) k) i k rfl rfl, ix2_of (ridx_main_v29 (ix2 i f) k) k f rfl rfl, normed_at]

/-- The other projection. -/
theorem up_at (i : Fin 16384) (f : Fin 2816) :
    val_main_v31 (F := Ideal) x0 x1 x2 x3 x4 x6 (ix2 i f)
      = ∑ k, rms (row x0 x1 x2 x3 i) (fun k => x4 (ix1 k)) k * x6 (ix2 k f) := by
  rw [val_main_v31_apply]
  refine Finset.sum_congr rfl fun k _ => ?_
  rw [ix2_of (lidx_main_v31 (ix2 i f) k) i k rfl rfl, ix2_of (ridx_main_v31 (ix2 i f) k) k f rfl rfl, normed_at]

/-- The gated lanes. -/
theorem gated_at (i : Fin 16384) (f : Fin 2816) :
    val_main_v32 (F := Ideal) x0 x1 x2 x3 x4 x5 x6 (ix2 i f)
      = gated (∑ k, rms (row x0 x1 x2 x3 i) (fun k => x4 (ix1 k)) k * x5 (ix2 k f))
          (∑ k, rms (row x0 x1 x2 x3 i) (fun k => x4 (ix1 k)) k * x6 (ix2 k f)) := by
  rw [← gate_at, ← up_at, ← gated_logistic]
  simp only [val_main_v32_apply, val_main_v30_apply, val_main_call0_v5_apply, val_main_call0_v4_apply,
    val_main_call0_v3_apply, val_main_call0_v2_apply, val_main_call0_v1_apply, val_main_call0_v0_apply,
    val_main_call0_cst_apply, val_main_call0_cst_0_apply, Ideal.mulf_def, Ideal.addf_def, Ideal.hostDivf_def,
    Ideal.hostUnary_exp_def, Ideal.negf_def, Ideal.ofBits_def, Ideal.ofBits_one_f32]
  rfl

/-- The gated unit's output. -/
theorem swiglu_at (i : Fin 16384) (o : Fin 1024) :
    val_main_v33 (F := Ideal) x0 x1 x2 x3 x4 x5 x6 x7 (ix2 i o)
      = swiglu (rms (row x0 x1 x2 x3 i) (fun k => x4 (ix1 k))) (fun k f => x5 (ix2 k f)) (fun k f => x6 (ix2 k f))
          (fun f d => x7 (ix2 f d)) o := by
  rw [val_main_v33_apply]
  refine Finset.sum_congr rfl fun f _ => ?_
  rw [ix2_of (lidx_main_v33 (ix2 i o) f) i f rfl rfl, ix2_of (ridx_main_v33 (ix2 i o) f) f o rfl rfl, gated_at]

/-- The result: the feed-forward block of the element's row. -/
theorem result_at (i : Fin 16384) (o : Fin 1024) :
    val_main_v49 (F := Ideal) x0 x1 x2 x3 x4 x5 x6 x7 x8 (ix2 i o)
      = block (row x0 x1 x2 x3 i) (fun d => x4 (ix1 d)) (fun k f => x5 (ix2 k f)) (fun k f => x6 (ix2 k f))
          (fun f d => x7 (ix2 f d)) (fun d => x8 (ix1 d)) o := by
  unfold block
  rw [rms_scale]
  simp only [val_main_v49_apply, val_main_v48_apply, val_main_v47_apply, val_main_v46_apply, val_main_v45_apply,
    val_main_v44_apply, val_main_v43_apply, val_main_v42_apply, val_main_v41_apply, val_main_v40_apply,
    val_main_v39_apply, val_main_v38_apply, val_main_v37_apply, val_main_v36_apply, val_main_v35_apply,
    val_main_v34_apply, val_main_cst_5_apply, val_main_cst_6_apply, val_main_cst_7_apply, val_main_cst_8_apply,
    Ideal.mulf_def, Ideal.addf_def, Ideal.hostDivf_def, Ideal.hostUnary_rsqrt_def, Ideal.ofBits_def, Ideal.ofBits_zero_f32, zero_add]
  have e (k : Fin 1024) : idx_main_v35 (idx_main_v36 (idx_main_v42 (ix2 i o))) k = ix2 i k := ix2_of _ i k rfl rfl
  have e' : idx_main_v44 (idx_main_v45 (ix2 i o)) = ix1 o := ix1_of _ o rfl
  simp only [e, e', swiglu_at, mixed_at]
  rfl

end Cert.FfnAttnRefIdeal.Calc

end
-- ==== Proof.FfnAttnClaim.lean ====
/- The joined output projection and feed-forward call computes its reference, over the exact reals. -/
module

public import proofs.«01_k».proof.Defs
public import proofs.«01_k».proof.Proof.FfnAttnValue
public import proofs.«01_k».proof.Proof.FfnAttnRef

@[expose] public section

set_option maxRecDepth 16384

noncomputable section

namespace Cert.FfnAttnClaim

open Idealize.ShloMosaic Idealize.ShloMosaic.TcCoe Idealize.SL.Sem

/-- The reference's result is the call's. -/
theorem result_eq (x0 : Cert.FfnAttnIdeal.S16384x1024.Idx → EReal) (x1 : Cert.FfnAttnIdeal.S1024x1024.Idx → EReal)
    (x2 : Cert.FfnAttnIdeal.S1024.Idx → EReal) (x3 : Cert.FfnAttnIdeal.S16384x1024.Idx → EReal) (x4 : Cert.FfnAttnIdeal.S1024.Idx → EReal)
    (x5 x6 : Cert.FfnAttnIdeal.S1024x2816.Idx → EReal) (x7 : Cert.FfnAttnIdeal.S2816x1024.Idx → EReal) (x8 : Cert.FfnAttnIdeal.S1024.Idx → EReal) :
    Cert.FfnAttnRefIdeal.Read.val_main_v49 (F := Ideal) x0 x1 x2 x3 x4 x5 x6 x7 x8 = Cert.FfnAttnIdeal.Calc.result x0 x1 x2 x3 x4 x5 x6 x7 x8 := by
  funext x
  obtain ⟨i, o, rfl⟩ : ∃ (i : Fin 16384) (o : Fin 1024), x = ix2 i o :=
    ⟨x 0, x 1, Cert.FfnRefIdeal.Calc.ix2_of _ _ _ rfl rfl⟩
  exact Cert.FfnAttnRefIdeal.Calc.result_at x0 x1 x2 x3 x4 x5 x6 x7 x8 i o

/-- From memories agreeing on the arguments, the call and the reference end with the same array, and leave their
    arguments as they were. -/
theorem algebraic : algebraic_FfnAttnIdeal_FfnAttnRefIdeal (hFfnAttnIdeal := Cert.FfnAttnIdeal.Gen.facts)
    (hFfnAttnRefIdeal := Cert.FfnAttnRefIdeal.Gen.facts) := by
  intro m g m' g' _ hagree
  refine ⟨fun c => Cert.FfnAttnIdeal.Calc.result
    (m ((c.tc : Thread Cert.FfnAttnIdeal.nD Cert.FfnAttnIdeal.τ).loc Cert.FfnAttnIdeal.main_arg0))
    (m ((c.tc : Thread Cert.FfnAttnIdeal.nD Cert.FfnAttnIdeal.τ).loc Cert.FfnAttnIdeal.main_arg1))
    (m ((c.tc : Thread Cert.FfnAttnIdeal.nD Cert.FfnAttnIdeal.τ).loc Cert.FfnAttnIdeal.main_arg2))
    (m ((c.tc : Thread Cert.FfnAttnIdeal.nD Cert.FfnAttnIdeal.τ).loc Cert.FfnAttnIdeal.main_arg3))
    (m ((c.tc : Thread Cert.FfnAttnIdeal.nD Cert.FfnAttnIdeal.τ).loc Cert.FfnAttnIdeal.main_arg4))
    (m ((c.tc : Thread Cert.FfnAttnIdeal.nD Cert.FfnAttnIdeal.τ).loc Cert.FfnAttnIdeal.main_arg5))
    (m ((c.tc : Thread Cert.FfnAttnIdeal.nD Cert.FfnAttnIdeal.τ).loc Cert.FfnAttnIdeal.main_arg6))
    (m ((c.tc : Thread Cert.FfnAttnIdeal.nD Cert.FfnAttnIdeal.τ).loc Cert.FfnAttnIdeal.main_arg7))
    (m ((c.tc : Thread Cert.FfnAttnIdeal.nD Cert.FfnAttnIdeal.τ).loc Cert.FfnAttnIdeal.main_arg8)), ?_, ?_⟩
  · exact (θ_run _ _ _).mono (fun r h c => ⟨(h c).1.trans (Cert.FfnAttnIdeal.Calc.final_o m c), (h c).2⟩)
      (Cert.FfnAttnIdeal.Value.run_blocks (F := Ideal) m g)
  · refine (θ_run _ _ _).mono (fun r h c => ⟨(h c).1.trans ?_, (h c).2⟩) (Cert.FfnAttnRefIdeal.Value.run (F := Ideal) m' g')
    rw [Cert.FfnAttnRefIdeal.Read.val_main_v49_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact result_eq _ _ _ _ _ _ _ _ _

end Cert.FfnAttnClaim

end
-- ==== Proof.ProjMath.lean ====
/- The mathematics of the attention's projections over the exact reals: a root-mean-square norm of a row of any length,
   the rotary embedding of a row of 64 lanes, and the queries, keys and values of a token. -/
module

public import Idealize.ShloMosaic.PureOps.Ideal.Laws

@[expose] public section

noncomputable section

namespace Cert.ProjMath

open Idealize.ShloMosaic

/-- The extended real is a real. -/
def IsReal (x : EReal) : Prop := ∃ a : ℝ, x = (a : EReal)

theorem IsReal.mul {x y : EReal} : IsReal x → IsReal y → IsReal (x * y)
  | ⟨a, ha⟩, ⟨b, hb⟩ => ⟨a * b, by rw [ha, hb, EReal.coe_mul]⟩

theorem sum_coe {n : Nat} (f : Fin n → ℝ) : ∑ k, (f k : EReal) = ((∑ k, f k : ℝ) : EReal) := by
  induction n with
  | zero => simp
  | succ n ih => rw [Fin.sum_univ_succ, Fin.sum_univ_succ, ih, EReal.coe_add]

/-! ## The norm of a row -/

/-- The norm of a row `y` with gains `g`: each element over the root of the mean square, plus a small constant; `c` is
    the word of the row's length. -/
def rmsRow {n : Nat} (c : BitVec 32) (y g : Fin n → EReal) (d : Fin n) : EReal :=
  y d * Ideal.rsqrt (Ideal.div (∑ k, y k * y k) (Ideal.ofBits .f32 c) + Ideal.ofBits .f32 0x358637BD#32) * g d

theorem word_1024 : Ideal.ofBits .f32 0x44800000#32 = ((1024 : ℝ) : EReal) := by
  simp [Ideal.ofBits, Ideal.ieee, -EReal.coe_mul]; norm_num

theorem word_384 : Ideal.ofBits .f32 0x43C00000#32 = ((384 : ℝ) : EReal) := by
  simp [Ideal.ofBits, Ideal.ieee, -EReal.coe_mul]; norm_num

theorem word_eps : ∃ e : ℝ, 0 < e ∧ Ideal.ofBits .f32 0x358637BD#32 = (e : EReal) := by
  refine ⟨_, ?_, by simp [Ideal.ofBits, Ideal.ieee, -EReal.coe_mul]; rfl⟩
  norm_num

theorem sq_nonneg' (y : EReal) : 0 ≤ y * y := by
  induction y using EReal.rec with
  | bot => simp
  | coe r => rw [← EReal.coe_mul]; exact_mod_cast mul_self_nonneg r
  | top => simp

/-- The norm of ANY row is real where its gain is: a row with an infinite element has the norm zero. -/
theorem rmsRow_real {n : Nat} (c : BitVec 32) (l : ℝ) (hl : 0 < l) (hc : Ideal.ofBits .f32 c = (l : EReal))
    (y g : Fin n → EReal) (d : Fin n) (hg : IsReal (g d)) : IsReal (rmsRow c y g d) := by
  obtain ⟨e, he, hw⟩ := word_eps
  have hl0 : (l : EReal) ≠ 0 := by exact_mod_cast hl.ne'
  unfold rmsRow
  rw [hc, hw]
  by_cases ht : ∑ k, y k * y k = ⊤
  · have : Ideal.div (∑ k, y k * y k) (l : EReal) = ⊤ := by
      unfold Ideal.div
      rw [if_neg hl0, ht, ← EReal.coe_inv]
      exact EReal.top_mul_coe_of_pos (inv_pos.mpr hl)
    rw [this, EReal.top_add_coe, Ideal.rsqrt_top, mul_zero, zero_mul]
    exact ⟨0, rfl⟩
  · have hy (k : Fin n) : IsReal (y k) := by
      have hk : y k * y k ≠ ⊤ := fun h => ht (top_le_iff.mp (h ▸ Finset.single_le_sum (f := fun k => y k * y k)
        (fun i _ => sq_nonneg' (y i)) (Finset.mem_univ k)))
      have h1 : y k ≠ ⊤ := fun h => hk (by rw [h]; simp)
      have h2 : y k ≠ ⊥ := fun h => hk (by rw [h]; simp)
      exact ⟨_, (EReal.coe_toReal h1 h2).symm⟩
    choose z hz using hy
    have hs : ∑ k, y k * y k = ((∑ k, z k * z k : ℝ) : EReal) := by
      rw [← sum_coe]
      exact Finset.sum_congr rfl fun k _ => by rw [hz, EReal.coe_mul]
    have hp : 0 < (∑ k, z k * z k) * l⁻¹ + e :=
      add_pos_of_nonneg_of_pos (mul_nonneg (Finset.sum_nonneg fun k _ => mul_self_nonneg (z k)) (inv_pos.mpr hl).le) he
    have hd : Ideal.div (∑ k, y k * y k) (l : EReal) + (e : EReal) = (((∑ k, z k * z k) * l⁻¹ + e : ℝ) : EReal) := by
      unfold Ideal.div
      rw [if_neg hl0, hs, ← EReal.coe_inv, ← EReal.coe_mul, ← EReal.coe_add]
    rw [hd, Ideal.rsqrt_coe, if_neg (not_lt.mpr hp.le), if_neg hp.ne']
    exact IsReal.mul (IsReal.mul ⟨_, hz d⟩ ⟨_, rfl⟩) hg

/-- A sum of products with negated reals. -/
theorem sum_neg {n : Nat} (a w : Fin n → EReal) (ha : ∀ k, IsReal (a k)) (hw : ∀ k, IsReal (w k)) :
    ∑ k, a k * -w k = -∑ k, a k * w k := by
  choose f hf using ha
  choose v hv using hw
  have e1 : ∑ k, a k * w k = ((∑ k, f k * v k : ℝ) : EReal) := by
    rw [← sum_coe]; exact Finset.sum_congr rfl fun k _ => by rw [hf, hv, EReal.coe_mul]
  have e2 : ∑ k, a k * -w k = ((∑ k, -(f k * v k) : ℝ) : EReal) := by
    rw [← sum_coe]
    exact Finset.sum_congr rfl fun k _ => by rw [hf, hv, mul_neg, ← EReal.coe_mul, EReal.coe_neg]
  rw [e1, e2, Finset.sum_neg_distrib, EReal.coe_neg]

/-! ## The rotary embedding -/

/-- The first half turned against the second by the angles of the two tables. -/
def rot (a : Fin 64 → EReal) (C S : Fin 32 → EReal) (d : Fin 64) : EReal :=
  if h : d.val < 32 then a d * C ⟨d.val, h⟩ - a ⟨d.val + 32, by omega⟩ * S ⟨d.val, h⟩
  else a d * C ⟨d.val - 32, by omega⟩ + a ⟨d.val - 32, by omega⟩ * S ⟨d.val - 32, by omega⟩

/-- An entry of a table laid twice. -/
def twice (C : Fin 32 → EReal) (d : Fin 64) : EReal :=
  if h : d.val < 32 then C ⟨d.val, h⟩ else C ⟨d.val - 32, by omega⟩

/-- The weights of the other half, the second one's negated. -/
def other (w : Fin 64 → EReal) (d : Fin 64) : EReal :=
  if h : d.val < 32 then -w ⟨d.val + 32, by omega⟩ else w ⟨d.val - 32, by omega⟩

/-- The embedding as two products over the tables laid twice, the second with the other half's weights. -/
theorem turned {n : Nat} (c : Fin n → EReal) (w : Fin n → Fin 64 → EReal) (C S : Fin 32 → EReal) (hc : ∀ k, IsReal (c k))
    (hw : ∀ k (d : Fin 32), IsReal (w k ⟨d.val + 32, by omega⟩)) (d : Fin 64) :
    (∑ k, c k * w k d) * twice C d + (∑ k, c k * other (w k) d) * twice S d
      = rot (fun d => ∑ k, c k * w k d) C S d := by
  unfold rot twice other
  by_cases h : d.val < 32
  · simp only [dif_pos h]
    rw [sum_neg c (fun k => w k ⟨d.val + 32, by omega⟩) hc (fun k => hw k ⟨d.val, h⟩), EReal.neg_mul, sub_eq_add_neg]
  · simp only [dif_neg h]

/-! ## A token's queries, keys and values -/

section

variable (x pre : Fin 1024 → EReal) (wdq : Fin 1024 → Fin 384 → EReal) (qg : Fin 384 → EReal)
  (wuq : Fin 384 → Fin 1536 → EReal) (wdkv : Fin 1024 → Fin 320 → EReal) (kvg : Fin 256 → EReal)
  (wuk wuv : Fin 256 → Fin 1024 → EReal) (C S : Fin 32 → EReal)

/-- The factor on the queries. -/
def scale : EReal := Ideal.ofBits .f32 0x3DD53B95#32

/-- The normed token. -/
def xn : Fin 1024 → EReal := rmsRow 0x44800000#32 x pre

/-- The normed low-rank query. -/
def cq : Fin 384 → EReal := rmsRow 0x43C00000#32 (fun j => ∑ k, xn x pre k * wdq k j) qg

/-- A head's query. -/
def query (h : Fin 8) (d : Fin 192) : EReal := ∑ k, cq x pre wdq qg k * wuq k ⟨h.val * 192 + d.val, by omega⟩

/-- A head's query lanes without rotary embedding, scaled. -/
def qNope (h : Fin 8) (d : Fin 128) : EReal := query x pre wdq qg wuq h ⟨d.val, by omega⟩ * scale

/-- A head's query lanes with rotary embedding, scaled. -/
def qRope (h : Fin 8) (d : Fin 64) : EReal :=
  rot (fun d => query x pre wdq qg wuq h ⟨128 + d.val, by omega⟩) C S d * scale

/-- A head's packed query: the two parts, 63 zeros, the norm. -/
def packedQ (h : Fin 8) (l : Fin 256) : EReal :=
  if h1 : l.val < 128 then qNope x pre wdq qg wuq h ⟨l.val, h1⟩
  else if h2 : l.val < 192 then qRope x pre wdq qg wuq C S h ⟨l.val - 128, by omega⟩
  else if l.val < 255 then 0
  else Ideal.sqrt (∑ d, qNope x pre wdq qg wuq h d * qNope x pre wdq qg wuq h d
    + ∑ d, qRope x pre wdq qg wuq C S h d * qRope x pre wdq qg wuq C S h d)

/-- The low-rank keys and values, and the key's rotary lanes. -/
def kv (j : Fin 320) : EReal := ∑ k, xn x pre k * wdkv k j

/-- The normed low-rank keys and values. -/
def ckv : Fin 256 → EReal := rmsRow 0x43800000#32 (fun j => kv x pre wdkv ⟨j.val, by omega⟩) kvg

/-- A head's key lanes without rotary embedding. -/
def kNope (h : Fin 8) (d : Fin 128) : EReal := ∑ k, ckv x pre wdkv kvg k * wuk k ⟨h.val * 128 + d.val, by omega⟩

/-- The key lanes with rotary embedding, the same for every head. -/
def kRope (d : Fin 64) : EReal := rot (fun d => kv x pre wdkv ⟨256 + d.val, by omega⟩) C S d

/-- A head's packed key: the two parts and 64 zeros. -/
def packedK (h : Fin 8) (l : Fin 256) : EReal :=
  if h1 : l.val < 128 then kNope x pre wdkv kvg wuk h ⟨l.val, h1⟩
  else if h2 : l.val < 192 then kRope x pre wdkv C S ⟨l.val - 128, by omega⟩
  else 0

/-- A head's squared key norm. -/
def kSq (h : Fin 8) : EReal :=
  ∑ d, kNope x pre wdkv kvg wuk h d * kNope x pre wdkv kvg wuk h d + ∑ d, kRope x pre wdkv C S d * kRope x pre wdkv C S d

/-- A value lane. -/
def value (j : Fin 1024) : EReal := ∑ k, ckv x pre wdkv kvg k * wuv k j

variable {x pre wdq qg wuq wdkv kvg wuk wuv C S}

theorem xn_real (hp : ∀ k, IsReal (pre k)) (k : Fin 1024) : IsReal (xn x pre k) :=
  rmsRow_real _ 1024 (by norm_num) word_1024 _ _ _ (hp k)

theorem cq_real (hq : ∀ k, IsReal (qg k)) (k : Fin 384) : IsReal (cq x pre wdq qg k) :=
  rmsRow_real _ 384 (by norm_num) word_384 _ _ _ (hq k)

end

/-- The largest of eight in order. -/
theorem fold_eight (f : Fin 8 → EReal) : (Finset.univ : Finset (Fin 8)).fold max (⊥ : EReal) f
    = max (max (max (max (max (max (max (f 0) (f 1)) (f 2)) (f 3)) (f 4)) (f 5)) (f 6)) (f 7) := by
  refine le_antisymm ((Finset.fold_max_le _).mpr ⟨bot_le, fun k _ => ?_⟩) ?_
  · fin_cases k <;> simp
  · have h (k : Fin 8) : f k ≤ (Finset.univ : Finset (Fin 8)).fold max (⊥ : EReal) f :=
      (Finset.le_fold_max _).mpr (.inr ⟨k, Finset.mem_univ k, le_rfl⟩)
    simp only [max_le_iff]
    exact ⟨⟨⟨⟨⟨⟨⟨h 0, h 1⟩, h 2⟩, h 3⟩, h 4⟩, h 5⟩, h 6⟩, h 7⟩

/-- A square sum over 128 lanes of which the last 64 are zero. -/
theorem sum_pad (f : Fin 128 → EReal) (g : Fin 64 → EReal) (h1 : ∀ d : Fin 64, f ⟨d.val, by omega⟩ = g d)
    (h2 : ∀ d : Fin 128, 64 ≤ d.val → f d = 0) : ∑ d, f d * f d = ∑ d, g d * g d := by
  rw [Fin.sum_univ_add (a := 64) (b := 64) fun d => f d * f d]
  rw [Finset.sum_eq_zero (s := Finset.univ) (f := fun i : Fin 64 => f (Fin.natAdd 64 i) * f (Fin.natAdd 64 i))
    fun i _ => by rw [h2 (Fin.natAdd 64 i) (by simp), mul_zero], add_zero]
  exact Finset.sum_congr rfl fun d _ => congrArg₂ (· * ·) (h1 d) (h1 d)

end Cert.ProjMath

end
-- ==== Proof.ProjBlock.lean ====
/- The projections' blocks of a grid point, read at a token and a lane over the exact reals. -/
module

public import proofs.«01_k».proof.Proof.Gen.ProjIdeal.Value
public import proofs.«01_k».proof.Proof.ProjMath
public import Idealize.ShloMosaic.Lib.Pointwise
public import Idealize.ShloMosaic.Lib.Pipeline.ValueKit

@[expose] public section

set_option maxRecDepth 16384

noncomputable section

namespace Cert.ProjIdeal.Calc

open Cert.ProjIdeal Cert.ProjIdeal.Gen Cert.ProjMath
open Idealize.ShloMosaic

/-! ## The body's steps at a token and a lane -/

theorem xn_apply (x : Vec Ideal S1x1024x1024 .f32) (g : Vec Ideal S1x1024 .f32) (r d : Fin 1024) :
    k0_pay2 x g (ix2 r d) = rmsRow 0x44800000#32 (fun k => x (ix3 0 r k)) (fun k => g (ix2 0 k)) d := by
  unfold rmsRow
  pointwise [k0_pay2]

theorem cq_apply (x : Vec Ideal S1x1024x1024 .f32) (g : Vec Ideal S1x1024 .f32) (w : Vec Ideal S1024x384 .bf16)
    (q : Vec Ideal S1x384 .f32) (r : Fin 1024) (j : Fin 384) :
    k0_pay3 x g w q (ix2 r j) = rmsRow 0x43C00000#32
      (fun j => ∑ k : Fin 1024, (k0_pay2 x g (ix2 r k) : EReal) * w (ix2 k j)) (fun j => q (ix2 0 j)) j := by
  unfold k0_pay3 rmsRow
  generalize k0_pay2 x g = n
  pointwise

theorem kv_apply (x : Vec Ideal S1x1024x1024 .f32) (g : Vec Ideal S1x1024 .f32) (w : Vec Ideal S1024x512 .bf16)
    (r : Fin 1024) (j : Fin 512) :
    k0_pay4 x g w (ix2 r j) = ∑ k : Fin 1024, (k0_pay2 x g (ix2 r k) : EReal) * w (ix2 k j) := by
  unfold k0_pay4
  generalize k0_pay2 x g = n
  pointwise

theorem low_apply (x : Vec Ideal S1x1024x1024 .f32) (g : Vec Ideal S1x1024 .f32) (w : Vec Ideal S1024x512 .bf16)
    (r : Fin 1024) (j : Fin 256) :
    k0_pay5 x g w (ix2 r j) = k0_pay4 x g w (ix2 r ⟨j.val, by omega⟩) := by
  unfold k0_pay5
  generalize k0_pay4 x g w = n
  pointwise

theorem ckv_apply (y : FVec Ideal S1024x256 .f32) (g : Vec Ideal S1x256 .f32) (r : Fin 1024) (j : Fin 256) :
    k0_pay6 y g (ix2 r j) = rmsRow 0x43800000#32 (fun j => y (ix2 r j)) (fun j => g (ix2 0 j)) j := by
  unfold rmsRow
  pointwise [k0_pay6]

theorem turn_apply (y : FVec Ideal S1024x512 .f32) (c s : Vec Ideal S1024x128 .f32) (r : Fin 1024) (l : Fin 128) :
    k0_pay7 y c s (ix2 r l) = (y (ix2 r ⟨256 + l.val, by omega⟩) : EReal) * c (ix2 r l)
      + y (ix2 r ⟨384 + l.val, by omega⟩) * s (ix2 r l) := by
  pointwise [k0_pay7]

theorem square_apply (y : FVec Ideal S1024x512 .f32) (c s : Vec Ideal S1024x128 .f32) (r : Fin 1024) :
    k0_pay8 y c s (ix2 r 0) = ∑ l : Fin 128, (k0_pay7 y c s (ix2 r l) : EReal) * k0_pay7 y c s (ix2 r l) := by
  unfold k0_pay8
  generalize k0_pay7 y c s = n
  pointwise

theorem nope_apply (y : FVec Ideal S1024x256 .f32) (g : Vec Ideal S1x256 .f32) (w : Vec Ideal S256x1024 .bf16)
    (r j : Fin 1024) :
    k0_pay10 y g w (ix2 r j) = ∑ k : Fin 256, (k0_pay6 y g (ix2 r k) : EReal) * w (ix2 k j) := by
  unfold k0_pay10
  generalize k0_pay6 y g = n
  pointwise

theorem values_apply (n : FVec Ideal S1024x256 .bf16) (w : Vec Ideal S1024x256 .bf16) (j r : Fin 1024) :
    k0_pay41 n w (ix2 j r) = ∑ k : Fin 256, (w (ix2 j k) : EReal) * n (ix2 r k) := by
  pointwise [k0_pay41]

theorem qnope_apply (n : FVec Ideal S1024x384 .bf16) (w : Vec Ideal S1024x384 .bf16) (j r : Fin 1024) :
    k0_pay45 n w (ix2 j r) = (∑ k : Fin 384, (w (ix2 j k) : EReal) * n (ix2 r k)) * scale := by
  unfold scale
  pointwise [k0_pay45]

theorem qrope_apply (n : FVec Ideal S1024x384 .bf16) (w : Vec Ideal S512x384 .bf16) (j : Fin 512) (r : Fin 1024) :
    k0_pay46 n w (ix2 j r) = ∑ k : Fin 384, (w (ix2 j k) : EReal) * n (ix2 r k) := by
  pointwise [k0_pay46]

theorem qrot_apply (n : FVec Ideal S1024x384 .bf16) (w : Vec Ideal S512x384 .bf16) (j : Fin 512) (r : Fin 1024) :
    k0_pay47 n w (ix2 j r) = ∑ k : Fin 384, (w (ix2 j k) : EReal) * n (ix2 r k) :=
  qrope_apply n w j r

theorem tab_apply (c : Vec Ideal S64x1024 .f32) : k0_pay43 c = c := by
  funext i
  idx_vars i
  pointwise [k0_pay43]

/-! ## The stores' vectors -/

/-- A head's scaled query lanes without rotary embedding. -/
def nopeOf (n : FVec Ideal S1024x1024 .f32) (o : Nat) (h : Shape.Slices S1024x1024 ![o, 0] S128x1024) :
    FVec Ideal S128x1024 .f32 := extractStridedSlice S128x1024 ![o, 0] n h

/-- A head's scaled query lanes with rotary embedding. -/
def ropeOf (c s : FVec Ideal S64x1024 .f32) (p q : FVec Ideal S512x1024 .f32) (o : Nat)
    (h : Shape.Slices S512x1024 ![o, 0] S64x1024) : FVec Ideal S64x1024 .f32 :=
  mulf (addf (mulf (extractStridedSlice S64x1024 ![o, 0] p h) c) (mulf (extractStridedSlice S64x1024 ![o, 0] q h) s))
    (broadcast S64x1024 (Scalar.ofBits .f32 0x3DD53B95#32))

/-- A head's query norms. -/
def normOf (a : FVec Ideal S128x1024 .f32) (b : FVec Ideal S64x1024 .f32) : FVec Ideal S1x1024 .f32 :=
  sqrt (addf
    (shapeCast S1x1024 (multiReduction .add [0] S1024 (mulf a a) 0x00000000#32 reduces_S128x1024_S1024 (.inl rfl) rfl)
      shapeCasts_S1024_S1x1024)
    (shapeCast S1x1024 (multiReduction .add [0] S1024 (mulf b b) 0x00000000#32 reduces_S64x1024_S1024 (.inl rfl) rfl)
      shapeCasts_S1024_S1x1024))

theorem nopeOf_apply (n : FVec Ideal S1024x1024 .f32) (o : Nat) (h) (l : Fin 128) (r : Fin 1024) (hl : o + l.val < 1024) :
    nopeOf n o h (ix2 l r) = n (ix2 ⟨o + l.val, hl⟩ r) := by
  pointwise [nopeOf]

theorem ropeOf_apply (c s : FVec Ideal S64x1024 .f32) (p q : FVec Ideal S512x1024 .f32) (o : Nat) (h) (l : Fin 64)
    (r : Fin 1024) (hl : o + l.val < 512) :
    ropeOf c s p q o h (ix2 l r) = (((p (ix2 ⟨o + l.val, hl⟩ r) : EReal) * c (ix2 l r)
      + q (ix2 ⟨o + l.val, hl⟩ r) * s (ix2 l r)) * scale : EReal) := by
  unfold scale
  pointwise [ropeOf]

theorem normOf_apply (a : FVec Ideal S128x1024 .f32) (b : FVec Ideal S64x1024 .f32) (r : Fin 1024) :
    normOf a b (ix2 0 r) = Ideal.sqrt (∑ l : Fin 128, (a (ix2 l r) : EReal) * a (ix2 l r)
      + ∑ l : Fin 64, (b (ix2 l r) : EReal) * b (ix2 l r)) := by
  pointwise [normOf]

/-- The last store of a head: 63 rows of zeros and the norms. -/
theorem last_apply (v : FVec Ideal S1x1024 .f32) (l : Fin 64) (r : Fin 1024) :
    k0_pay55 k0_pay48 v (ix3 0 l r) = (if l.val = 63 then v (ix2 0 r) else 0 : EReal) := by
  have e : IntOp.cmpi CmpIPredicate.eq (BitVec.ofNat 32 l.val) 63#32 = if l.val = 63 then 1#1 else 0#1 := by
    revert l; decide
  pointwise [k0_pay55, k0_pay48]
  rw [e]
  split <;> rfl

theorem store128 (v : FVec Ideal S128x1024 .bf16) (l : Fin 128) (r : Fin 1024) : k0_pay53 v (ix3 0 l r) = v (ix2 l r) := by
  pointwise [k0_pay53]

theorem store64 (v : FVec Ideal S64x1024 .f32) (l : Fin 64) (r : Fin 1024) : k0_pay54 v (ix3 0 l r) = v (ix2 l r) := by
  pointwise [k0_pay54]

/-- A head's key lanes without rotary embedding. -/
def keyOf (n : FVec Ideal S1024x1024 .f32) (o : Nat) (h : Shape.Slices S1024x1024 ![0, o] S1024x128) :
    FVec Ideal S1024x128 .f32 := extractStridedSlice S1024x128 ![0, o] n h

/-- The square sums of a head's key lanes. -/
def keySq (a : FVec Ideal S1024x128 .f32) : FVec Ideal S1024x1 .f32 :=
  shapeCast S1024x1 (multiReduction .add [1] S1024 (mulf a a) 0x00000000#32 reduces_S1024x128_S1024 (.inl rfl) rfl)
    shapeCasts_S1024_S1024x1

theorem keyOf_apply (n : FVec Ideal S1024x1024 .f32) (o : Nat) (h) (r : Fin 1024) (l : Fin 128) (hl : o + l.val < 1024) :
    keyOf n o h (ix2 r l) = n (ix2 r ⟨o + l.val, hl⟩) := by
  pointwise [keyOf]

theorem keySq_apply (a : FVec Ideal S1024x128 .f32) (r : Fin 1024) :
    keySq a (ix2 r 0) = ∑ l : Fin 128, (a (ix2 r l) : EReal) * a (ix2 r l) := by
  pointwise [keySq]

theorem storeKey (v : FVec Ideal S1024x128 .bf16) (r : Fin 1024) (l : Fin 128) : k0_pay14 v (ix3 0 r l) = v (ix2 r l) := by
  pointwise [k0_pay14]

theorem storeValue (v : FVec Ideal S1024x1024 .bf16) (j r : Fin 1024) : k0_pay42 v (ix3 0 j r) = v (ix2 j r) := by
  pointwise [k0_pay42]

/-- The greatest of a block's rows. -/
def topOf (v : FVec Ideal S1024x1 .f32) : FVec Ideal S1x1x8x128 .f32 :=
  broadcastTo S1x1x8x128 (shapeCast S1x1x1x1 (sqrt (shapeCast S1x1
    (multiReduction .maximumf [0] S1 v 0xFF800000#32 reduces_S1024x1_S1 (.inl rfl) rfl) shapeCasts_S1_S1x1))
    shapeCasts_S1x1_S1x1x1x1) broadcasts_S1x1x1x1_S1x1x8x128

theorem bot_word : Ideal.ofBits .f32 0xFF800000#32 = (⊥ : EReal) := by simp [Ideal.ofBits, Ideal.ieee]

theorem topOf_apply (v : FVec Ideal S1024x1 .f32) (a : Fin 8) (b : Fin 128) :
    topOf v (ix4 0 0 a b)
      = Ideal.sqrt ((Finset.univ : Finset (Fin 1024)).fold max (⊥ : EReal) fun r => v (ix2 r 0)) := by
  rw [← bot_word]
  pointwise [topOf]

end Cert.ProjIdeal.Calc

end
-- ==== Proof.ProjTile.lean ====
/- The projections' stores of a grid point, from the operands' blocks: a token's packed query, packed key, values and
   squared key norms. -/
module

public import proofs.«01_k».proof.Proof.ProjBlock

@[expose] public section

set_option maxRecDepth 16384

noncomputable section

namespace Cert.ProjIdeal.Calc

open Cert.ProjIdeal Cert.ProjIdeal.Gen Cert.ProjMath
open Idealize.ShloMosaic

section

variable (x0 : Vec Ideal S1x1024x1024 .f32) (x1 : Vec Ideal S1x1024 .f32) (x2 : Vec Ideal S1024x384 .bf16)
  (x3 : Vec Ideal S1x384 .f32) (x4 : Vec Ideal S1024x384 .bf16) (x5 x6 : Vec Ideal S512x384 .bf16)
  (x7 : Vec Ideal S1024x512 .bf16) (x8 : Vec Ideal S1x256 .f32) (x9 : Vec Ideal S256x1024 .bf16)
  (x10 : Vec Ideal S1024x256 .bf16) (x11 x12 : Vec Ideal S1024x128 .f32) (x13 x14 : Vec Ideal S64x1024 .f32)
  (X : Fin 1024 → Fin 1024 → EReal) (pre : Fin 1024 → EReal) (wdq : Fin 1024 → Fin 384 → EReal) (qg : Fin 384 → EReal)
  (wuq : Fin 384 → Fin 1536 → EReal) (wdkv : Fin 1024 → Fin 320 → EReal) (kvg : Fin 256 → EReal)
  (wuk wuv : Fin 256 → Fin 1024 → EReal) (C S : Fin 1024 → Fin 32 → EReal)

/-- What the blocks of a grid point hold: the tokens `X` of the point, the weights laid out for the body, the two tables
    of the tokens' angles; and that the weights the second products negate are reals. -/
structure Holds : Prop where
  tokens : ∀ r k, x0 (ix3 0 r k) = X r k
  preE : ∀ k, x1 (ix2 0 k) = pre k
  wdqE : ∀ k j, x2 (ix2 k j) = wdq k j
  qgE : ∀ j, x3 (ix2 0 j) = qg j
  wqn : ∀ (h : Fin 8) (d : Fin 128) k, x4 (ix2 ⟨h.val * 128 + d.val, by omega⟩ k) = wuq k ⟨h.val * 192 + d.val, by omega⟩
  wqr : ∀ (h : Fin 8) (d : Fin 64) k,
    x5 (ix2 ⟨h.val * 64 + d.val, by omega⟩ k) = wuq k ⟨h.val * 192 + (128 + d.val), by omega⟩
  wqb : ∀ (h : Fin 8) (d : Fin 64) k,
    x6 (ix2 ⟨h.val * 64 + d.val, by omega⟩ k) = other (fun d => wuq k ⟨h.val * 192 + (128 + d.val), by omega⟩) d
  wkvA : ∀ k (j : Fin 256), x7 (ix2 k ⟨j.val, by omega⟩) = wdkv k ⟨j.val, by omega⟩
  wkvB : ∀ k (d : Fin 64), x7 (ix2 k ⟨256 + d.val, by omega⟩) = wdkv k ⟨256 + d.val, by omega⟩
  wkvC : ∀ k (d : Fin 64), x7 (ix2 k ⟨384 + d.val, by omega⟩) = other (fun d => wdkv k ⟨256 + d.val, by omega⟩) d
  kvgE : ∀ j, x8 (ix2 0 j) = kvg j
  wukE : ∀ k j, x9 (ix2 k j) = wuk k j
  wuvE : ∀ k j, x10 (ix2 j k) = wuv k j
  cosK : ∀ r (d : Fin 64), x11 (ix2 r ⟨d.val, by omega⟩) = twice (C r) d
  cosZ : ∀ r (l : Fin 128), 64 ≤ l.val → x11 (ix2 r l) = (0 : EReal)
  sinK : ∀ r (d : Fin 64), x12 (ix2 r ⟨d.val, by omega⟩) = twice (S r) d
  sinZ : ∀ r (l : Fin 128), 64 ≤ l.val → x12 (ix2 r l) = (0 : EReal)
  cosT : ∀ r d, x13 (ix2 d r) = twice (C r) d
  sinT : ∀ r d, x14 (ix2 d r) = twice (S r) d
  preR : ∀ k, IsReal (pre k)
  qgR : ∀ k, IsReal (qg k)
  wuqR : ∀ (h : Fin 8) (d : Fin 32) k, IsReal (wuq k ⟨h.val * 192 + (128 + (d.val + 32)), by omega⟩)
  wdkvR : ∀ (d : Fin 32) k, IsReal (wdkv k ⟨256 + (d.val + 32), by omega⟩)

variable {x0 x1 x2 x3 x4 x5 x6 x7 x8 x9 x10 x11 x12 x13 x14 X pre wdq qg wuq wdkv kvg wuk wuv C S}
  (H : Holds x0 x1 x2 x3 x4 x5 x6 x7 x8 x9 x10 x11 x12 x13 x14 X pre wdq qg wuq wdkv kvg wuk wuv C S)

include H

/-! ## The queries -/

theorem xn_of (r d : Fin 1024) : k0_pay2 x0 x1 (ix2 r d) = xn (X r) pre d := by
  rw [xn_apply]
  unfold xn
  simp only [H.tokens, H.preE]

theorem cq_of (r : Fin 1024) (j : Fin 384) : k0_pay3 x0 x1 x2 x3 (ix2 r j) = cq (X r) pre wdq qg j := by
  rw [cq_apply]
  unfold cq
  simp only [xn_of H, H.wdqE, H.qgE]

theorem qnope_of (h : Fin 8) (d : Fin 128) (r : Fin 1024) :
    k0_pay45 (k0_pay3 x0 x1 x2 x3) x4 (ix2 ⟨h.val * 128 + d.val, by omega⟩ r) = qNope (X r) pre wdq qg wuq h d := by
  rw [qnope_apply]
  unfold qNope query
  simp only [cq_of H, H.wqn, mul_comm (wuq _ _)]

theorem qrope_of (h : Fin 8) (d : Fin 64) (r : Fin 1024) :
    (((k0_pay46 (k0_pay3 x0 x1 x2 x3) x5 (ix2 ⟨h.val * 64 + d.val, by omega⟩ r) : EReal) * x13 (ix2 d r)
      + k0_pay47 (k0_pay3 x0 x1 x2 x3) x6 (ix2 ⟨h.val * 64 + d.val, by omega⟩ r) * x14 (ix2 d r)) * scale : EReal)
      = qRope (X r) pre wdq qg wuq (C r) (S r) h d := by
  rw [qrope_apply, qrot_apply]
  unfold qRope query
  refine congrArg (fun a : EReal => a * scale) ?_
  refine Eq.trans ?_ (turned (cq (X r) pre wdq qg) (fun k d => wuq k ⟨h.val * 192 + (128 + d.val), by omega⟩) (C r) (S r)
    (cq_real H.qgR) (fun k d => H.wuqR h d k) d)
  simp only [cq_of H, H.wqr, H.wqb, H.cosT, H.sinT, mul_comm (wuq _ _), mul_comm (other _ _)]

/-- The packed query of a row of the block and a token. -/
theorem nopeOf_of (h : Fin 8) (o : Nat) (ho : o = h.val * 128) (hs) (l : Fin 128) (r : Fin 1024) :
    nopeOf (k0_pay45 (k0_pay3 x0 x1 x2 x3) x4) o hs (ix2 l r) = qNope (X r) pre wdq qg wuq h l := by
  subst ho
  rw [nopeOf_apply _ _ _ _ _ (by omega), qnope_of H]

theorem ropeOf_of (h : Fin 8) (o : Nat) (ho : o = h.val * 64) (hs) (l : Fin 64) (r : Fin 1024) :
    ropeOf (k0_pay43 x13) (k0_pay44 x14) (k0_pay46 (k0_pay3 x0 x1 x2 x3) x5) (k0_pay47 (k0_pay3 x0 x1 x2 x3) x6) o hs
      (ix2 l r) = qRope (X r) pre wdq qg wuq (C r) (S r) h l := by
  subst ho
  rw [ropeOf_apply _ _ _ _ _ _ _ _ (by omega), tab_apply, show k0_pay44 x14 = x14 from tab_apply x14]
  exact qrope_of H h l r

/-- The packed query of a row of the block and a token. -/
def rowQ (X : Fin 1024 → Fin 1024 → EReal) (pre : Fin 1024 → EReal) (wdq : Fin 1024 → Fin 384 → EReal)
    (qg : Fin 384 → EReal) (wuq : Fin 384 → Fin 1536 → EReal) (C S : Fin 1024 → Fin 32 → EReal) (i : Fin 2048)
    (r : Fin 1024) : EReal :=
  packedQ (X r) pre wdq qg wuq (C r) (S r) ⟨i.val / 256, by omega⟩ ⟨i.val % 256, by omega⟩

omit H in
theorem rowQ_eq (h : Fin 8) (l : Fin 256) (i : Fin 2048) (r : Fin 1024) (hi : i.val = h.val * 256 + l.val) :
    rowQ X pre wdq qg wuq C S i r = packedQ (X r) pre wdq qg wuq (C r) (S r) h l := by
  unfold rowQ
  congr 1
  · exact Fin.ext (by simp only; omega)
  · exact Fin.ext (by simp only; omega)

theorem query_nope (h : Fin 8) (o : Nat) (ho : o = h.val * 128) (hs) (l : Fin 128) (r : Fin 1024) (i : Fin 2048)
    (hi : i.val = h.val * 256 + l.val) :
    k0_pay53 (truncf .bf16 (nopeOf (k0_pay45 (k0_pay3 x0 x1 x2 x3) x4) o hs) bitsLt_bf16_f32) (ix3 0 l r)
      = rowQ X pre wdq qg wuq C S i r := by
  rw [store128, rowQ_eq h ⟨l.val, by omega⟩ i r hi]
  unfold packedQ
  rw [dif_pos l.isLt]
  exact nopeOf_of H h o ho hs l r

theorem query_rope (h : Fin 8) (o : Nat) (ho : o = h.val * 64) (hs) (l : Fin 64) (r : Fin 1024) (i : Fin 2048)
    (hi : i.val = h.val * 256 + 128 + l.val) :
    k0_pay54 (ropeOf (k0_pay43 x13) (k0_pay44 x14) (k0_pay46 (k0_pay3 x0 x1 x2 x3) x5)
      (k0_pay47 (k0_pay3 x0 x1 x2 x3) x6) o hs) (ix3 0 l r) = rowQ X pre wdq qg wuq C S i r := by
  rw [store64, rowQ_eq h ⟨128 + l.val, by omega⟩ i r (by simp only; omega)]
  unfold packedQ
  rw [dif_neg (by simp only; omega), dif_pos (by simp only; omega), ropeOf_of H h o ho hs l r]
  exact congrArg _ (Fin.ext (by simp only; omega))

theorem query_last (h : Fin 8) (o o' : Nat) (ho : o = h.val * 128) (ho' : o' = h.val * 64) (hs hs') (l : Fin 64)
    (r : Fin 1024) (i : Fin 2048) (hi : i.val = h.val * 256 + 192 + l.val) :
    k0_pay55 k0_pay48 (normOf (nopeOf (k0_pay45 (k0_pay3 x0 x1 x2 x3) x4) o hs)
      (ropeOf (k0_pay43 x13) (k0_pay44 x14) (k0_pay46 (k0_pay3 x0 x1 x2 x3) x5)
        (k0_pay47 (k0_pay3 x0 x1 x2 x3) x6) o' hs')) (ix3 0 l r) = rowQ X pre wdq qg wuq C S i r := by
  rw [last_apply, rowQ_eq h ⟨192 + l.val, by omega⟩ i r (by simp only; omega), normOf_apply]
  unfold packedQ
  rw [dif_neg (by simp only; omega), dif_neg (by simp only; omega)]
  simp only [nopeOf_of H h o ho hs, ropeOf_of H h o' ho' hs']
  by_cases hl : l.val = 63
  · rw [if_pos hl, if_neg (by omega)]
  · rw [if_neg hl, if_pos (by omega)]

/-! ## The keys and the values -/

theorem kv_of (r : Fin 1024) (j : Fin 256) :
    k0_pay4 x0 x1 x7 (ix2 r ⟨j.val, by omega⟩) = kv (X r) pre wdkv ⟨j.val, by omega⟩ := by
  rw [kv_apply]
  unfold kv
  simp only [xn_of H, H.wkvA]

theorem ckv_of (r : Fin 1024) (j : Fin 256) : k0_pay6 (k0_pay5 x0 x1 x7) x8 (ix2 r j) = ckv (X r) pre wdkv kvg j := by
  rw [ckv_apply]
  unfold ckv
  simp only [low_apply, kv_of H, H.kvgE]

theorem knope_of (h : Fin 8) (d : Fin 128) (r : Fin 1024) :
    k0_pay10 (k0_pay5 x0 x1 x7) x8 x9 (ix2 r ⟨h.val * 128 + d.val, by omega⟩) = kNope (X r) pre wdkv kvg wuk h d := by
  rw [nope_apply]
  unfold kNope
  simp only [ckv_of H, H.wukE]

theorem krope_of (d : Fin 64) (r : Fin 1024) :
    k0_pay7 (k0_pay4 x0 x1 x7) x11 x12 (ix2 r ⟨d.val, by omega⟩) = kRope (X r) pre wdkv (C r) (S r) d := by
  rw [turn_apply, kv_apply, kv_apply]
  unfold kRope kv
  refine Eq.trans ?_ (turned (xn (X r) pre) (fun k d => wdkv k ⟨256 + d.val, by omega⟩) (C r) (S r)
    (xn_real H.preR) (fun k d => H.wdkvR d k) d)
  simp only [xn_of H, H.wkvB, H.wkvC, H.cosK, H.sinK]

theorem kpad_of (l : Fin 128) (hl : 64 ≤ l.val) (r : Fin 1024) :
    k0_pay7 (k0_pay4 x0 x1 x7) x11 x12 (ix2 r l) = (0 : EReal) := by
  rw [turn_apply, H.cosZ r l hl, H.sinZ r l hl, mul_zero, mul_zero, add_zero]

theorem keyOf_of (h : Fin 8) (o : Nat) (ho : o = h.val * 128) (hs) (r : Fin 1024) (l : Fin 128) :
    keyOf (k0_pay10 (k0_pay5 x0 x1 x7) x8 x9) o hs (ix2 r l) = kNope (X r) pre wdkv kvg wuk h l := by
  subst ho
  rw [keyOf_apply _ _ _ _ _ (by omega), knope_of H]

/-- The packed key of a token and a lane of the block. -/
def rowK (X : Fin 1024 → Fin 1024 → EReal) (pre : Fin 1024 → EReal) (wdkv : Fin 1024 → Fin 320 → EReal)
    (kvg : Fin 256 → EReal) (wuk : Fin 256 → Fin 1024 → EReal) (C S : Fin 1024 → Fin 32 → EReal) (r : Fin 1024)
    (i : Fin 2048) : EReal :=
  packedK (X r) pre wdkv kvg wuk (C r) (S r) ⟨i.val / 256, by omega⟩ ⟨i.val % 256, by omega⟩

omit H in
theorem rowK_eq (h : Fin 8) (l : Fin 256) (i : Fin 2048) (r : Fin 1024) (hi : i.val = h.val * 256 + l.val) :
    rowK X pre wdkv kvg wuk C S r i = packedK (X r) pre wdkv kvg wuk (C r) (S r) h l := by
  unfold rowK
  congr 1
  · exact Fin.ext (by simp only; omega)
  · exact Fin.ext (by simp only; omega)

theorem key_nope (h : Fin 8) (o : Nat) (ho : o = h.val * 128) (hs) (r : Fin 1024) (l : Fin 128) (i : Fin 2048)
    (hi : i.val = h.val * 256 + l.val) :
    k0_pay14 (truncf .bf16 (keyOf (k0_pay10 (k0_pay5 x0 x1 x7) x8 x9) o hs) bitsLt_bf16_f32) (ix3 0 r l)
      = rowK X pre wdkv kvg wuk C S r i := by
  rw [storeKey, rowK_eq h ⟨l.val, by omega⟩ i r hi]
  unfold packedK
  rw [dif_pos l.isLt]
  exact keyOf_of H h o ho hs r l

theorem key_rope (h : Fin 8) (r : Fin 1024) (l : Fin 128) (i : Fin 2048) (hi : i.val = h.val * 256 + 128 + l.val) :
    k0_pay14 (k0_pay9 (k0_pay4 x0 x1 x7) x11 x12) (ix3 0 r l) = rowK X pre wdkv kvg wuk C S r i := by
  rw [storeKey, rowK_eq h ⟨128 + l.val, by omega⟩ i r (by simp only; omega)]
  refine Eq.trans (b := k0_pay7 (k0_pay4 x0 x1 x7) x11 x12 (ix2 r l)) rfl ?_
  unfold packedK
  rw [dif_neg (by simp only; omega)]
  by_cases hl : l.val < 64
  · rw [dif_pos (by simp only; omega)]
    refine (krope_of H ⟨l.val, hl⟩ r).trans (congrArg _ (Fin.ext (by simp only; omega)))
  · rw [dif_neg (by simp only; omega), kpad_of H l (by omega)]

theorem kSq_of (h : Fin 8) (o : Nat) (ho : o = h.val * 128) (hs) (r : Fin 1024) :
    addf (keySq (keyOf (k0_pay10 (k0_pay5 x0 x1 x7) x8 x9) o hs)) (k0_pay8 (k0_pay4 x0 x1 x7) x11 x12) (ix2 r 0)
      = kSq (X r) pre wdkv kvg wuk (C r) (S r) h := by
  refine Eq.trans (b := (keySq (keyOf (k0_pay10 (k0_pay5 x0 x1 x7) x8 x9) o hs) (ix2 r 0)
    + k0_pay8 (k0_pay4 x0 x1 x7) x11 x12 (ix2 r 0) : EReal)) rfl ?_
  rw [keySq_apply, square_apply]
  unfold kSq
  simp only [keyOf_of H h o ho hs]
  refine congrArg _ ?_
  exact sum_pad (fun l => k0_pay7 (k0_pay4 x0 x1 x7) x11 x12 (ix2 r l)) _ (fun d => krope_of H d r)
    (fun l hl => kpad_of H l hl r)

/-- The greatest key norm of the block. -/
theorem kmax_of (a : Fin 8) (b : Fin 128) :
    k0_pay40 (k0_pay8 (k0_pay4 x0 x1 x7) x11 x12) (k0_pay10 (k0_pay5 x0 x1 x7) x8 x9)
        (k0_pay30 (k0_pay8 (k0_pay4 x0 x1 x7) x11 x12) (k0_pay10 (k0_pay5 x0 x1 x7) x8 x9)
          (k0_pay22 (k0_pay8 (k0_pay4 x0 x1 x7) x11 x12) (k0_pay10 (k0_pay5 x0 x1 x7) x8 x9)
            (k0_pay12 (k0_pay4 x0 x1 x7) (k0_pay5 x0 x1 x7) x8 x11 x12 x9)))
        (k0_pay34 (k0_pay10 (k0_pay5 x0 x1 x7) x8 x9)) (ix4 0 0 a b)
      = Ideal.sqrt ((Finset.univ : Finset (Fin 1024)).fold max (⊥ : EReal) fun r =>
          (Finset.univ : Finset (Fin 8)).fold max (⊥ : EReal) fun h => kSq (X r) pre wdkv kvg wuk (C r) (S r) h) := by
  have p (h : Fin 8) (o ho hs) (r : Fin 1024) := kSq_of H h o ho hs r
  generalize hn : k0_pay10 (k0_pay5 x0 x1 x7) x8 x9 = n at *
  generalize hv : k0_pay8 (k0_pay4 x0 x1 x7) x11 x12 = v at *
  have e : k0_pay12 (k0_pay4 x0 x1 x7) (k0_pay5 x0 x1 x7) x8 x11 x12 x9
      = addf (keySq (keyOf n 0 slices_S1024x1024_o0_0_S1024x128)) v := by rw [← hn, ← hv]; rfl
  rw [e]
  refine Eq.trans (b := topOf (maximumf (maximumf (maximumf (maximumf (maximumf (maximumf (maximumf
    (addf (keySq (keyOf n 0 slices_S1024x1024_o0_0_S1024x128)) v)
    (addf (keySq (keyOf n 128 slices_S1024x1024_o0_128_S1024x128)) v))
    (addf (keySq (keyOf n 256 slices_S1024x1024_o0_256_S1024x128)) v))
    (addf (keySq (keyOf n 384 slices_S1024x1024_o0_384_S1024x128)) v))
    (addf (keySq (keyOf n 512 slices_S1024x1024_o0_512_S1024x128)) v))
    (addf (keySq (keyOf n 640 slices_S1024x1024_o0_640_S1024x128)) v))
    (addf (keySq (keyOf n 768 slices_S1024x1024_o0_768_S1024x128)) v))
    (addf (keySq (keyOf n 896 slices_S1024x1024_o0_896_S1024x128)) v)) (ix4 0 0 a b)) rfl ?_
  rw [topOf_apply]
  refine congrArg (fun f => Ideal.sqrt ((Finset.univ : Finset (Fin 1024)).fold max (⊥ : EReal) f)) (funext fun r => ?_)
  rw [fold_eight, ← p 0 0 rfl slices_S1024x1024_o0_0_S1024x128, ← p 1 128 rfl slices_S1024x1024_o0_128_S1024x128,
    ← p 2 256 rfl slices_S1024x1024_o0_256_S1024x128, ← p 3 384 rfl slices_S1024x1024_o0_384_S1024x128,
    ← p 4 512 rfl slices_S1024x1024_o0_512_S1024x128, ← p 5 640 rfl slices_S1024x1024_o0_640_S1024x128,
    ← p 6 768 rfl slices_S1024x1024_o0_768_S1024x128, ← p 7 896 rfl slices_S1024x1024_o0_896_S1024x128]
  rfl

theorem value_of (j r : Fin 1024) :
    k0_pay42 (k0_pay41 (k0_pay6 (k0_pay5 x0 x1 x7) x8) x10) (ix3 0 j r) = value (X r) pre wdkv kvg wuv j := by
  rw [storeValue, values_apply]
  unfold value
  simp only [ckv_of H, H.wuvE, mul_comm (wuv _ _)]

end

end Cert.ProjIdeal.Calc

end
-- ==== Proof.ProjLayout.lean ====
/- The projections' weights and tables as laid out on the host, read at a row and a lane. -/
module

public import proofs.«01_k».proof.Proof.ProjTile

@[expose] public section

set_option maxRecDepth 16384

noncomputable section

namespace Cert.ProjIdeal.Calc

open Cert.ProjIdeal Cert.ProjIdeal.Gen Cert.ProjMath
open Idealize.ShloMosaic Idealize.ShloMosaic.TcCoe Idealize.SL.Sem
open Idealize.ShloMosaic.Pipeline (Dat)

variable (m : (ℓ : Loc nD τ sig) → Buf (Elt Ideal) ℓ)

/-- A table laid twice and padded. -/
def table (x : FVec Ideal S4096x32 .f32) : FVec Ideal S4096x128 .f32 :=
  concatenate S4096x128 1 [⟨S4096x32, x⟩, ⟨S4096x32, x⟩,
    ⟨S4096x64, (broadcastInDim S4096x64 ![] bcast_S_S4096x64 (constant S_ .f32 0x00000000#32) : FVec Ideal S4096x64 .f32)⟩]
    concatenates_S4096x32_S4096x32_S4096x64_S4096x128_d1

/-- Its first 64 columns as rows. -/
def tableT (x : FVec Ideal S4096x32 .f32) : FVec Ideal S64x4096 .f32 :=
  transpose S64x4096 [1, 0] (extractStridedSlice S4096x64 ![0, 0] (table x) slices_S4096x128_S4096x64_0_0)
    transposes_S4096x64_S64x4096_1_0

/-- The weights of the low-rank keys and values, of the key's rotary lanes and of their other halves. -/
def wkvOf (w : FVec Ideal S1024x320 .f32) : FVec Ideal S1024x512 .bf16 :=
  truncf .bf16 (concatenate S1024x512 1
    [⟨S1024x256, extractStridedSlice S1024x256 ![0, 0] w slices_S1024x320_S1024x256_0_0⟩,
     ⟨S1024x32, extractStridedSlice S1024x32 ![0, 256] w slices_S1024x320_S1024x32_0_256⟩,
     ⟨S1024x32, extractStridedSlice S1024x32 ![0, 288] w slices_S1024x320_S1024x32_0_288⟩,
     ⟨S1024x64, (broadcastInDim S1024x64 ![] bcast_S_S1024x64 (constant S_ .f32 0x00000000#32) : FVec Ideal S1024x64 .f32)⟩,
     ⟨S1024x32, Host.negf (extractStridedSlice S1024x32 ![0, 288] w slices_S1024x320_S1024x32_0_288)⟩,
     ⟨S1024x32, extractStridedSlice S1024x32 ![0, 256] w slices_S1024x320_S1024x32_0_256⟩,
     ⟨S1024x64, (broadcastInDim S1024x64 ![] bcast_S_S1024x64 (constant S_ .f32 0x00000000#32) : FVec Ideal S1024x64 .f32)⟩]
    concatenates_S1024x256_S1024x32_S1024x32_S1024x64_S1024x32_S1024x32_S1024x64_S1024x512_d1 : FVec Ideal S1024x512 .f32)
    bitsLt_bf16_f32

theorem V31 (c : Dev nD) : V m c main_v31 = table (m ((c : Thread nD τ).loc main_arg9)) := by rfl
theorem V32 (c : Dev nD) : V m c main_v32 = table (m ((c : Thread nD τ).loc main_arg10)) := by rfl
theorem V34 (c : Dev nD) : V m c main_v34 = tableT (m ((c : Thread nD τ).loc main_arg9)) := by rfl
theorem V36 (c : Dev nD) : V m c main_v36 = tableT (m ((c : Thread nD τ).loc main_arg10)) := by rfl
theorem V25 (c : Dev nD) : V m c main_v25 = wkvOf (m ((c : Thread nD τ).loc main_arg5)) := by rfl

theorem table_low (x : FVec Ideal S4096x32 .f32) (s : Fin 4096) (d : Fin 64) (l : Fin 128) (hl : l.val = d.val) :
    table x (ix2 s l) = twice (fun j => x (ix2 s j)) d := by
  pointwise [table]
  unfold twice
  by_cases hd : d.val < 32
  · rw [dif_pos hd, dif_pos (by omega)]
    exact congrArg x (congrArg (ix2 s) (Fin.ext (by simp only; omega)))
  · rw [dif_neg hd, dif_neg (by omega), dif_pos (by omega)]
    exact congrArg x (congrArg (ix2 s) (Fin.ext (by simp only; omega)))

theorem table_high (x : FVec Ideal S4096x32 .f32) (s : Fin 4096) (l : Fin 128) (hl : 64 ≤ l.val) :
    table x (ix2 s l) = (0 : EReal) := by
  pointwise [table]
  rw [dif_neg (by omega), dif_neg (by omega)]

theorem tableT_apply (x : FVec Ideal S4096x32 .f32) (s : Fin 4096) (d : Fin 64) :
    tableT x (ix2 d s) = twice (fun j => x (ix2 s j)) d := by
  rw [← table_low x s d ⟨d.val, by omega⟩ rfl]
  unfold tableT
  generalize table x = y
  pointwise

theorem wkv_low (w : FVec Ideal S1024x320 .f32) (k : Fin 1024) (j : Fin 512) (i : Fin 320) (hj : j.val = i.val) :
    wkvOf w (ix2 k j) = w (ix2 k i) := by
  pointwise [wkvOf]
  by_cases h1 : i.val < 256
  · rw [dif_pos (by omega)]
    exact congrArg w (congrArg (ix2 k) (Fin.ext (by simp only; omega)))
  · by_cases h2 : i.val < 288
    · rw [dif_neg (by omega), dif_pos (by omega)]
      exact congrArg w (congrArg (ix2 k) (Fin.ext (by simp only; omega)))
    · rw [dif_neg (by omega), dif_neg (by omega), dif_pos (by omega)]
      exact congrArg w (congrArg (ix2 k) (Fin.ext (by simp only; omega)))

theorem wkv_other (w : FVec Ideal S1024x320 .f32) (k : Fin 1024) (d : Fin 64) (j : Fin 512) (hj : j.val = 384 + d.val) :
    wkvOf w (ix2 k j) = other (fun d => w (ix2 k ⟨256 + d.val, by omega⟩)) d := by
  pointwise [wkvOf]
  unfold other
  by_cases hd : d.val < 32
  · rw [dif_pos hd, dif_neg (by omega), dif_neg (by omega), dif_neg (by omega), dif_neg (by omega), dif_pos (by omega)]
    exact congrArg (fun x : EReal => -x) (congrArg w (congrArg (ix2 k) (Fin.ext (by simp only; omega))))
  · rw [dif_neg hd, dif_neg (by omega), dif_neg (by omega), dif_neg (by omega), dif_neg (by omega), dif_neg (by omega),
      dif_pos (by omega)]
    exact congrArg w (congrArg (ix2 k) (Fin.ext (by simp only; omega)))

/-- The query weights without rotary embedding, head by head, as rows. -/
def wqnOf (w : FVec Ideal S384x1536 .f32) : FVec Ideal S1024x384 .bf16 :=
  truncf .bf16 (transpose S1024x384 [1, 0] (shapeCast S384x1024
    (extractStridedSlice S384x8x128 ![0, 0, 0] (shapeCast S384x8x192 w shapeCasts_S384x1536_S384x8x192)
      slices_S384x8x192_S384x8x128_0_0_0) shapeCasts_S384x8x128_S384x1024) transposes_S384x1024_S1024x384_1_0) bitsLt_bf16_f32

/-- The query weights with rotary embedding, head by head, as rows. -/
def wqrOf (w : FVec Ideal S384x1536 .f32) : FVec Ideal S512x384 .bf16 :=
  truncf .bf16 (transpose S512x384 [1, 0] (shapeCast S384x512
    (extractStridedSlice S384x8x64 ![0, 0, 128] (shapeCast S384x8x192 w shapeCasts_S384x1536_S384x8x192)
      slices_S384x8x192_S384x8x64_0_0_128) shapeCasts_S384x8x64_S384x512) transposes_S384x512_S512x384_1_0) bitsLt_bf16_f32

/-- Those of the other halves. -/
def wqbOf (w : FVec Ideal S384x1536 .f32) : FVec Ideal S512x384 .bf16 :=
  truncf .bf16 (transpose S512x384 [1, 0] (shapeCast S384x512
    (concatenate S384x8x64 2
      [⟨S384x8x32, Host.negf (extractStridedSlice S384x8x32 ![0, 0, 160]
        (shapeCast S384x8x192 w shapeCasts_S384x1536_S384x8x192) slices_S384x8x192_S384x8x32_0_0_160)⟩,
       ⟨S384x8x32, extractStridedSlice S384x8x32 ![0, 0, 128]
        (shapeCast S384x8x192 w shapeCasts_S384x1536_S384x8x192) slices_S384x8x192_S384x8x32_0_0_128⟩]
      concatenates_S384x8x32_S384x8x32_S384x8x64_d2 : FVec Ideal S384x8x64 .f32) shapeCasts_S384x8x64_S384x512)
    transposes_S384x512_S512x384_1_0) bitsLt_bf16_f32

theorem V18 (c : Dev nD) : V m c main_v18 = wqnOf (m ((c : Thread nD τ).loc main_arg4)) := by rfl
theorem V21 (c : Dev nD) : V m c main_v21 = wqrOf (m ((c : Thread nD τ).loc main_arg4)) := by rfl
theorem V24 (c : Dev nD) : V m c main_v24 = wqbOf (m ((c : Thread nD τ).loc main_arg4)) := by rfl

theorem wqn_apply (w : FVec Ideal S384x1536 .f32) (h : Fin 8) (d : Fin 128) (k : Fin 384) :
    wqnOf w (ix2 ⟨h.val * 128 + d.val, by omega⟩ k) = w (ix2 k ⟨h.val * 192 + d.val, by omega⟩) := by
  pointwise [wqnOf]

theorem wqr_apply (w : FVec Ideal S384x1536 .f32) (h : Fin 8) (d : Fin 64) (k : Fin 384) :
    wqrOf w (ix2 ⟨h.val * 64 + d.val, by omega⟩ k) = w (ix2 k ⟨h.val * 192 + (128 + d.val), by omega⟩) := by
  pointwise [wqrOf]

theorem wqb_apply (w : FVec Ideal S384x1536 .f32) (h : Fin 8) (d : Fin 64) (k : Fin 384) :
    wqbOf w (ix2 ⟨h.val * 64 + d.val, by omega⟩ k)
      = other (fun d => w (ix2 k ⟨h.val * 192 + (128 + d.val), by omega⟩)) d := by
  pointwise [wqbOf]
  unfold other
  by_cases hd : d.val < 32
  · rw [dif_pos hd, dif_pos (by omega)]
    exact congrArg (fun x : EReal => -x) (congrArg w (congrArg (ix2 k) (Fin.ext (by simp only; omega))))
  · rw [dif_neg hd, dif_neg (by omega)]

end Cert.ProjIdeal.Calc

end
-- ==== Proof.ProjOperand.lean ====
/- What the projections' blocks of a grid point hold, read off the call's arguments. -/
module

public import proofs.«01_k».proof.Proof.ProjLayout

@[expose] public section

set_option maxRecDepth 16384

noncomputable section

namespace Cert.ProjIdeal.Calc

open Cert.ProjIdeal Cert.ProjIdeal.Gen Cert.ProjMath
open Idealize.ShloMosaic Idealize.ShloMosaic.TcCoe Idealize.SL.Sem
open Idealize.ShloMosaic.Pipeline (Dat)

variable (m : (ℓ : Loc nD τ sig) → Buf (Elt Ideal) ℓ)

theorem ix_0 : ∀ t : Fin cfg0.N, win0_0.index t = ![(grid0.coords t 0).val, (grid0.coords t 1).val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![(grid0.coords t 1).val, 0] := (by decide +kernel : ∀ t : Fin grid0.N, _)
theorem ix_12 : ∀ t : Fin cfg0.N, win0_12.index t = ![(grid0.coords t 1).val, 0] := (by decide +kernel : ∀ t : Fin grid0.N, _)
theorem ix_13 : ∀ t : Fin cfg0.N, win0_13.index t = ![0, (grid0.coords t 1).val] := (by decide +kernel : ∀ t : Fin grid0.N, _)
theorem ix_14 : ∀ t : Fin cfg0.N, win0_14.index t = ![0, (grid0.coords t 1).val] := (by decide +kernel : ∀ t : Fin grid0.N, _)
theorem ix_15 : ∀ t : Fin cfg0.N, win0_15.index t = ![(grid0.coords t 0).val, 0, (grid0.coords t 1).val] := (by decide +kernel : ∀ t : Fin grid0.N, _)
theorem ix_16 : ∀ t : Fin cfg0.N, win0_16.index t = ![(grid0.coords t 0).val, (grid0.coords t 1).val, 0] := (by decide +kernel : ∀ t : Fin grid0.N, _)
theorem ix_17 : ∀ t : Fin cfg0.N, win0_17.index t = ![(grid0.coords t 0).val, 0, (grid0.coords t 1).val] := (by decide +kernel : ∀ t : Fin grid0.N, _)
theorem ix_18 : ∀ t : Fin cfg0.N, win0_18.index t = ![(grid0.coords t 0).val, (grid0.coords t 1).val, 0, 0] := (by decide +kernel : ∀ t : Fin grid0.N, _)

theorem batch_lt (t : Fin cfg0.N) : (grid0.coords t 0).val < 4 := (grid0.coords t 0).isLt
theorem part_lt (t : Fin cfg0.N) : (grid0.coords t 1).val < 4 := (grid0.coords t 1).isLt

/-- The argument of a place. -/
abbrev arg (c : Dev nD) (r : Ref sig .tc) : Buf (Elt Ideal) ((c : Thread nD τ).loc r) := m ((c : Thread nD τ).loc r)

/-- The token of a row of the block. -/
def token (t : Fin cfg0.N) (r : Fin 1024) : Fin 4096 :=
  ⟨(grid0.coords t 1).val * 1024 + r.val, by have := part_lt t; omega⟩

theorem blk_0 (c : Dev nD) (t : Fin cfg0.N) (r k : Fin 1024) :
    iblk m c 0 t (ix3 0 r k) = m ((c : Thread nD τ).loc main_arg0) (ix3 ⟨_, batch_lt t⟩ (token t r) k) := by
  rw [← V_main_arg0 m c]
  blk_simp [iblk]
  refine congrArg (V m c main_arg0) ?_
  blk_ext [ix_0, token]

theorem blk_1 (c : Dev nD) (t : Fin cfg0.N) (k : Fin 1024) :
    iblk m c 1 t (ix2 0 k) = m ((c : Thread nD τ).loc main_arg1) (ix1 k) := by
  refine Eq.trans (b := V m c main_v13 (ix2 0 k)) ?_ ?_
  · blk_simp [iblk]
    refine congrArg (V m c main_v13) ?_
    blk_ext [ix_1, token]
  · entry_read
    pointwise

theorem blk_2 (c : Dev nD) (t : Fin cfg0.N) (k : Fin 1024) (j : Fin 384) :
    iblk m c 2 t (ix2 k j) = m ((c : Thread nD τ).loc main_arg2) (ix2 k j) := by
  refine Eq.trans (b := V m c main_v14 (ix2 k j)) ?_ ?_
  · blk_simp [iblk]
    refine congrArg (V m c main_v14) ?_
    blk_ext [ix_2, token]
  · entry_read
    pointwise

theorem blk_3 (c : Dev nD) (t : Fin cfg0.N) (j : Fin 384) :
    iblk m c 3 t (ix2 0 j) = m ((c : Thread nD τ).loc main_arg3) (ix1 j) := by
  refine Eq.trans (b := V m c main_v15 (ix2 0 j)) ?_ ?_
  · blk_simp [iblk]
    refine congrArg (V m c main_v15) ?_
    blk_ext [ix_3, token]
  · entry_read
    pointwise

theorem blk_4 (c : Dev nD) (t : Fin cfg0.N) (h : Fin 8) (d : Fin 128) (k : Fin 384) :
    iblk m c 4 t (ix2 ⟨h.val * 128 + d.val, by omega⟩ k) = m ((c : Thread nD τ).loc main_arg4) (ix2 k ⟨h.val * 192 + d.val, by omega⟩) := by
  refine Eq.trans (b := V m c main_v18 (ix2 ⟨h.val * 128 + d.val, by omega⟩ k)) ?_ ?_
  · blk_simp [iblk]
    refine congrArg (V m c main_v18) ?_
    blk_ext [ix_4, token]
  · rw [V18]
    exact wqn_apply _ h d k

theorem blk_5 (c : Dev nD) (t : Fin cfg0.N) (h : Fin 8) (d : Fin 64) (k : Fin 384) :
    iblk m c 5 t (ix2 ⟨h.val * 64 + d.val, by omega⟩ k) = m ((c : Thread nD τ).loc main_arg4) (ix2 k ⟨h.val * 192 + (128 + d.val), by omega⟩) := by
  refine Eq.trans (b := V m c main_v21 (ix2 ⟨h.val * 64 + d.val, by omega⟩ k)) ?_ ?_
  · blk_simp [iblk]
    refine congrArg (V m c main_v21) ?_
    blk_ext [ix_5, token]
  · rw [V21]
    exact wqr_apply _ h d k

theorem blk_6 (c : Dev nD) (t : Fin cfg0.N) (h : Fin 8) (d : Fin 64) (k : Fin 384) :
    iblk m c 6 t (ix2 ⟨h.val * 64 + d.val, by omega⟩ k) = other (fun d => m ((c : Thread nD τ).loc main_arg4) (ix2 k ⟨h.val * 192 + (128 + d.val), by omega⟩)) d := by
  refine Eq.trans (b := V m c main_v24 (ix2 ⟨h.val * 64 + d.val, by omega⟩ k)) ?_ ?_
  · blk_simp [iblk]
    refine congrArg (V m c main_v24) ?_
    blk_ext [ix_6, token]
  · rw [V24]
    exact wqb_apply _ h d k

theorem blk_7A (c : Dev nD) (t : Fin cfg0.N) (k : Fin 1024) (j : Fin 256) :
    iblk m c 7 t (ix2 k ⟨j.val, by omega⟩) = m ((c : Thread nD τ).loc main_arg5) (ix2 k ⟨j.val, by omega⟩) := by
  refine Eq.trans (b := V m c main_v25 (ix2 k ⟨j.val, by omega⟩)) ?_ ?_
  · blk_simp [iblk]
    refine congrArg (V m c main_v25) ?_
    blk_ext [ix_7, token]
  · rw [V25]
    exact wkv_low _ k _ _ rfl

theorem blk_7B (c : Dev nD) (t : Fin cfg0.N) (k : Fin 1024) (d : Fin 64) :
    iblk m c 7 t (ix2 k ⟨256 + d.val, by omega⟩) = m ((c : Thread nD τ).loc main_arg5) (ix2 k ⟨256 + d.val, by omega⟩) := by
  refine Eq.trans (b := V m c main_v25 (ix2 k ⟨256 + d.val, by omega⟩)) ?_ ?_
  · blk_simp [iblk]
    refine congrArg (V m c main_v25) ?_
    blk_ext [ix_7, token]
  · rw [V25]
    exact wkv_low _ k _ _ rfl

theorem blk_7C (c : Dev nD) (t : Fin cfg0.N) (k : Fin 1024) (d : Fin 64) :
    iblk m c 7 t (ix2 k ⟨384 + d.val, by omega⟩) = other (fun d => m ((c : Thread nD τ).loc main_arg5) (ix2 k ⟨256 + d.val, by omega⟩)) d := by
  refine Eq.trans (b := V m c main_v25 (ix2 k ⟨384 + d.val, by omega⟩)) ?_ ?_
  · blk_simp [iblk]
    refine congrArg (V m c main_v25) ?_
    blk_ext [ix_7, token]
  · rw [V25]
    exact wkv_other _ k d _ rfl

theorem blk_8 (c : Dev nD) (t : Fin cfg0.N) (j : Fin 256) :
    iblk m c 8 t (ix2 0 j) = m ((c : Thread nD τ).loc main_arg6) (ix1 j) := by
  refine Eq.trans (b := V m c main_v26 (ix2 0 j)) ?_ ?_
  · blk_simp [iblk]
    refine congrArg (V m c main_v26) ?_
    blk_ext [ix_8, token]
  · entry_read
    pointwise

theorem blk_9 (c : Dev nD) (t : Fin cfg0.N) (k : Fin 256) (j : Fin 1024) :
    iblk m c 9 t (ix2 k j) = m ((c : Thread nD τ).loc main_arg7) (ix2 k j) := by
  refine Eq.trans (b := V m c main_v27 (ix2 k j)) ?_ ?_
  · blk_simp [iblk]
    refine congrArg (V m c main_v27) ?_
    blk_ext [ix_9, token]
  · entry_read
    pointwise

theorem blk_10 (c : Dev nD) (t : Fin cfg0.N) (k : Fin 256) (j : Fin 1024) :
    iblk m c 10 t (ix2 j k) = m ((c : Thread nD τ).loc main_arg8) (ix2 k j) := by
  refine Eq.trans (b := V m c main_v29 (ix2 j k)) ?_ ?_
  · blk_simp [iblk]
    refine congrArg (V m c main_v29) ?_
    blk_ext [ix_10, token]
  · entry_read
    pointwise

theorem blk_11K (c : Dev nD) (t : Fin cfg0.N) (r : Fin 1024) (d : Fin 64) :
    iblk m c 11 t (ix2 r ⟨d.val, by omega⟩) = twice (fun j => m ((c : Thread nD τ).loc main_arg9) (ix2 (token t r) j)) d := by
  refine Eq.trans (b := V m c main_v31 (ix2 (token t r) ⟨d.val, by omega⟩)) ?_ ?_
  · blk_simp [iblk]
    refine congrArg (V m c main_v31) ?_
    blk_ext [ix_11, token]
  · rw [V31]
    exact table_low _ _ d _ rfl

theorem blk_11Z (c : Dev nD) (t : Fin cfg0.N) (r : Fin 1024) (l : Fin 128) (hl : 64 ≤ l.val) :
    iblk m c 11 t (ix2 r l) = (0 : EReal) := by
  refine Eq.trans (b := V m c main_v31 (ix2 (token t r) l)) ?_ ?_
  · blk_simp [iblk]
    refine congrArg (V m c main_v31) ?_
    blk_ext [ix_11, token]
  · rw [V31]
    exact table_high _ _ l hl

theorem blk_12K (c : Dev nD) (t : Fin cfg0.N) (r : Fin 1024) (d : Fin 64) :
    iblk m c 12 t (ix2 r ⟨d.val, by omega⟩) = twice (fun j => m ((c : Thread nD τ).loc main_arg10) (ix2 (token t r) j)) d := by
  refine Eq.trans (b := V m c main_v32 (ix2 (token t r) ⟨d.val, by omega⟩)) ?_ ?_
  · blk_simp [iblk]
    refine congrArg (V m c main_v32) ?_
    blk_ext [ix_12, token]
  · rw [V32]
    exact table_low _ _ d _ rfl

theorem blk_12Z (c : Dev nD) (t : Fin cfg0.N) (r : Fin 1024) (l : Fin 128) (hl : 64 ≤ l.val) :
    iblk m c 12 t (ix2 r l) = (0 : EReal) := by
  refine Eq.trans (b := V m c main_v32 (ix2 (token t r) l)) ?_ ?_
  · blk_simp [iblk]
    refine congrArg (V m c main_v32) ?_
    blk_ext [ix_12, token]
  · rw [V32]
    exact table_high _ _ l hl

theorem blk_13 (c : Dev nD) (t : Fin cfg0.N) (r : Fin 1024) (d : Fin 64) :
    iblk m c 13 t (ix2 d r) = twice (fun j => m ((c : Thread nD τ).loc main_arg9) (ix2 (token t r) j)) d := by
  refine Eq.trans (b := V m c main_v34 (ix2 d (token t r))) ?_ ?_
  · blk_simp [iblk]
    refine congrArg (V m c main_v34) ?_
    blk_ext [ix_13, token]
  · rw [V34]
    exact tableT_apply _ _ d

theorem blk_14 (c : Dev nD) (t : Fin cfg0.N) (r : Fin 1024) (d : Fin 64) :
    iblk m c 14 t (ix2 d r) = twice (fun j => m ((c : Thread nD τ).loc main_arg10) (ix2 (token t r) j)) d := by
  refine Eq.trans (b := V m c main_v36 (ix2 d (token t r))) ?_ ?_
  · blk_simp [iblk]
    refine congrArg (V m c main_v36) ?_
    blk_ext [ix_14, token]
  · rw [V36]
    exact tableT_apply _ _ d

end Cert.ProjIdeal.Calc

end
-- ==== Proof.ProjValue.lean ====
/- What the projections' call leaves in its four results: every token's packed query, packed key and values, and the
   greatest key norm of every 1024 tokens. -/
module

public import proofs.«01_k».proof.Proof.ProjOperand

@[expose] public section

set_option maxRecDepth 16384

noncomputable section

namespace Cert.ProjIdeal.Calc

open Cert.ProjIdeal Cert.ProjIdeal.Gen Cert.ProjMath
open Idealize.ShloMosaic Idealize.ShloMosaic.TcCoe Idealize.SL.Sem
open Idealize.ShloMosaic.Pipeline (Dat)

/-! ## The results from the arguments -/

section

variable (x : S4x4096x1024.Idx → EReal) (pre : S1024.Idx → EReal) (wdq : S1024x384.Idx → EReal) (qg : S384.Idx → EReal)
  (wuq : S384x1536.Idx → EReal) (wdkv : S1024x320.Idx → EReal) (kvg : S256.Idx → EReal) (wuk wuv : S256x1024.Idx → EReal)
  (cos sin : S4096x32.Idx → EReal)

/-- The packed queries, tokens last. -/
def queries (i : S4x2048x4096.Idx) : EReal :=
  packedQ (fun k => x (ix3 (i 0) (i 2) k)) (fun k => pre (ix1 k)) (fun k j => wdq (ix2 k j)) (fun j => qg (ix1 j))
    (fun k j => wuq (ix2 k j)) (fun j => cos (ix2 (i 2) j)) (fun j => sin (ix2 (i 2) j))
    ⟨(i 1).val / 256, by have h : (i 1).val < 2048 := (i 1).isLt; omega⟩ ⟨(i 1).val % 256, by omega⟩

/-- The packed keys. -/
def keys (i : S4x4096x2048.Idx) : EReal :=
  packedK (fun k => x (ix3 (i 0) (i 1) k)) (fun k => pre (ix1 k)) (fun k j => wdkv (ix2 k j)) (fun j => kvg (ix1 j))
    (fun k j => wuk (ix2 k j)) (fun j => cos (ix2 (i 1) j)) (fun j => sin (ix2 (i 1) j))
    ⟨(i 2).val / 256, by have h : (i 2).val < 2048 := (i 2).isLt; omega⟩ ⟨(i 2).val % 256, by omega⟩

/-- The values, tokens last. -/
def values (i : S4x1024x4096.Idx) : EReal :=
  value (fun k => x (ix3 (i 0) (i 2) k)) (fun k => pre (ix1 k)) (fun k j => wdkv (ix2 k j)) (fun j => kvg (ix1 j))
    (fun k j => wuv (ix2 k j)) (i 1)

/-- The greatest key norm of 1024 tokens and all heads, in every lane of its tile. -/
def topNorms (i : S4x4x8x128.Idx) : EReal :=
  Ideal.sqrt ((Finset.univ : Finset (Fin 1024)).fold max (⊥ : EReal) fun r =>
    (Finset.univ : Finset (Fin 8)).fold max (⊥ : EReal) fun h =>
      kSq (fun k => x (ix3 (i 0) ⟨(i 1).val * 1024 + r.val, by have h : (i 1).val < 4 := (i 1).isLt; omega⟩ k))
        (fun k => pre (ix1 k)) (fun k j => wdkv (ix2 k j)) (fun j => kvg (ix1 j)) (fun k j => wuk (ix2 k j))
        (fun j => cos (ix2 ⟨(i 1).val * 1024 + r.val, by have h : (i 1).val < 4 := (i 1).isLt; omega⟩ j))
        (fun j => sin (ix2 ⟨(i 1).val * 1024 + r.val, by have h : (i 1).val < 4 := (i 1).isLt; omega⟩ j)) h)

end

/-! ## The blocks -/

variable (m : (ℓ : Loc nD τ sig) → Buf (Elt Ideal) ℓ)

/-- The weights that the second products negate, and the gains before them, are reals. -/
structure Finite (c : Dev nD) : Prop where
  pre : ∀ i, IsReal (m ((c : Thread nD τ).loc main_arg1) i)
  qg : ∀ i, IsReal (m ((c : Thread nD τ).loc main_arg3) i)
  wuq : ∀ (h : Fin 8) (d : Fin 32) (k : Fin 384),
    IsReal (m ((c : Thread nD τ).loc main_arg4) (ix2 k ⟨h.val * 192 + (128 + (d.val + 32)), by omega⟩))
  wdkv : ∀ (d : Fin 32) (k : Fin 1024), IsReal (m ((c : Thread nD τ).loc main_arg5) (ix2 k ⟨256 + (d.val + 32), by omega⟩))

theorem holds (c : Dev nD) (t : Fin cfg0.N) (F : Finite m c) :
    Holds (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t)
      (fun r k => m ((c : Thread nD τ).loc main_arg0) (ix3 ⟨_, batch_lt t⟩ (token t r) k))
      (fun k => m ((c : Thread nD τ).loc main_arg1) (ix1 k)) (fun k j => m ((c : Thread nD τ).loc main_arg2) (ix2 k j))
      (fun j => m ((c : Thread nD τ).loc main_arg3) (ix1 j)) (fun k j => m ((c : Thread nD τ).loc main_arg4) (ix2 k j))
      (fun k j => m ((c : Thread nD τ).loc main_arg5) (ix2 k j)) (fun j => m ((c : Thread nD τ).loc main_arg6) (ix1 j))
      (fun k j => m ((c : Thread nD τ).loc main_arg7) (ix2 k j)) (fun k j => m ((c : Thread nD τ).loc main_arg8) (ix2 k j))
      (fun r j => m ((c : Thread nD τ).loc main_arg9) (ix2 (token t r) j))
      (fun r j => m ((c : Thread nD τ).loc main_arg10) (ix2 (token t r) j)) where
  tokens r k := blk_0 m c t r k
  preE k := blk_1 m c t k
  wdqE k j := blk_2 m c t k j
  qgE j := blk_3 m c t j
  wqn h d k := blk_4 m c t h d k
  wqr h d k := blk_5 m c t h d k
  wqb h d k := blk_6 m c t h d k
  wkvA k j := blk_7A m c t k j
  wkvB k d := blk_7B m c t k d
  wkvC k d := blk_7C m c t k d
  kvgE j := blk_8 m c t j
  wukE k j := blk_9 m c t k j
  wuvE k j := blk_10 m c t k j
  cosK r d := blk_11K m c t r d
  cosZ r l hl := blk_11Z m c t r l hl
  sinK r d := blk_12K m c t r d
  sinZ r l hl := blk_12Z m c t r l hl
  cosT r d := blk_13 m c t r d
  sinT r d := blk_14 m c t r d
  preR k := F.pre _
  qgR k := F.qg _
  wuqR h d k := F.wuq h d k
  wdkvR d k := F.wdkv d k

/-! ## The arrays the call leaves -/

theorem final_values (c : Dev nD) (F : Finite m c) : (dats m 0 c).arrAt 17 cfg0.N =
    values (m ((c : Thread nD τ).loc main_arg0)) (m ((c : Thread nD τ).loc main_arg1)) (m ((c : Thread nD τ).loc main_arg5))
      (m ((c : Thread nD τ).loc main_arg6)) (m ((c : Thread nD τ).loc main_arg8)) := by
  refine (dats m 0 c).arrAt_eq_of_covers 17 _ (by decide +kernel) fun t hf y => ?_
  blk_simp
  rw [after0_17]; unfold outsAt0
  frame_out
  have ht := batch_lt t
  have hp := part_lt t
  idx_vars y
  have h0 : y0 = 0 := Subsingleton.elim (α := Fin 1) _ _
  subst h0
  have h2 : y2.val < 1024 := y2.isLt
  have hE : ((View.whole main_v37_2).slice (win0_17.rect t)).emb (ix3 0 y1 y2)
      = ix3 ⟨(grid0.coords t 0).val, ht⟩ y1 (token t y2) := by
    blk_ext [ix_17, token]
  rw [hE]
  exact value_of (holds m c t F) y1 y2

theorem final_top (c : Dev nD) (F : Finite m c) : (dats m 0 c).arrAt 18 cfg0.N =
    topNorms (m ((c : Thread nD τ).loc main_arg0)) (m ((c : Thread nD τ).loc main_arg1)) (m ((c : Thread nD τ).loc main_arg5))
      (m ((c : Thread nD τ).loc main_arg6)) (m ((c : Thread nD τ).loc main_arg7)) (m ((c : Thread nD τ).loc main_arg9))
      (m ((c : Thread nD τ).loc main_arg10)) := by
  refine (dats m 0 c).arrAt_eq_of_covers 18 _ (by decide +kernel) fun t hf y => ?_
  blk_simp
  rw [after0_18]; unfold outsAt0
  frame_out
  have ht := batch_lt t
  have hp := part_lt t
  idx_vars y
  have h0 : y0 = 0 := Subsingleton.elim (α := Fin 1) _ _
  subst h0
  have h1 : y1 = 0 := Subsingleton.elim (α := Fin 1) _ _
  subst h1
  have hE : ((View.whole main_v37_3).slice (win0_18.rect t)).emb (ix4 0 0 y2 y3)
      = ix4 ⟨(grid0.coords t 0).val, ht⟩ ⟨(grid0.coords t 1).val, hp⟩ y2 y3 := by
    blk_ext [ix_18]
  rw [hE]
  exact kmax_of (holds m c t F) y2 y3

end Cert.ProjIdeal.Calc

end
-- ==== Proof.ProjQueries.lean ====
/- The packed queries that the projections' call leaves. -/
module

public import proofs.«01_k».proof.Proof.ProjValue

@[expose] public section

set_option maxRecDepth 16384

noncomputable section

namespace Cert.ProjIdeal.Calc

open Cert.ProjIdeal Cert.ProjIdeal.Gen Cert.ProjMath
open Idealize.ShloMosaic Idealize.ShloMosaic.TcCoe Idealize.SL.Sem
open Idealize.ShloMosaic.Pipeline (Dat)

variable (m : (ℓ : Loc nD τ sig) → Buf (Elt Ideal) ℓ)

set_option maxHeartbeats 3200000 in
theorem final_queries (c : Dev nD) (F : Finite m c) : (dats m 0 c).arrAt 15 cfg0.N =
    queries (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg9))
      (m ((c : Thread nD τ).loc main_arg10)) := by
  refine (dats m 0 c).arrAt_eq_of_covers 15 _ (by decide +kernel) fun t hf y => ?_
  blk_simp
  rw [after0_15]; unfold outsAt0
  frame_out
  have ht := batch_lt t
  have hp := part_lt t
  idx_vars y
  have h0 : y0 = 0 := Subsingleton.elim (α := Fin 1) _ _
  subst h0
  have h2 : y2.val < 1024 := y2.isLt
  have hE : ((View.whole main_v37_0).slice (win0_15.rect t)).emb (ix3 0 y1 y2)
      = ix3 ⟨(grid0.coords t 0).val, ht⟩ y1 (token t y2) := by
    blk_ext [ix_15, token]
  rw [hE]
  have H := holds m c t F
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  generalize iblk m c 13 t = x13 at *
  generalize iblk m c 14 t = x14 at *
  have hi (x : S1x128x1024.Idx) (h : y2.val = (x 2).val) : x = ix3 0 (x 1) y2 := by
    funext a
    match a with
    | ⟨0, _⟩ => exact Subsingleton.elim (α := Fin 1) _ _
    | ⟨1, _⟩ => rfl
    | ⟨2, _⟩ => exact Fin.ext h.symm
  have hj (x : S1x64x1024.Idx) (h : y2.val = (x 2).val) : x = ix3 0 (x 1) y2 := by
    funext a
    match a with
    | ⟨0, _⟩ => exact Subsingleton.elim (α := Fin 1) _ _
    | ⟨1, _⟩ => rfl
    | ⟨2, _⟩ => exact Fin.ext h.symm
  canon_tiles x h using View.cover_of_tiledBy _ ![1, 64, 1024] (by sl_kernel_rfl) _
  · rw [hj x h2]
    have h1' : y1.val = 7 * 256 + 192 + (x 1).val := by have e : y1.val = _ := h1; omega
    exact query_last H 7 896 448 rfl rfl slices_S1024x1024_o896_0_S128x1024 slices_S512x1024_o448_0_S64x1024 (x 1) y2 y1 h1'
  · rw [hj x h2]
    have h1' : y1.val = 7 * 256 + 128 + (x 1).val := by have e : y1.val = _ := h1; omega
    exact query_rope H 7 448 rfl slices_S512x1024_o448_0_S64x1024 (x 1) y2 y1 h1'
  · rw [hi x h2]
    have h1' : y1.val = 7 * 256 + 0 + (x 1).val := by have e : y1.val = _ := h1; omega
    exact query_nope H 7 896 rfl slices_S1024x1024_o896_0_S128x1024 (x 1) y2 y1 h1'
  · rw [hj x h2]
    have h1' : y1.val = 6 * 256 + 192 + (x 1).val := by have e : y1.val = _ := h1; omega
    exact query_last H 6 768 384 rfl rfl slices_S1024x1024_o768_0_S128x1024 slices_S512x1024_o384_0_S64x1024 (x 1) y2 y1 h1'
  · rw [hj x h2]
    have h1' : y1.val = 6 * 256 + 128 + (x 1).val := by have e : y1.val = _ := h1; omega
    exact query_rope H 6 384 rfl slices_S512x1024_o384_0_S64x1024 (x 1) y2 y1 h1'
  · rw [hi x h2]
    have h1' : y1.val = 6 * 256 + 0 + (x 1).val := by have e : y1.val = _ := h1; omega
    exact query_nope H 6 768 rfl slices_S1024x1024_o768_0_S128x1024 (x 1) y2 y1 h1'
  · rw [hj x h2]
    have h1' : y1.val = 5 * 256 + 192 + (x 1).val := by have e : y1.val = _ := h1; omega
    exact query_last H 5 640 320 rfl rfl slices_S1024x1024_o640_0_S128x1024 slices_S512x1024_o320_0_S64x1024 (x 1) y2 y1 h1'
  · rw [hj x h2]
    have h1' : y1.val = 5 * 256 + 128 + (x 1).val := by have e : y1.val = _ := h1; omega
    exact query_rope H 5 320 rfl slices_S512x1024_o320_0_S64x1024 (x 1) y2 y1 h1'
  · rw [hi x h2]
    have h1' : y1.val = 5 * 256 + 0 + (x 1).val := by have e : y1.val = _ := h1; omega
    exact query_nope H 5 640 rfl slices_S1024x1024_o640_0_S128x1024 (x 1) y2 y1 h1'
  · rw [hj x h2]
    have h1' : y1.val = 4 * 256 + 192 + (x 1).val := by have e : y1.val = _ := h1; omega
    exact query_last H 4 512 256 rfl rfl slices_S1024x1024_o512_0_S128x1024 slices_S512x1024_o256_0_S64x1024 (x 1) y2 y1 h1'
  · rw [hj x h2]
    have h1' : y1.val = 4 * 256 + 128 + (x 1).val := by have e : y1.val = _ := h1; omega
    exact query_rope H 4 256 rfl slices_S512x1024_o256_0_S64x1024 (x 1) y2 y1 h1'
  · rw [hi x h2]
    have h1' : y1.val = 4 * 256 + 0 + (x 1).val := by have e : y1.val = _ := h1; omega
    exact query_nope H 4 512 rfl slices_S1024x1024_o512_0_S128x1024 (x 1) y2 y1 h1'
  · rw [hj x h2]
    have h1' : y1.val = 3 * 256 + 192 + (x 1).val := by have e : y1.val = _ := h1; omega
    exact query_last H 3 384 192 rfl rfl slices_S1024x1024_o384_0_S128x1024 slices_S512x1024_o192_0_S64x1024 (x 1) y2 y1 h1'
  · rw [hj x h2]
    have h1' : y1.val = 3 * 256 + 128 + (x 1).val := by have e : y1.val = _ := h1; omega
    exact query_rope H 3 192 rfl slices_S512x1024_o192_0_S64x1024 (x 1) y2 y1 h1'
  · rw [hi x h2]
    have h1' : y1.val = 3 * 256 + 0 + (x 1).val := by have e : y1.val = _ := h1; omega
    exact query_nope H 3 384 rfl slices_S1024x1024_o384_0_S128x1024 (x 1) y2 y1 h1'
  · rw [hj x h2]
    have h1' : y1.val = 2 * 256 + 192 + (x 1).val := by have e : y1.val = _ := h1; omega
    exact query_last H 2 256 128 rfl rfl slices_S1024x1024_o256_0_S128x1024 slices_S512x1024_o128_0_S64x1024 (x 1) y2 y1 h1'
  · rw [hj x h2]
    have h1' : y1.val = 2 * 256 + 128 + (x 1).val := by have e : y1.val = _ := h1; omega
    exact query_rope H 2 128 rfl slices_S512x1024_o128_0_S64x1024 (x 1) y2 y1 h1'
  · rw [hi x h2]
    have h1' : y1.val = 2 * 256 + 0 + (x 1).val := by have e : y1.val = _ := h1; omega
    exact query_nope H 2 256 rfl slices_S1024x1024_o256_0_S128x1024 (x 1) y2 y1 h1'
  · rw [hj x h2]
    have h1' : y1.val = 1 * 256 + 192 + (x 1).val := by have e : y1.val = _ := h1; omega
    exact query_last H 1 128 64 rfl rfl slices_S1024x1024_o128_0_S128x1024 slices_S512x1024_o64_0_S64x1024 (x 1) y2 y1 h1'
  · rw [hj x h2]
    have h1' : y1.val = 1 * 256 + 128 + (x 1).val := by have e : y1.val = _ := h1; omega
    exact query_rope H 1 64 rfl slices_S512x1024_o64_0_S64x1024 (x 1) y2 y1 h1'
  · rw [hi x h2]
    have h1' : y1.val = 1 * 256 + 0 + (x 1).val := by have e : y1.val = _ := h1; omega
    exact query_nope H 1 128 rfl slices_S1024x1024_o128_0_S128x1024 (x 1) y2 y1 h1'
  · rw [hj x h2]
    have h1' : y1.val = 0 * 256 + 192 + (x 1).val := by have e : y1.val = _ := h1; omega
    exact query_last H 0 0 0 rfl rfl slices_S1024x1024_o0_0_S128x1024 slices_S512x1024_o0_0_S64x1024 (x 1) y2 y1 h1'
  · rw [hj x h2]
    have h1' : y1.val = 0 * 256 + 128 + (x 1).val := by have e : y1.val = _ := h1; omega
    exact query_rope H 0 0 rfl slices_S512x1024_o0_0_S64x1024 (x 1) y2 y1 h1'
  · rw [hi x h2]
    have h1' : y1.val = 0 * 256 + 0 + (x 1).val := by have e : y1.val = _ := h1; omega
    exact query_nope H 0 0 rfl slices_S1024x1024_o0_0_S128x1024 (x 1) y2 y1 h1'

end Cert.ProjIdeal.Calc

end
-- ==== Proof.ProjKeys.lean ====
/- The packed keys that the projections' call leaves. -/
module

public import proofs.«01_k».proof.Proof.ProjValue

@[expose] public section

set_option maxRecDepth 16384

noncomputable section

namespace Cert.ProjIdeal.Calc

open Cert.ProjIdeal Cert.ProjIdeal.Gen Cert.ProjMath
open Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
theorem final_keys (c : Dev nD) (F : Finite m c) : (dats m 0 c).arrAt 16 cfg0.N =
    keys (m ((c : Thread nD τ).loc main_arg0)) (m ((c : Thread nD τ).loc main_arg1)) (m ((c : Thread nD τ).loc main_arg5))
      (m ((c : Thread nD τ).loc main_arg6)) (m ((c : Thread nD τ).loc main_arg7)) (m ((c : Thread nD τ).loc main_arg9))
      (m ((c : Thread nD τ).loc main_arg10)) := by
  refine (dats m 0 c).arrAt_eq_of_covers 16 _ (by decide +kernel) fun t hf y => ?_
  blk_simp
  rw [after0_16]; unfold outsAt0
  frame_out
  have ht := batch_lt t
  have hp := part_lt t
  idx_vars y
  have h0 : y0 = 0 := Subsingleton.elim (α := Fin 1) _ _
  subst h0
  have h1 : y1.val < 1024 := y1.isLt
  have hE : ((View.whole main_v37_1).slice (win0_16.rect t)).emb (ix3 0 y1 y2)
      = ix3 ⟨(grid0.coords t 0).val, ht⟩ (token t y1) y2 := by
    blk_ext [ix_16, token]
  rw [hE]
  have H := holds m c t F
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  generalize iblk m c 7 t = x7 at *
  generalize iblk m c 8 t = x8 at *
  generalize iblk m c 9 t = x9 at *
  generalize iblk m c 11 t = x11 at *
  generalize iblk m c 12 t = x12 at *
  have hi (x : S1x1024x128.Idx) (h : y1.val = (x 1).val) : x = ix3 0 y1 (x 2) := by
    funext a
    match a with
    | ⟨0, _⟩ => exact Subsingleton.elim (α := Fin 1) _ _
    | ⟨1, _⟩ => exact Fin.ext h.symm
    | ⟨2, _⟩ => rfl
  canon_tiles x h
  · rw [hi x h1]
    have h2' : y2.val = 7 * 256 + 128 + (x 2).val := by have e : y2.val = _ := h2; omega
    exact key_rope H 7 y1 (x 2) y2 h2'
  · rw [hi x h1]
    have h2' : y2.val = 7 * 256 + 0 + (x 2).val := by have e : y2.val = _ := h2; omega
    exact key_nope H 7 896 rfl slices_S1024x1024_o0_896_S1024x128 y1 (x 2) y2 h2'
  · rw [hi x h1]
    have h2' : y2.val = 6 * 256 + 128 + (x 2).val := by have e : y2.val = _ := h2; omega
    exact key_rope H 6 y1 (x 2) y2 h2'
  · rw [hi x h1]
    have h2' : y2.val = 6 * 256 + 0 + (x 2).val := by have e : y2.val = _ := h2; omega
    exact key_nope H 6 768 rfl slices_S1024x1024_o0_768_S1024x128 y1 (x 2) y2 h2'
  · rw [hi x h1]
    have h2' : y2.val = 5 * 256 + 128 + (x 2).val := by have e : y2.val = _ := h2; omega
    exact key_rope H 5 y1 (x 2) y2 h2'
  · rw [hi x h1]
    have h2' : y2.val = 5 * 256 + 0 + (x 2).val := by have e : y2.val = _ := h2; omega
    exact key_nope H 5 640 rfl slices_S1024x1024_o0_640_S1024x128 y1 (x 2) y2 h2'
  · rw [hi x h1]
    have h2' : y2.val = 4 * 256 + 128 + (x 2).val := by have e : y2.val = _ := h2; omega
    exact key_rope H 4 y1 (x 2) y2 h2'
  · rw [hi x h1]
    have h2' : y2.val = 4 * 256 + 0 + (x 2).val := by have e : y2.val = _ := h2; omega
    exact key_nope H 4 512 rfl slices_S1024x1024_o0_512_S1024x128 y1 (x 2) y2 h2'
  · rw [hi x h1]
    have h2' : y2.val = 3 * 256 + 128 + (x 2).val := by have e : y2.val = _ := h2; omega
    exact key_rope H 3 y1 (x 2) y2 h2'
  · rw [hi x h1]
    have h2' : y2.val = 3 * 256 + 0 + (x 2).val := by have e : y2.val = _ := h2; omega
    exact key_nope H 3 384 rfl slices_S1024x1024_o0_384_S1024x128 y1 (x 2) y2 h2'
  · rw [hi x h1]
    have h2' : y2.val = 2 * 256 + 128 + (x 2).val := by have e : y2.val = _ := h2; omega
    exact key_rope H 2 y1 (x 2) y2 h2'
  · rw [hi x h1]
    have h2' : y2.val = 2 * 256 + 0 + (x 2).val := by have e : y2.val = _ := h2; omega
    exact key_nope H 2 256 rfl slices_S1024x1024_o0_256_S1024x128 y1 (x 2) y2 h2'
  · rw [hi x h1]
    have h2' : y2.val = 1 * 256 + 128 + (x 2).val := by have e : y2.val = _ := h2; omega
    exact key_rope H 1 y1 (x 2) y2 h2'
  · rw [hi x h1]
    have h2' : y2.val = 1 * 256 + 0 + (x 2).val := by have e : y2.val = _ := h2; omega
    exact key_nope H 1 128 rfl slices_S1024x1024_o0_128_S1024x128 y1 (x 2) y2 h2'
  · rw [hi x h1]
    have h2' : y2.val = 0 * 256 + 128 + (x 2).val := by have e : y2.val = _ := h2; omega
    exact key_rope H 0 y1 (x 2) y2 h2'
  · rw [hi x h1]
    have h2' : y2.val = 0 * 256 + 0 + (x 2).val := by have e : y2.val = _ := h2; omega
    exact key_nope H 0 0 rfl slices_S1024x1024_o0_0_S1024x128 y1 (x 2) y2 h2'

end Cert.ProjIdeal.Calc

end
-- ==== Proof.ProjRef.lean ====
/- The projections' reference over the exact reals: every token's packed query, packed key and values, and the greatest
   key norm of every 1024 tokens. -/
module

public import proofs.«01_k».proof.Proof.Gen.ProjRefIdeal.Read
public import proofs.«01_k».proof.Proof.ProjMath
public import Idealize.ShloMosaic.Lib.Pointwise
public import Idealize.ShloMosaic.Lib.IdealHost
public import Idealize.ShloMosaic.PureOps.Ideal.Laws

@[expose] public section

set_option maxRecDepth 16384

noncomputable section

namespace Cert.ProjRefIdeal.Calc

open Cert.ProjRefIdeal Cert.ProjRefIdeal.Read Cert.ProjMath
open Idealize.ShloMosaic

theorem ix1_of {n : Nat} (i : (⟨1, ![n]⟩ : Shape).Idx) (a : Fin n) (h0 : i 0 = a) : i = ix1 a := by
  funext x
  match x with | ⟨0, _⟩ => exact h0

theorem ix2_of {n k : Nat} (i : (⟨2, ![n, k]⟩ : Shape).Idx) (a : Fin n) (b : Fin k) (h0 : i 0 = a) (h1 : i 1 = b) :
    i = ix2 a b := by
  funext x
  match x with | ⟨0, _⟩ => exact h0 | ⟨1, _⟩ => exact h1

theorem ix3_of {n k l : Nat} (i : (⟨3, ![n, k, l]⟩ : Shape).Idx) (a : Fin n) (b : Fin k) (c : Fin l) (h0 : i 0 = a)
    (h1 : i 1 = b) (h2 : i 2 = c) : i = ix3 a b c := by
  funext x
  match x with | ⟨0, _⟩ => exact h0 | ⟨1, _⟩ => exact h1 | ⟨2, _⟩ => exact h2

theorem ix4_of {n k l p : Nat} (i : (⟨4, ![n, k, l, p]⟩ : Shape).Idx) (a : Fin n) (b : Fin k) (c : Fin l) (d : Fin p)
    (h0 : i 0 = a) (h1 : i 1 = b) (h2 : i 2 = c) (h3 : i 3 = d) : i = ix4 a b c d := by
  funext x
  match x with | ⟨0, _⟩ => exact h0 | ⟨1, _⟩ => exact h1 | ⟨2, _⟩ => exact h2 | ⟨3, _⟩ => exact h3

theorem neg_inf_word : Ideal.ofBits .f32 0xFF800000#32 = (⊥ : EReal) := by
  simp [Ideal.ofBits, Ideal.ieee]

variable (x0 : S4x4096x1024.Idx → EReal) (x1 : S1024.Idx → EReal) (x2 : S1024x384.Idx → EReal) (x3 : S384.Idx → EReal)
  (x4 : S384x1536.Idx → EReal) (x5 : S1024x320.Idx → EReal) (x6 : S256.Idx → EReal) (x7 x8 : S256x1024.Idx → EReal)
  (x9 x10 : S4096x32.Idx → EReal)

/-! ## The norms and the products -/

/-- The normed tokens. -/
theorem normed_at (b : Fin 4) (t : Fin 4096) (d : Fin 1024) :
    val_main_v12 (F := Ideal) x0 x1 (ix3 b t d) = xn (fun k => x0 (ix3 b t k)) (fun k => x1 (ix1 k)) d := by
  simp only [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply,
    Ideal.mulf_def, Ideal.addf_def, Ideal.hostDivf_def, Ideal.hostUnary_rsqrt_def, Ideal.ofBits_def, Ideal.ofBits_zero_f32, zero_add]
  have e (k : Fin 1024) : idx_main_v1 (idx_main_v2 (idx_main_v8 (ix3 b t d))) k = ix3 b t k := ix3_of _ b t k rfl rfl rfl
  have e' : idx_main_v10 (idx_main_v11 (ix3 b t d)) = ix1 d := ix1_of _ d rfl
  simp only [e, e']
  rfl

/-- The low-rank queries. -/
theorem low_at (b : Fin 4) (t : Fin 4096) (j : Fin 384) : val_main_v13 (F := Ideal) x0 x1 x2 (ix3 b t j)
    = ∑ k, xn (fun k => x0 (ix3 b t k)) (fun k => x1 (ix1 k)) k * x2 (ix2 k j) := by
  rw [val_main_v13_apply]
  refine Finset.sum_congr rfl fun k _ => ?_
  rw [ix3_of (lidx_main_v13 (ix3 b t j) k) b t k rfl rfl rfl, ix2_of (ridx_main_v13 (ix3 b t j) k) k j rfl rfl, normed_at]

/-- The normed low-rank queries. -/
theorem cq_at (b : Fin 4) (t : Fin 4096) (j : Fin 384) : val_main_v26 (F := Ideal) x0 x1 x2 x3 (ix3 b t j)
    = cq (fun k => x0 (ix3 b t k)) (fun k => x1 (ix1 k)) (fun k j => x2 (ix2 k j)) (fun j => x3 (ix1 j)) j := by
  simp only [val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_v14_apply, val_main_cst_2_apply, val_main_cst_3_apply, val_main_cst_4_apply,
    Ideal.mulf_def, Ideal.addf_def, Ideal.hostDivf_def, Ideal.hostUnary_rsqrt_def, Ideal.ofBits_def, Ideal.ofBits_zero_f32, zero_add]
  have e (k : Fin 384) : idx_main_v15 (idx_main_v16 (idx_main_v22 (ix3 b t j))) k = ix3 b t k := ix3_of _ b t k rfl rfl rfl
  have e' : idx_main_v24 (idx_main_v25 (ix3 b t j)) = ix1 j := ix1_of _ j rfl
  simp only [e, e', low_at]
  rfl

/-- The queries, head by head. -/
theorem query_at (b : Fin 4) (t : Fin 4096) (h : Fin 8) (d : Fin 192) : val_main_v28 (F := Ideal) x0 x1 x2 x3 x4 (ix4 b t h d)
    = query (fun k => x0 (ix3 b t k)) (fun k => x1 (ix1 k)) (fun k j => x2 (ix2 k j)) (fun j => x3 (ix1 j))
        (fun k j => x4 (ix2 k j)) h d := by
  have hb := b.isLt; have ht := t.isLt; have hh := h.isLt; have hd := d.isLt
  have e : idx_main_v28 (ix4 b t h d) = ix3 b t ⟨h.val * 192 + d.val, by omega⟩ := ix3_of _ _ _ _
    (Fin.ext (by show (((b.val * 4096 + t.val) * 8 + h.val) * 192 + d.val) / 6291456 = b.val; omega))
    (Fin.ext (by show (((b.val * 4096 + t.val) * 8 + h.val) * 192 + d.val) / 1536 % 4096 = t.val; omega))
    (Fin.ext (by show (((b.val * 4096 + t.val) * 8 + h.val) * 192 + d.val) % 1536 = h.val * 192 + d.val; omega))
  rw [val_main_v28_apply, e, val_main_v27_apply]
  refine Finset.sum_congr rfl fun k _ => ?_
  rw [ix3_of (lidx_main_v27 (ix3 b t _) k) b t k rfl rfl rfl, ix2_of (ridx_main_v27 (ix3 b t _) k) k _ rfl rfl, cq_at]
  rfl

/-- The low-rank keys and values, and the key's rotary lanes. -/
theorem kv_at (b : Fin 4) (t : Fin 4096) (j : Fin 320) : val_main_v49 (F := Ideal) x0 x1 x5 (ix3 b t j)
    = kv (fun k => x0 (ix3 b t k)) (fun k => x1 (ix1 k)) (fun k j => x5 (ix2 k j)) j := by
  rw [val_main_v49_apply]
  refine Finset.sum_congr rfl fun k _ => ?_
  rw [ix3_of (lidx_main_v49 (ix3 b t j) k) b t k rfl rfl rfl, ix2_of (ridx_main_v49 (ix3 b t j) k) k j rfl rfl, normed_at]

/-- The normed low-rank keys and values. -/
theorem ckv_at (b : Fin 4) (t : Fin 4096) (j : Fin 256) : val_main_v63 (F := Ideal) x0 x1 x5 x6 (ix3 b t j)
    = ckv (fun k => x0 (ix3 b t k)) (fun k => x1 (ix1 k)) (fun k j => x5 (ix2 k j)) (fun j => x6 (ix1 j)) j := by
  have e50 (k : Fin 256) : val_main_v50 (F := Ideal) x0 x1 x5 (ix3 b t k)
      = kv (fun k => x0 (ix3 b t k)) (fun k => x1 (ix1 k)) (fun k j => x5 (ix2 k j)) ⟨k.val, by omega⟩ := by
    rw [val_main_v50_apply, ix3_of (idx_main_v50 (ix3 b t k)) b t ⟨k.val, by omega⟩ rfl rfl rfl, kv_at]
  simp only [val_main_v63_apply, val_main_v62_apply, val_main_v61_apply, val_main_v60_apply, val_main_v59_apply,
    val_main_v58_apply, val_main_v57_apply, val_main_v56_apply, val_main_v55_apply, val_main_v54_apply, val_main_v53_apply,
    val_main_v52_apply, val_main_v51_apply, val_main_cst_5_apply, val_main_cst_6_apply, val_main_cst_7_apply,
    Ideal.mulf_def, Ideal.addf_def, Ideal.hostDivf_def, Ideal.hostUnary_rsqrt_def, Ideal.ofBits_def, Ideal.ofBits_zero_f32, zero_add]
  have e (k : Fin 256) : idx_main_v52 (idx_main_v53 (idx_main_v59 (ix3 b t j))) k = ix3 b t k := ix3_of _ b t k rfl rfl rfl
  have e' : idx_main_v61 (idx_main_v62 (ix3 b t j)) = ix1 j := ix1_of _ j rfl
  simp only [e, e', e50]
  rfl

/-! ## The rotary embedding -/

/-- Two halves of 32 lanes, one after the other. -/
theorem halves4 (y z : S4x4096x8x32.Idx → EReal) (b : Fin 4) (t : Fin 4096) (h : Fin 8) (d : Fin 64) :
    concatenate S4x4096x8x64 3 [⟨S4x4096x8x32, y⟩, ⟨S4x4096x8x32, z⟩]
        Gen.concatenates_S4x4096x8x32_S4x4096x8x32_S4x4096x8x64_d3 (ix4 b t h d)
      = if hd : d.val < 32 then y (ix4 b t h ⟨d.val, hd⟩) else z (ix4 b t h ⟨d.val - 32, by omega⟩) := by
  pointwise

theorem halves3 (y z : S4x4096x32.Idx → EReal) (b : Fin 4) (t : Fin 4096) (d : Fin 64) :
    concatenate S4x4096x64 2 [⟨S4x4096x32, y⟩, ⟨S4x4096x32, z⟩]
        Gen.concatenates_S4x4096x32_S4x4096x32_S4x4096x64_d2 (ix3 b t d)
      = if hd : d.val < 32 then y (ix3 b t ⟨d.val, hd⟩) else z (ix3 b t ⟨d.val - 32, by omega⟩) := by
  pointwise

/-- The query's rotary lanes, turned. -/
theorem qturn_at (b : Fin 4) (t : Fin 4096) (h : Fin 8) (d : Fin 64) :
    val_main_v48 (F := Ideal) x0 x1 x2 x3 x4 x9 x10 (ix4 b t h d)
      = rot (fun d => query (fun k => x0 (ix3 b t k)) (fun k => x1 (ix1 k)) (fun k j => x2 (ix2 k j)) (fun j => x3 (ix1 j))
          (fun k j => x4 (ix2 k j)) h ⟨128 + d.val, by omega⟩) (fun j => x9 (ix2 t j)) (fun j => x10 (ix2 t j)) d := by
  have e29 (d : Fin 64) : val_main_v29 (F := Ideal) x0 x1 x2 x3 x4 (ix4 b t h d)
      = query (fun k => x0 (ix3 b t k)) (fun k => x1 (ix1 k)) (fun k j => x2 (ix2 k j)) (fun j => x3 (ix1 j))
          (fun k j => x4 (ix2 k j)) h ⟨128 + d.val, by omega⟩ := by
    rw [val_main_v29_apply, ix4_of (idx_main_v29 (ix4 b t h d)) b t h ⟨128 + d.val, by omega⟩ rfl rfl rfl rfl, query_at]
  have i32 (k : Fin 32) : idx_main_v32 (ix4 b t h k) = ix4 b t h ⟨k.val, by omega⟩ := ix4_of _ _ _ _ _ rfl rfl rfl rfl
  have i33 (k : Fin 32) : idx_main_v33 (ix4 b t h k) = ix4 b t h ⟨k.val + 32, by omega⟩ :=
    ix4_of _ _ _ _ _ rfl rfl rfl (Fin.ext (by show 32 + k.val = k.val + 32; omega))
  have i35 (k : Fin 32) : idx_main_v30 (idx_main_v34 (idx_main_v35 (ix4 b t h k))) = ix2 t k := ix2_of _ _ _ rfl rfl
  have i38 (k : Fin 32) : idx_main_v31 (idx_main_v37 (idx_main_v38 (ix4 b t h k))) = ix2 t k := ix2_of _ _ _ rfl rfl
  have i42 (k : Fin 32) : idx_main_v30 (idx_main_v41 (idx_main_v42 (ix4 b t h k))) = ix2 t k := ix2_of _ _ _ rfl rfl
  have i45 (k : Fin 32) : idx_main_v31 (idx_main_v44 (idx_main_v45 (ix4 b t h k))) = ix2 t k := ix2_of _ _ _ rfl rfl
  unfold val_main_v48
  rw [halves4]
  simp only [val_main_v40_apply, val_main_v36_apply, val_main_v39_apply, val_main_v32_apply, val_main_v33_apply,
    val_main_v35_apply, val_main_v34_apply, val_main_v30_apply, val_main_v38_apply, val_main_v37_apply, val_main_v31_apply,
    val_main_v47_apply, val_main_v43_apply, val_main_v46_apply, val_main_v42_apply, val_main_v41_apply, val_main_v45_apply,
    val_main_v44_apply, Ideal.mulf_def, Ideal.addf_def, Ideal.subf_def, i32, i33, i35, i38, i42, i45, e29]
  unfold rot
  by_cases hd : d.val < 32
  · simp only [dif_pos hd]
  · simp only [dif_neg hd]
    have e : d.val - 32 + 32 = d.val := by omega
    simp only [e]

/-- The key's rotary lanes, turned. -/
theorem kturn_at (b : Fin 4) (t : Fin 4096) (d : Fin 64) : val_main_v81 (F := Ideal) x0 x1 x5 x9 x10 (ix3 b t d)
    = kRope (fun k => x0 (ix3 b t k)) (fun k => x1 (ix1 k)) (fun k j => x5 (ix2 k j)) (fun j => x9 (ix2 t j))
        (fun j => x10 (ix2 t j)) d := by
  have e64 (d : Fin 64) : val_main_v64 (F := Ideal) x0 x1 x5 (ix3 b t d)
      = kv (fun k => x0 (ix3 b t k)) (fun k => x1 (ix1 k)) (fun k j => x5 (ix2 k j)) ⟨256 + d.val, by omega⟩ := by
    rw [val_main_v64_apply, ix3_of (idx_main_v64 (ix3 b t d)) b t ⟨256 + d.val, by omega⟩ rfl rfl rfl, kv_at]
  have i65 (k : Fin 32) : idx_main_v65 (ix3 b t k) = ix3 b t ⟨k.val, by omega⟩ := ix3_of _ _ _ _ rfl rfl rfl
  have i66 (k : Fin 32) : idx_main_v66 (ix3 b t k) = ix3 b t ⟨k.val + 32, by omega⟩ :=
    ix3_of _ _ _ _ rfl rfl (Fin.ext (by show 32 + k.val = k.val + 32; omega))
  have i68 (k : Fin 32) : idx_main_v67 (idx_main_v68 (ix3 b t k)) = ix2 t k := ix2_of _ _ _ rfl rfl
  have i71 (k : Fin 32) : idx_main_v70 (idx_main_v71 (ix3 b t k)) = ix2 t k := ix2_of _ _ _ rfl rfl
  have i75 (k : Fin 32) : idx_main_v74 (idx_main_v75 (ix3 b t k)) = ix2 t k := ix2_of _ _ _ rfl rfl
  have i78 (k : Fin 32) : idx_main_v77 (idx_main_v78 (ix3 b t k)) = ix2 t k := ix2_of _ _ _ rfl rfl
  unfold val_main_v81
  rw [halves3]
  simp only [val_main_v73_apply, val_main_v69_apply, val_main_v72_apply, val_main_v65_apply, val_main_v66_apply,
    val_main_v68_apply, val_main_v67_apply, val_main_v71_apply, val_main_v70_apply, val_main_v80_apply, val_main_v76_apply,
    val_main_v79_apply, val_main_v75_apply, val_main_v74_apply, val_main_v78_apply, val_main_v77_apply,
    Ideal.mulf_def, Ideal.addf_def, Ideal.subf_def, i65, i66, i68, i71, i75, i78, e64]
  unfold kRope rot
  by_cases hd : d.val < 32
  · simp only [dif_pos hd]
  · simp only [dif_neg hd]
    have e : d.val - 32 + 32 = d.val := by omega
    simp only [e]

/-! ## The queries -/

/-- The scaled query lanes without rotary embedding. -/
theorem qnope_at (b : Fin 4) (t : Fin 4096) (h : Fin 8) (d : Fin 128) :
    val_main_v87 (F := Ideal) x0 x1 x2 x3 x4 (ix4 b t h d)
      = qNope (fun k => x0 (ix3 b t k)) (fun k => x1 (ix1 k)) (fun k j => x2 (ix2 k j)) (fun j => x3 (ix1 j))
          (fun k j => x4 (ix2 k j)) h d := by
  rw [val_main_v87_apply, val_main_v85_apply, ix4_of (idx_main_v85 (ix4 b t h d)) b t h ⟨d.val, by omega⟩ rfl rfl rfl rfl,
    query_at, val_main_v86_apply, val_main_cst_8_apply, Ideal.mulf_def, Ideal.ofBits_def]
  rfl

/-- The scaled query lanes with rotary embedding. -/
theorem qrope_at (b : Fin 4) (t : Fin 4096) (h : Fin 8) (d : Fin 64) :
    val_main_v89 (F := Ideal) x0 x1 x2 x3 x4 x9 x10 (ix4 b t h d)
      = qRope (fun k => x0 (ix3 b t k)) (fun k => x1 (ix1 k)) (fun k j => x2 (ix2 k j)) (fun j => x3 (ix1 j))
          (fun k j => x4 (ix2 k j)) (fun j => x9 (ix2 t j)) (fun j => x10 (ix2 t j)) h d := by
  rw [val_main_v89_apply, qturn_at, val_main_v88_apply, val_main_cst_9_apply, Ideal.mulf_def, Ideal.ofBits_def]
  rfl

/-- A head's packed lanes: four pieces one after the other. -/
theorem pieces (y : S4x4096x8x128.Idx → EReal) (z : S4x4096x8x64.Idx → EReal) (o : S4x4096x8x63.Idx → EReal)
    (n : S4x4096x8x1.Idx → EReal) (b : Fin 4) (t : Fin 4096) (h : Fin 8) (l : Fin 256) :
    concatenate S4x4096x8x256 3 [⟨S4x4096x8x128, y⟩, ⟨S4x4096x8x64, z⟩, ⟨S4x4096x8x63, o⟩, ⟨S4x4096x8x1, n⟩]
        Gen.concatenates_S4x4096x8x128_S4x4096x8x64_S4x4096x8x63_S4x4096x8x1_S4x4096x8x256_d3 (ix4 b t h l)
      = if h1 : l.val < 128 then y (ix4 b t h ⟨l.val, h1⟩)
        else if h2 : l.val < 192 then z (ix4 b t h ⟨l.val - 128, by omega⟩)
        else if h3 : l.val < 255 then o (ix4 b t h ⟨l.val - 192, by omega⟩)
        else n (ix4 b t h 0) := by
  pointwise
  by_cases h1 : l.val < 128
  · rw [dif_pos h1, dif_pos h1]
  · rw [dif_neg h1, dif_neg h1]
    by_cases h2 : l.val < 192
    · rw [dif_pos h2, dif_pos (by omega)]
    · rw [dif_neg h2, dif_neg (by omega)]
      by_cases h3 : l.val < 255
      · rw [dif_pos h3, dif_pos (by omega)]
        exact congrArg o (congrArg (ix4 b t h) (Fin.ext (by simp only; omega)))
      · rw [dif_neg h3, dif_neg (by omega)]
        exact congrArg n (congrArg (ix4 b t h) (Subsingleton.elim (α := Fin 1) _ _))

/-- The packed queries, head by head. -/
theorem packed_at (b : Fin 4) (t : Fin 4096) (h : Fin 8) (l : Fin 256) :
    val_main_v98 (F := Ideal) x0 x1 x2 x3 x4 x9 x10 (ix4 b t h l)
      = packedQ (fun k => x0 (ix3 b t k)) (fun k => x1 (ix1 k)) (fun k j => x2 (ix2 k j)) (fun j => x3 (ix1 j))
          (fun k j => x4 (ix2 k j)) (fun j => x9 (ix2 t j)) (fun j => x10 (ix2 t j)) h l := by
  have i97 : idx_main_v97 (ix4 b t h 0) = ix3 b t h := ix3_of _ _ _ _ rfl rfl rfl
  have i91 (k : Fin 128) : idx_main_v91 (ix3 b t h) k = ix4 b t h k := ix4_of _ _ _ _ _ rfl rfl rfl rfl
  have i93 (k : Fin 64) : idx_main_v93 (ix3 b t h) k = ix4 b t h k := ix4_of _ _ _ _ _ rfl rfl rfl rfl
  unfold val_main_v98
  rw [pieces]
  simp only [qnope_at, qrope_at, val_main_v96_apply, val_main_cst_12_apply, val_main_v97_apply, i97, val_main_v95_apply,
    val_main_v94_apply, val_main_v91_apply, val_main_v93_apply, val_main_cst_10_apply, val_main_cst_11_apply, i91, i93,
    val_main_v90_apply, val_main_v92_apply, Ideal.mulf_def, Ideal.addf_def, Ideal.hostUnary_sqrt_def, Ideal.ofBits_def,
    Ideal.ofBits_zero_f32, zero_add]
  unfold packedQ
  rfl

/-- The first result. -/
theorem queries_at (b : Fin 4) (l : Fin 2048) (t : Fin 4096) :
    val_main_v116 (F := Ideal) x0 x1 x2 x3 x4 x9 x10 (ix3 b l t)
      = packedQ (fun k => x0 (ix3 b t k)) (fun k => x1 (ix1 k)) (fun k j => x2 (ix2 k j)) (fun j => x3 (ix1 j))
          (fun k j => x4 (ix2 k j)) (fun j => x9 (ix2 t j)) (fun j => x10 (ix2 t j)) ⟨l.val / 256, by omega⟩
          ⟨l.val % 256, by omega⟩ := by
  have hb := b.isLt; have ht := t.isLt; have hl := l.isLt
  have e : idx_main_v114 (idx_main_v115 (ix3 b l t)) = ix4 b t ⟨l.val / 256, by omega⟩ ⟨l.val % 256, by omega⟩ :=
    ix4_of _ _ _ _ _
      (Fin.ext (by show ((b.val * 4096 + t.val) * 2048 + l.val) / 8388608 = b.val; omega))
      (Fin.ext (by show ((b.val * 4096 + t.val) * 2048 + l.val) / 2048 % 4096 = t.val; omega))
      (Fin.ext (by show ((b.val * 4096 + t.val) * 2048 + l.val) / 256 % 8 = l.val / 256; omega))
      (Fin.ext (by show ((b.val * 4096 + t.val) * 2048 + l.val) % 256 = l.val % 256; omega))
  rw [val_main_v116_apply, val_main_v115_apply, val_main_v114_apply, e, packed_at]
  rfl

/-! ## The keys and the values -/

/-- The key lanes without rotary embedding. -/
theorem knope_at (b : Fin 4) (t : Fin 4096) (h : Fin 8) (d : Fin 128) :
    val_main_v83 (F := Ideal) x0 x1 x5 x6 x7 (ix4 b t h d)
      = kNope (fun k => x0 (ix3 b t k)) (fun k => x1 (ix1 k)) (fun k j => x5 (ix2 k j)) (fun j => x6 (ix1 j))
          (fun k j => x7 (ix2 k j)) h d := by
  have hb := b.isLt; have ht := t.isLt; have hh := h.isLt; have hd := d.isLt
  have e : idx_main_v83 (ix4 b t h d) = ix3 b t ⟨h.val * 128 + d.val, by omega⟩ := ix3_of _ _ _ _
    (Fin.ext (by show (((b.val * 4096 + t.val) * 8 + h.val) * 128 + d.val) / 4194304 = b.val; omega))
    (Fin.ext (by show (((b.val * 4096 + t.val) * 8 + h.val) * 128 + d.val) / 1024 % 4096 = t.val; omega))
    (Fin.ext (by show (((b.val * 4096 + t.val) * 8 + h.val) * 128 + d.val) % 1024 = h.val * 128 + d.val; omega))
  rw [val_main_v83_apply, e, val_main_v82_apply]
  refine Finset.sum_congr rfl fun k _ => ?_
  rw [ix3_of (lidx_main_v82 (ix3 b t _) k) b t k rfl rfl rfl, ix2_of (ridx_main_v82 (ix3 b t _) k) k _ rfl rfl, ckv_at]
  rfl

/-- A head's packed key lanes: three pieces one after the other. -/
theorem pieces_key (y : S4x4096x8x128.Idx → EReal) (z o : S4x4096x8x64.Idx → EReal) (b : Fin 4) (t : Fin 4096) (h : Fin 8)
    (l : Fin 256) :
    concatenate S4x4096x8x256 3 [⟨S4x4096x8x128, y⟩, ⟨S4x4096x8x64, z⟩, ⟨S4x4096x8x64, o⟩]
        Gen.concatenates_S4x4096x8x128_S4x4096x8x64_S4x4096x8x64_S4x4096x8x256_d3 (ix4 b t h l)
      = if h1 : l.val < 128 then y (ix4 b t h ⟨l.val, h1⟩)
        else if h2 : l.val < 192 then z (ix4 b t h ⟨l.val - 128, by omega⟩)
        else o (ix4 b t h ⟨l.val - 192, by omega⟩) := by
  pointwise
  by_cases h1 : l.val < 128
  · rw [dif_pos h1, dif_pos h1]
  · rw [dif_neg h1, dif_neg h1]
    by_cases h2 : l.val < 192
    · rw [dif_pos h2, dif_pos (by omega)]
    · rw [dif_neg h2, dif_neg (by omega)]
      exact congrArg o (congrArg (ix4 b t h) (Fin.ext (by simp only; omega)))

/-- The packed keys, head by head. -/
theorem packedk_at (b : Fin 4) (t : Fin 4096) (h : Fin 8) (l : Fin 256) :
    val_main_v102 (F := Ideal) x0 x1 x5 x6 x7 x9 x10 (ix4 b t h l)
      = packedK (fun k => x0 (ix3 b t k)) (fun k => x1 (ix1 k)) (fun k j => x5 (ix2 k j)) (fun j => x6 (ix1 j))
          (fun k j => x7 (ix2 k j)) (fun j => x9 (ix2 t j)) (fun j => x10 (ix2 t j)) h l := by
  have i99 (k : Fin 64) : idx_main_v99 (idx_main_v100 (ix4 b t h k)) = ix3 b t k := ix3_of _ _ _ _ rfl rfl rfl
  unfold val_main_v102
  rw [pieces_key]
  simp only [knope_at, val_main_v100_apply, val_main_v99_apply, i99, kturn_at, val_main_v101_apply, val_main_cst_13_apply,
    Ideal.ofBits_def, Ideal.ofBits_zero_f32]
  unfold packedK
  rfl

/-- The second result. -/
theorem keys_at (b : Fin 4) (t : Fin 4096) (l : Fin 2048) :
    val_main_v118 (F := Ideal) x0 x1 x5 x6 x7 x9 x10 (ix3 b t l)
      = packedK (fun k => x0 (ix3 b t k)) (fun k => x1 (ix1 k)) (fun k j => x5 (ix2 k j)) (fun j => x6 (ix1 j))
          (fun k j => x7 (ix2 k j)) (fun j => x9 (ix2 t j)) (fun j => x10 (ix2 t j)) ⟨l.val / 256, by omega⟩
          ⟨l.val % 256, by omega⟩ := by
  have hb := b.isLt; have ht := t.isLt; have hl := l.isLt
  have e : idx_main_v117 (ix3 b t l) = ix4 b t ⟨l.val / 256, by omega⟩ ⟨l.val % 256, by omega⟩ :=
    ix4_of _ _ _ _ _
      (Fin.ext (by show ((b.val * 4096 + t.val) * 2048 + l.val) / 8388608 = b.val; omega))
      (Fin.ext (by show ((b.val * 4096 + t.val) * 2048 + l.val) / 2048 % 4096 = t.val; omega))
      (Fin.ext (by show ((b.val * 4096 + t.val) * 2048 + l.val) / 256 % 8 = l.val / 256; omega))
      (Fin.ext (by show ((b.val * 4096 + t.val) * 2048 + l.val) % 256 = l.val % 256; omega))
  rw [val_main_v118_apply, val_main_v117_apply, e, packedk_at]
  rfl

/-- The third result. -/
theorem values_at (b : Fin 4) (j : Fin 1024) (t : Fin 4096) :
    val_main_v120 (F := Ideal) x0 x1 x5 x6 x8 (ix3 b j t)
      = value (fun k => x0 (ix3 b t k)) (fun k => x1 (ix1 k)) (fun k j => x5 (ix2 k j)) (fun j => x6 (ix1 j))
          (fun k j => x8 (ix2 k j)) j := by
  rw [val_main_v120_apply, val_main_v119_apply, ix3_of (idx_main_v119 (ix3 b j t)) b t j rfl rfl rfl, val_main_v84_apply]
  refine Finset.sum_congr rfl fun k _ => ?_
  rw [ix3_of (lidx_main_v84 (ix3 b t j) k) b t k rfl rfl rfl, ix2_of (ridx_main_v84 (ix3 b t j) k) k j rfl rfl, ckv_at]

/-- A head's squared key norm. -/
theorem ksq_at (b : Fin 4) (t : Fin 4096) (h : Fin 8) :
    val_main_v109 (F := Ideal) x0 x1 x5 x6 x7 x9 x10 (ix3 b t h)
      = kSq (fun k => x0 (ix3 b t k)) (fun k => x1 (ix1 k)) (fun k j => x5 (ix2 k j)) (fun j => x6 (ix1 j))
          (fun k j => x7 (ix2 k j)) (fun j => x9 (ix2 t j)) (fun j => x10 (ix2 t j)) h := by
  have i104 (k : Fin 128) : idx_main_v104 (ix3 b t h) k = ix4 b t h k := ix4_of _ _ _ _ _ rfl rfl rfl rfl
  have i106 (k : Fin 64) : idx_main_v106 (idx_main_v107 (idx_main_v108 (ix3 b t h))) k = ix3 b t k :=
    ix3_of _ _ _ _ rfl rfl rfl
  simp only [val_main_v109_apply, val_main_v104_apply, val_main_v108_apply, val_main_v107_apply, val_main_v106_apply,
    val_main_v103_apply, val_main_v105_apply, val_main_cst_14_apply, val_main_cst_15_apply, i104, i106, knope_at, kturn_at,
    Ideal.mulf_def, Ideal.addf_def, Ideal.ofBits_def, Ideal.ofBits_zero_f32, zero_add]
  rfl

/-- The greatest squared key norm of a token. -/
theorem top_heads (b : Fin 4) (t : Fin 4096) : val_main_v110 (F := Ideal) x0 x1 x5 x6 x7 x9 x10 (ix2 b t)
    = (Finset.univ : Finset (Fin 8)).fold max (⊥ : EReal) fun h =>
        kSq (fun k => x0 (ix3 b t k)) (fun k => x1 (ix1 k)) (fun k j => x5 (ix2 k j)) (fun j => x6 (ix1 j))
          (fun k j => x7 (ix2 k j)) (fun j => x9 (ix2 t j)) (fun j => x10 (ix2 t j)) h := by
  unfold val_main_v110
  rw [Host.reduce_eq_fold_single FloatOps.maximumf _ _ Gen.reducesTo_S4x4096x8_S4x4096_d2 (by decide) Gen.h_S_,
    val_main_cst_16_apply, Ideal.ofBits_def, neg_inf_word]
  refine congrArg (Finset.fold max (⊥ : EReal) · Finset.univ) (funext fun (k : Fin 8) => ?_)
  exact Eq.trans (b := val_main_v109 (F := Ideal) x0 x1 x5 x6 x7 x9 x10 (ix3 b t k))
    (congrArg (val_main_v109 (F := Ideal) x0 x1 x5 x6 x7 x9 x10) (ix3_of _ b t k rfl rfl rfl)) (ksq_at ..)

/-- The index of a token in its group of 1024. -/
theorem lifted_at (hr : S4x4x1024.Reduces [2] S4x4) (b p : Fin 4) (k : Fin 1024) :
    hr.lift (ix2 b p) k = ix3 b p k := by
  funext a
  match a with
  | ⟨0, _⟩ => rfl
  | ⟨1, _⟩ => rfl
  | ⟨2, _⟩ => rfl

/-- The fourth result. -/
theorem top_at (b : Fin 4) (p : Fin 4) (u : Fin 8) (v : Fin 128) :
    val_main_v122 (F := Ideal) x0 x1 x5 x6 x7 x9 x10 (ix4 b p u v)
      = Ideal.sqrt ((Finset.univ : Finset (Fin 1024)).fold max (⊥ : EReal) fun r =>
          (Finset.univ : Finset (Fin 8)).fold max (⊥ : EReal) fun h =>
            kSq (fun k => x0 (ix3 b ⟨p.val * 1024 + r.val, by omega⟩ k)) (fun k => x1 (ix1 k)) (fun k j => x5 (ix2 k j))
              (fun j => x6 (ix1 j)) (fun k j => x7 (ix2 k j)) (fun j => x9 (ix2 ⟨p.val * 1024 + r.val, by omega⟩ j))
              (fun j => x10 (ix2 ⟨p.val * 1024 + r.val, by omega⟩ j)) h) := by
  rw [val_main_v122_apply, val_main_v121_apply, ix2_of (idx_main_v121 (idx_main_v122 (ix4 b p u v))) b p rfl rfl,
    val_main_v113_apply, Ideal.hostUnary_sqrt_def]
  refine congrArg Ideal.sqrt ?_
  have e (k : Fin 1024) : val_main_v111 (F := Ideal) x0 x1 x5 x6 x7 x9 x10 (ix3 b p k)
      = (Finset.univ : Finset (Fin 8)).fold max (⊥ : EReal) fun h =>
          kSq (fun j => x0 (ix3 b ⟨p.val * 1024 + k.val, by omega⟩ j)) (fun k => x1 (ix1 k)) (fun k j => x5 (ix2 k j))
            (fun j => x6 (ix1 j)) (fun k j => x7 (ix2 k j)) (fun j => x9 (ix2 ⟨p.val * 1024 + k.val, by omega⟩ j))
            (fun j => x10 (ix2 ⟨p.val * 1024 + k.val, by omega⟩ j)) h := by
    have hb := b.isLt; have hp := p.isLt; have hk := k.isLt
    rw [val_main_v111_apply, ← top_heads]
    exact congrArg _ (ix2_of _ _ _
      (Fin.ext (by show ((b.val * 4 + p.val) * 1024 + k.val) / 4096 = b.val; omega))
      (Fin.ext (by show ((b.val * 4 + p.val) * 1024 + k.val) % 4096 = p.val * 1024 + k.val; omega)))
  have hr : S4x4x1024.Reduces [2] S4x4 := by decide
  unfold val_main_v112
  generalize val_main_v111 (F := Ideal) x0 x1 x5 x6 x7 x9 x10 = y at e
  rw [Host.reduce_eq_fold_single FloatOps.maximumf _ _ Gen.reducesTo_S4x4x1024_S4x4_d2 hr Gen.h_S_,
    val_main_cst_17_apply, Ideal.ofBits_def, neg_inf_word]
  exact congrArg (Finset.fold max (⊥ : EReal) · Finset.univ)
    (funext fun (k : Fin 1024) => (congrArg y (lifted_at hr b p k)).trans (e k))

end Cert.ProjRefIdeal.Calc

end
-- ==== Proof.ProjPre.lean ====
/- What the precondition of the projections says of their arguments. -/
module

public import proofs.«01_k».proof.Pre_turned_finite
public import proofs.«01_k».proof.Proof.ProjMath
public import Idealize.ShloMosaic.Lib.Pointwise
public import Idealize.ShloMosaic.PureOps.Ideal.Laws

@[expose] public section

set_option maxRecDepth 16384

noncomputable section

namespace Cert.ProjPre

open Cert.Pre_turned_finite Cert.ProjMath
open Idealize.ShloMosaic

variable [Facts]

theorem pos_inf_word : Ideal.ofBits .f32 0x7F800000#32 = (⊤ : EReal) := by
  simp [Ideal.ofBits, Ideal.ieee]

/-- What is below the top in absolute value is a real. -/
theorem real_of_below (x : EReal) (h : Ideal.cmp .olt (max x (-x)) (⊤ : EReal) = 1#1) : IsReal x := by
  have h' : max x (-x) < ⊤ := (Ideal.cmp_olt_eq_one _ _).mp h
  have h1 : x ≠ ⊤ := fun e => by simp [e] at h'
  have h2 : x ≠ ⊥ := fun e => by simp [e] at h'
  exact ⟨_, (EReal.coe_toReal h1 h2).symm⟩

variable (a0 : FVec Ideal S4x4096x1024 .f32) (a1 : FVec Ideal S1024 .f32) (a2 : FVec Ideal S1024x384 .f32)
  (a3 : FVec Ideal S384 .f32) (a4 : FVec Ideal S384x1536 .f32) (a5 : FVec Ideal S1024x320 .f32) (a6 : FVec Ideal S256 .f32)
  (a7 a8 : FVec Ideal S256x1024 .f32) (a9 a10 : FVec Ideal S4096x32 .f32)

/-- The token norm's gains are reals. -/
theorem pre_real (h : (fn (F := Ideal) a0 a1 a2 a3 a4 a5 a6 a7 a8 a9 a10).1 = fun _ => 1#1) (i : S1024.Idx) :
    IsReal (a1 i) := by
  refine real_of_below _ ?_
  refine Eq.trans ?_ (congrFun h i)
  rw [← pos_inf_word]
  rfl

/-- The query norm's gains are reals. -/
theorem qg_real (h : (fn (F := Ideal) a0 a1 a2 a3 a4 a5 a6 a7 a8 a9 a10).2.1 = fun _ => 1#1) (i : S384.Idx) :
    IsReal (a3 i) := by
  refine real_of_below _ ?_
  refine Eq.trans ?_ (congrFun h i)
  rw [← pos_inf_word]
  rfl

/-- The query weights of the second half of every head's turned lanes are reals. -/
theorem wuq_real (h : (fn (F := Ideal) a0 a1 a2 a3 a4 a5 a6 a7 a8 a9 a10).2.2.1 = fun _ => 1#1) (u : Fin 8) (d : Fin 32)
    (k : Fin 384) : IsReal (a4 (ix2 k ⟨u.val * 192 + (128 + (d.val + 32)), by omega⟩)) := by
  refine real_of_below _ ?_
  refine Eq.trans ?_ (congrFun h (ix3 k u d))
  rw [← pos_inf_word]
  unfold fn
  pointwise []
  have e : (⟨u.val * 192 + (128 + (d.val + 32)), by omega⟩ : Fin 1536) = ⟨u.val * 192 + (160 + d.val), by omega⟩ :=
    Fin.ext (by show _ + _ = _ + _; omega)
  rw [e]
  rfl

/-- The weights of the second half of the key's turned lanes are reals. -/
theorem wdkv_real (h : (fn (F := Ideal) a0 a1 a2 a3 a4 a5 a6 a7 a8 a9 a10).2.2.2 = fun _ => 1#1) (d : Fin 32)
    (k : Fin 1024) : IsReal (a5 (ix2 k ⟨256 + (d.val + 32), by omega⟩)) := by
  refine real_of_below _ ?_
  refine Eq.trans ?_ (congrFun h (ix2 k d))
  rw [← pos_inf_word]
  unfold fn
  pointwise []
  have e : (⟨256 + (d.val + 32), by omega⟩ : Fin 320) = ⟨288 + d.val, by omega⟩ := Fin.ext (by show _ + _ = _ + _; omega)
  rw [e]
  rfl

end Cert.ProjPre

end
-- ==== Proof.ProjClaim.lean ====
/- The attention's projections compute their reference, over the exact reals. -/
module

public import proofs.«01_k».proof.Defs
public import proofs.«01_k».proof.Proof.ProjQueries
public import proofs.«01_k».proof.Proof.ProjKeys
public import proofs.«01_k».proof.Proof.ProjRef
public import proofs.«01_k».proof.Proof.ProjPre
public import proofs.«01_k».proof.Proof.Gen.ProjRefIdeal.Run
public import proofs.«01_k».proof.Proof.Gen.Pre_turned_finite

@[expose] public section

set_option maxRecDepth 16384

noncomputable section

namespace Cert.ProjClaim

open Idealize.ShloMosaic Idealize.ShloMosaic.TcCoe Idealize.SL.Sem
open Cert.ProjIdeal.Calc (queries keys values topNorms)
open Cert.ProjRefIdeal.Calc (ix3_of ix4_of)

section

variable (x0 : Cert.ProjIdeal.S4x4096x1024.Idx → EReal) (x1 : Cert.ProjIdeal.S1024.Idx → EReal)
  (x2 : Cert.ProjIdeal.S1024x384.Idx → EReal) (x3 : Cert.ProjIdeal.S384.Idx → EReal)
  (x4 : Cert.ProjIdeal.S384x1536.Idx → EReal) (x5 : Cert.ProjIdeal.S1024x320.Idx → EReal)
  (x6 : Cert.ProjIdeal.S256.Idx → EReal) (x7 x8 : Cert.ProjIdeal.S256x1024.Idx → EReal)
  (x9 x10 : Cert.ProjIdeal.S4096x32.Idx → EReal)

/-- The reference's packed queries are the call's. -/
theorem queries_eq : Cert.ProjRefIdeal.Read.val_main_v116 (F := Ideal) x0 x1 x2 x3 x4 x9 x10
    = queries x0 x1 x2 x3 x4 x9 x10 := by
  funext x
  obtain ⟨b, l, t, rfl⟩ : ∃ (b : Fin 4) (l : Fin 2048) (t : Fin 4096), x = ix3 b l t :=
    ⟨x 0, x 1, x 2, ix3_of _ _ _ _ rfl rfl rfl⟩
  exact Cert.ProjRefIdeal.Calc.queries_at x0 x1 x2 x3 x4 x9 x10 b l t

/-- The reference's packed keys are the call's. -/
theorem keys_eq : Cert.ProjRefIdeal.Read.val_main_v118 (F := Ideal) x0 x1 x5 x6 x7 x9 x10
    = keys x0 x1 x5 x6 x7 x9 x10 := by
  funext x
  obtain ⟨b, t, l, rfl⟩ : ∃ (b : Fin 4) (t : Fin 4096) (l : Fin 2048), x = ix3 b t l :=
    ⟨x 0, x 1, x 2, ix3_of _ _ _ _ rfl rfl rfl⟩
  exact Cert.ProjRefIdeal.Calc.keys_at x0 x1 x5 x6 x7 x9 x10 b t l

/-- The reference's values are the call's. -/
theorem values_eq : Cert.ProjRefIdeal.Read.val_main_v120 (F := Ideal) x0 x1 x5 x6 x8 = values x0 x1 x5 x6 x8 := by
  funext x
  obtain ⟨b, j, t, rfl⟩ : ∃ (b : Fin 4) (j : Fin 1024) (t : Fin 4096), x = ix3 b j t :=
    ⟨x 0, x 1, x 2, ix3_of _ _ _ _ rfl rfl rfl⟩
  exact Cert.ProjRefIdeal.Calc.values_at x0 x1 x5 x6 x8 b j t

/-- The reference's greatest key norms are the call's. -/
theorem top_eq : Cert.ProjRefIdeal.Read.val_main_v122 (F := Ideal) x0 x1 x5 x6 x7 x9 x10
    = topNorms x0 x1 x5 x6 x7 x9 x10 := by
  funext x
  obtain ⟨b, p, u, v, rfl⟩ : ∃ (b : Fin 4) (p : Fin 4) (u : Fin 8) (v : Fin 128), x = ix4 b p u v :=
    ⟨x 0, x 1, x 2, x 3, ix4_of _ _ _ _ _ rfl rfl rfl rfl⟩
  exact Cert.ProjRefIdeal.Calc.top_at x0 x1 x5 x6 x7 x9 x10 b p u v

end

/-- From memories agreeing on the arguments, the call and the reference end with the same four arrays, and leave their
    arguments as they were. -/
theorem algebraic : algebraic_ProjIdeal_ProjRefIdeal_pre_turned_finite (hProjIdeal := Cert.ProjIdeal.Gen.facts)
    (hProjRefIdeal := Cert.ProjRefIdeal.Gen.facts) (hPre_turned_finite := Cert.Pre_turned_finite.Gen.facts) := by
  intro m g m' g' hpre hagree
  have hF (c : Dev Cert.ProjIdeal.nD) : Cert.ProjIdeal.Calc.Finite m c :=
    ⟨ProjPre.pre_real _ _ _ _ _ _ _ _ _ _ _ (hpre c).1, ProjPre.qg_real _ _ _ _ _ _ _ _ _ _ _ (hpre c).2.1,
      ProjPre.wuq_real _ _ _ _ _ _ _ _ _ _ _ (hpre c).2.2.1, ProjPre.wdkv_real _ _ _ _ _ _ _ _ _ _ _ (hpre c).2.2.2⟩
  refine ⟨fun c => queries
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2))
      (m ((c.tc : Thread Cert.ProjIdeal.nD Cert.ProjIdeal.τ).loc Cert.ProjIdeal.main_arg3))
      (m ((c.tc : Thread Cert.ProjIdeal.nD Cert.ProjIdeal.τ).loc Cert.ProjIdeal.main_arg4))
      (m ((c.tc : Thread Cert.ProjIdeal.nD Cert.ProjIdeal.τ).loc Cert.ProjIdeal.main_arg9))
      (m ((c.tc : Thread Cert.ProjIdeal.nD Cert.ProjIdeal.τ).loc Cert.ProjIdeal.main_arg10)),
    fun c => keys
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg5))
      (m ((c.tc : Thread Cert.ProjIdeal.nD Cert.ProjIdeal.τ).loc Cert.ProjIdeal.main_arg6))
      (m ((c.tc : Thread Cert.ProjIdeal.nD Cert.ProjIdeal.τ).loc Cert.ProjIdeal.main_arg7))
      (m ((c.tc : Thread Cert.ProjIdeal.nD Cert.ProjIdeal.τ).loc Cert.ProjIdeal.main_arg9))
      (m ((c.tc : Thread Cert.ProjIdeal.nD Cert.ProjIdeal.τ).loc Cert.ProjIdeal.main_arg10)),
    fun c => values
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg5))
      (m ((c.tc : Thread Cert.ProjIdeal.nD Cert.ProjIdeal.τ).loc Cert.ProjIdeal.main_arg6))
      (m ((c.tc : Thread Cert.ProjIdeal.nD Cert.ProjIdeal.τ).loc Cert.ProjIdeal.main_arg8)),
    fun c => topNorms
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg5))
      (m ((c.tc : Thread Cert.ProjIdeal.nD Cert.ProjIdeal.τ).loc Cert.ProjIdeal.main_arg6))
      (m ((c.tc : Thread Cert.ProjIdeal.nD Cert.ProjIdeal.τ).loc Cert.ProjIdeal.main_arg7))
      (m ((c.tc : Thread Cert.ProjIdeal.nD Cert.ProjIdeal.τ).loc Cert.ProjIdeal.main_arg9))
      (m ((c.tc : Thread Cert.ProjIdeal.nD Cert.ProjIdeal.τ).loc Cert.ProjIdeal.main_arg10)), ?_, ?_⟩
  · exact (θ_run _ _ _).mono (fun r h c => ⟨(h c).1.trans (Cert.ProjIdeal.Calc.final_queries m c (hF c)),
        (h c).2.1.trans (Cert.ProjIdeal.Calc.final_keys m c (hF c)),
        (h c).2.2.1.trans (Cert.ProjIdeal.Calc.final_values m c (hF c)),
        (h c).2.2.2.1.trans (Cert.ProjIdeal.Calc.final_top m c (hF c)), (h c).2.2.2.2⟩)
      (Cert.ProjIdeal.Value.run_blocks (F := Ideal) m g)
  · refine (θ_run _ _ _).mono (fun r h c => ⟨(h c).1.trans ?_, (h c).2.1.trans ?_, (h c).2.2.1.trans ?_,
      (h c).2.2.2.1.trans ?_, (h c).2.2.2.2⟩) (Cert.ProjRefIdeal.Value.run (F := Ideal) m' g')
    all_goals obtain ⟨a0, a1, a2, a3, a4, a5, a6, a7, a8, a9, a10⟩ := hagree c
    · rw [Cert.ProjRefIdeal.Read.val_main_v116_eq, a0, a1, a2, a3, a4, a9, a10]
      exact queries_eq _ _ _ _ _ _ _
    · rw [Cert.ProjRefIdeal.Read.val_main_v118_eq, a0, a1, a5, a6, a7, a9, a10]
      exact keys_eq _ _ _ _ _ _ _
    · refine (Cert.ProjRefIdeal.Read.val_main_v120_eq (F := Ideal) _ _ _ _ _).trans ?_
      rw [a0, a1, a5, a6, a8]
      exact values_eq _ _ _ _ _
    · rw [Cert.ProjRefIdeal.Read.val_main_v122_eq, a0, a1, a5, a6, a7, a9, a10]
      exact top_eq _ _ _ _ _ _ _

end Cert.ProjClaim

end
-- ==== Proof.lean ====
/- The proof of the certificate: the frames of every program, and the three value claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnAttn
public import proofs.«01_k».proof.Proof.Gen.FfnAttn.Skeleton
public import proofs.«01_k».proof.Proof.Gen.FfnAttn.Launch
public import proofs.«01_k».proof.Proof.Gen.FfnAttn.Points
public import proofs.«01_k».proof.Proof.Gen.FfnAttn.Frame
public import proofs.«01_k».proof.Proof.Gen.FfnAttnIdeal
public import proofs.«01_k».proof.Proof.Gen.FfnAttnIdeal.Skeleton
public import proofs.«01_k».proof.Proof.Gen.FfnAttnIdeal.Launch
public import proofs.«01_k».proof.Proof.Gen.FfnAttnIdeal.Points
public import proofs.«01_k».proof.Proof.Gen.FfnAttnIdeal.Frame
public import proofs.«01_k».proof.Proof.Gen.FfnAttnRefIdeal
public import proofs.«01_k».proof.Proof.Gen.Pre_packed_finite
public import proofs.«01_k».proof.Proof.Gen.ReferenceIdeal.Run
public import proofs.«01_k».proof.Proof.Gen.ReferenceIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnAttnIdeal.Value
public import proofs.«01_k».proof.Proof.Gen.FfnAttnRefIdeal.Run
public import proofs.«01_k».proof.Proof.Gen.FfnAttnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.Pre_turned_finite
public import proofs.«01_k».proof.Proof.AttnFrameB
public import proofs.«01_k».proof.Proof.AttnClaim
public import proofs.«01_k».proof.Proof.FfnClaim
public import proofs.«01_k».proof.Proof.FfnAttnClaim
public import proofs.«01_k».proof.Proof.ProjClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention reference terminates with its arguments unchanged and every counter at zero. -/
theorem frame_attn_ref : quiescent_ReferenceIdeal (hReferenceIdeal := Cert.ReferenceIdeal.Gen.facts) := by
  intro m g _
  exact (θ_run _ _ _).mono (fun r h => ⟨fun c => (h c).2, sem_eq_zero_of_no_sems (by decide) _⟩)
    (Cert.ReferenceIdeal.Value.run (F := Ideal) m g)

/-- The same for the feed-forward reference. -/
theorem frame_ffn_ref : quiescent_FfnRefIdeal (hFfnRefIdeal := Cert.FfnRefIdeal.Gen.facts) := by
  intro m g _
  exact (θ_run _ _ _).mono (fun r h => ⟨fun c => (h c).2, sem_eq_zero_of_no_sems (by decide) _⟩)
    (Cert.FfnRefIdeal.Value.run (F := Ideal) m g)

/-- The same for the joined output projection and feed-forward reference. -/
theorem frame_ffn_attn_ref : quiescent_FfnAttnRefIdeal (hFfnAttnRefIdeal := Cert.FfnAttnRefIdeal.Gen.facts) := by
  intro m g _
  exact (θ_run _ _ _).mono (fun r h => ⟨fun c => (h c).2, sem_eq_zero_of_no_sems (by decide) _⟩)
    (Cert.FfnAttnRefIdeal.Value.run (F := Ideal) m g)

/-- The same for the projections' reference. -/
theorem frame_proj_ref : quiescent_ProjRefIdeal (hProjRefIdeal := Cert.ProjRefIdeal.Gen.facts) := by
  intro m g _
  exact (θ_run _ _ _).mono (fun r h => ⟨fun c => (h c).2.2.2.2, sem_eq_zero_of_no_sems (by decide) _⟩)
    (Cert.ProjRefIdeal.Value.run (F := Ideal) m g)

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.FfnAttn.Gen.facts, Cert.FfnAttnIdeal.Gen.facts, Cert.FfnAttnRefIdeal.Gen.facts, Cert.Proj.Gen.facts, Cert.ProjIdeal.Gen.facts, Cert.ProjRefIdeal.Gen.facts, Cert.Conv.Gen.facts, Cert.ConvIdeal.Gen.facts, Cert.Pre_packed_finite.Gen.facts, Cert.Pre_turned_finite.Gen.facts,
  fun m ρ _ => Cert.Kernel.Attn.frame_q m ρ,
  fun m ρ _ => Cert.KernelIdeal.Attn.frame_q m ρ,
  fun m ρ _ => Cert.KernelIdeal.Attn.frame_q m ρ,
  frame_attn_ref,
  fun m ρ _ => frame_attn_ref m ρ trivial,
  fun m ρ _ => Cert.Ffn.Gen.frame m ρ,
  fun m ρ _ => Cert.FfnIdeal.Gen.frame m ρ,
  frame_ffn_ref,
  fun m ρ _ => Cert.FfnAttn.Gen.frame m ρ,
  fun m ρ _ => Cert.FfnAttnIdeal.Gen.frame m ρ,
  frame_ffn_attn_ref,
  fun m ρ _ => Cert.Proj.Gen.frame m ρ,
  fun m ρ _ => Cert.ProjIdeal.Gen.frame m ρ,
  fun m ρ _ => Cert.ProjIdeal.Gen.frame m ρ,
  frame_proj_ref,
  fun m ρ _ => frame_proj_ref m ρ trivial,
  fun m ρ _ => Cert.Conv.Gen.frame m ρ,
  fun m ρ _ => Cert.ConvIdeal.Gen.frame m ρ,
  trivial,
  Cert.AttnClaim.algebraic,
  trivial,
  Cert.FfnClaim.algebraic,
  trivial,
  Cert.FfnAttnClaim.algebraic,
  trivial,
  Cert.ProjClaim.algebraic,
  trivial⟩

end Cert.Proof

end
